-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_routed_counts : Cert.Pre_routed_counts.Facts] (m : (ℓ : Loc Cert.Kernel2.nD Cert.Kernel2.τ Cert.Kernel2.sig) → Buf (Elt Bits) ℓ) : Prop :=
  ∀ c : Dev Cert.Kernel2.nD,
    (Cert.Pre_routed_counts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_routed_counts : Cert.Pre_routed_counts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed_counts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_routed_counts : Cert.Pre_routed_counts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed_counts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed_counts : Cert.Pre_routed_counts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_routed_counts : Cert.Pre_routed_counts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_routed_counts : Cert.Pre_routed_counts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed_counts : Cert.Pre_routed_counts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v327) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_routed_counts : Cert.Pre_routed_counts.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed_counts := hPre_routed_counts)
    ∧ quiescent_Kernel2Ideal (hKernel2Ideal := hKernel2Ideal) (hPre_routed_counts := hPre_routed_counts)
    ∧ quiescent_Reference2Ideal (hReference2Ideal := hReference2Ideal) (hPre_routed_counts := hPre_routed_counts)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_routed_counts := hPre_routed_counts)
    ∧ preserves_Kernel3_Kernel3Ideal
    ∧ algebraic_Kernel3Ideal_Reference3Ideal (hKernel3Ideal := hKernel3Ideal) (hReference3Ideal := hReference3Ideal)
-- ==== Pre_finite_scores.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x8x32 : S_.BroadcastsInDim S4x8192x8x32 (![] : Fin 0 → Fin S4x8192x8x32.rank)
  reducesTo_S4x8192x8x32_S_d0_1_2_3 : S4x8192x8x32.ReducesTo [0, 1, 2, 3] S_
  bcast_S_S4x8192x32 : S_.BroadcastsInDim S4x8192x32 (![] : Fin 0 → Fin S4x8192x32.rank)
  reducesTo_S4x8192x32_S_d0_1_2 : S4x8192x32.ReducesTo [0, 1, 2] S_

variable [Facts]

def fn_part1 {F : FTy → Type} [FloatOps F] (main_v13 : IVec S_ 1) (main_v16 : IVec S4x8192x32 1) : IVec S_ 1 :=
  let main_c_5 : IVec S_ 1 := constantI S_ 1 1#1
  let main_v17 : IVec S_ 1 := (fun x v => Host.reduce IntOp.andi x v reducesTo_S4x8192x32_S_d0_1_2 h_S_) main_v16 main_c_5
  let main_v18 : IVec S_ 1 := andi main_v13 main_v17
  main_v18

def fn {F : FTy → Type} [FloatOps F] (main_arg0 : FVec F S4x8192x8x64 .f32) (main_arg1 : FVec F S4x8192x8x32 .f32) (main_arg2 : FVec F S4x8192x8x64 .f32) (main_arg3 : FVec F S4x8192x32 .f32) (main_arg4 : FVec F S4x8192x8x64 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x8x32 .f32 := Host.absf main_arg1
  let main_cst_0 : FVec F S_ .f32 := constant S_ .f32 0x7F800000#32
  let main_v5 : FVec F S4x8192x8x32 .f32 := broadcastInDim S4x8192x8x32 ![] bcast_S_S4x8192x8x32 main_cst_0
  let main_v6 : IVec S4x8192x8x32 1 := cmpf .olt main_v4 main_v5
  let main_c_1 : IVec S_ 1 := constantI S_ 1 1#1
  let main_v7 : IVec S_ 1 := (fun x v => Host.reduce IntOp.andi x v reducesTo_S4x8192x8x32_S_d0_1_2_3 h_S_) main_v6 main_c_1
  let main_v8 : IVec S_ 1 := andi main_v3 main_v7
  let main_v9 : FVec F S4x8192x8x64 .f32 := Host.absf main_arg2
  let main_cst_2 : FVec F S_ .f32 := constant S_ .f32 0x7F800000#32
  let main_v10 : FVec F S4x8192x8x64 .f32 := broadcastInDim S4x8192x8x64 ![] bcast_S_S4x8192x8x64 main_cst_2
  let main_v11 : IVec S4x8192x8x64 1 := cmpf .olt main_v9 main_v10
  let main_c_3 : IVec S_ 1 := constantI S_ 1 1#1
  let main_v12 : IVec S_ 1 := (fun x v => Host.reduce IntOp.andi x v reducesTo_S4x8192x8x64_S_d0_1_2_3 h_S_) main_v11 main_c_3
  let main_v13 : IVec S_ 1 := andi main_v8 main_v12
  let main_v14 : FVec F S4x8192x32 .f32 := Host.absf main_arg3
  let main_cst_4 : FVec F S_ .f32 := constant S_ .f32 0x7F800000#32
  let main_v15 : FVec F S4x8192x32 .f32 := broadcastInDim S4x8192x32 ![] bcast_S_S4x8192x32 main_cst_4
  let main_v16 : IVec S4x8192x32 1 := cmpf .olt main_v14 main_v15
  fn_part1 (F := F) main_v13 main_v16
-- ==== Pre_routed_counts.lean ====
abbrev S16 : Shape := ⟨1, ![16]⟩
abbrev S73728x1024 : Shape := ⟨2, ![73728, 1024]⟩
abbrev S16x1024x512 : Shape := ⟨3, ![16, 1024, 512]⟩
abbrev S16x512x1024 : Shape := ⟨3, ![16, 512, 1024]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16 32) (main_arg1 : FVec F S73728x1024 .f32) (main_arg2 : FVec F S16x1024x512 .f32) (main_arg3 : FVec F S16x1024x512 .f32) (main_arg4 : FVec F S16x512x1024 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 65536#32
  let main_v3 : IVec S16 32 := broadcastInDim S16 ![] bcast_S_S16 main_c_1
  let main_v4 : IVec S16 1 := cmpi .sle main_arg0 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S16_S_d0 h_S_) main_arg0 main_c_3
  let main_c_4 : IVec S_ 32 := constantI S_ 32 65536#32
  let main_v8 : IVec S_ 1 := cmpi .eq main_v7 main_c_4
  let main_v9 : IVec S_ 1 := andi main_v6 main_v8
  main_v9
-- ==== Kernel.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩
abbrev S4x8192x8x128 : Shape := ⟨4, ![4, 8192, 8, 128]⟩
abbrev S4x8192x1x32 : Shape := ⟨4, ![4, 8192, 1, 32]⟩
abbrev S4x8x8192x128 : Shape := ⟨4, ![4, 8, 8192, 128]⟩
abbrev S4x32x256x4x128 : Shape := ⟨5, ![4, 32, 256, 4, 128]⟩
abbrev S4x4x32x128x256 : Shape := ⟨5, ![4, 4, 32, 128, 256]⟩
abbrev S32768x512 : Shape := ⟨2, ![32768, 512]⟩
abbrev S1x8x256x128 : Shape := ⟨4, ![1, 8, 256, 128]⟩
abbrev S1x8x8192x128 : Shape := ⟨4, ![1, 8, 8192, 128]⟩
abbrev S1x4x32x128x256 : Shape := ⟨5, ![1, 4, 32, 128, 256]⟩
abbrev S256x512 : Shape := ⟨2, ![256, 512]⟩
abbrev S8x1x256 : Shape := ⟨3, ![8, 1, 256]⟩
abbrev S8x80x256 : Shape := ⟨3, ![8, 80, 256]⟩
abbrev S2x8x256x256 : Shape := ⟨4, ![2, 8, 256, 256]⟩
abbrev S2x8x1x256 : Shape := ⟨4, ![2, 8, 1, 256]⟩
abbrev S1x1x256x128 : Shape := ⟨4, ![1, 1, 256, 128]⟩
abbrev S256x128 : Shape := ⟨2, ![256, 128]⟩
abbrev S256x256 : Shape := ⟨2, ![256, 256]⟩
abbrev S16x256 : Shape := ⟨2, ![16, 256]⟩
abbrev S1x1x256x256 : Shape := ⟨4, ![1, 1, 256, 256]⟩
abbrev S256 : Shape := ⟨1, ![256]⟩
abbrev S1x256 : Shape := ⟨2, ![1, 256]⟩
abbrev S1x1x1x256 : Shape := ⟨4, ![1, 1, 1, 256]⟩
abbrev S1x1x256 : Shape := ⟨3, ![1, 1, 256]⟩
abbrev S1x1x1x64x256 : Shape := ⟨5, ![1, 1, 1, 64, 256]⟩
abbrev S64x256 : Shape := ⟨2, ![64, 256]⟩
abbrev S80x256 : Shape := ⟨2, ![80, 256]⟩
abbrev S1x80x256 : Shape := ⟨3, ![1, 80, 256]⟩
abbrev S1x64x256 : Shape := ⟨3, ![1, 64, 256]⟩
abbrev S128x256 : Shape := ⟨2, ![128, 256]⟩

abbrev nBuf : Space → Nat
  | .hbm => 26
  | .vmem => 10
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S_, .f32⟩
  | .hbm, ⟨6, _⟩ => ⟨S4x8192x8x32, .f32⟩
  | .hbm, ⟨7, _⟩ => ⟨S4x8192x8x128, .f32⟩
  | .hbm, ⟨8, _⟩ => ⟨S_, .f32⟩
  | .hbm, ⟨9, _⟩ => ⟨S4x8192x8x128, .f32⟩
  | .hbm, ⟨10, _⟩ => ⟨S4x8192x8x128, .f32⟩
  | .hbm, ⟨11, _⟩ => ⟨S_, .f32⟩
  | .hbm, ⟨12, _⟩ => ⟨S_, .f32⟩
  | .hbm, ⟨13, _⟩ => ⟨S4x8192x8x128, .f32⟩
  | .hbm, ⟨14, _⟩ => ⟨S4x8192x8x128, .f32⟩
  | .hbm, ⟨15, _⟩ => ⟨S4x8192x1x32, .f32⟩
  | .hbm, ⟨16, _⟩ => ⟨S4x8192x8x32, .f32⟩
  | .hbm, ⟨17, _⟩ => ⟨S4x8192x8x128, .f32⟩
  | .hbm, ⟨18, _⟩ => ⟨S4x8x8192x128, .f32⟩
  | .hbm, ⟨19, _⟩ => ⟨S4x8x8192x128, .bf16⟩
  | .hbm, ⟨20, _⟩ => ⟨S4x8x8192x128, .f32⟩
  | .hbm, ⟨21, _⟩ => ⟨S4x8x8192x128, .bf16⟩
  | .hbm, ⟨22, _⟩ => ⟨S4x32x256x4x128, .f32⟩
  | .hbm, ⟨23, _⟩ => ⟨S4x4x32x128x256, .f32⟩
  | .hbm, ⟨24, _⟩ => ⟨S4x4x32x128x256, .bf16⟩
  | .hbm, ⟨25, _⟩ => ⟨S32768x512, .bf16⟩
  | .local _ .vmem, ⟨0, _⟩ => ⟨S1x8x256x128, .bf16⟩
  | .local _ .vmem, ⟨1, _⟩ => ⟨S1x8x256x128, .bf16⟩
  | .local _ .vmem, ⟨2, _⟩ => ⟨S1x8x8192x128, .bf16⟩
  | .local _ .vmem, ⟨3, _⟩ => ⟨S1x4x32x128x256, .bf16⟩
  | .local _ .vmem, ⟨4, _⟩ => ⟨S256x512, .bf16⟩
  | .local _ .vmem, ⟨5, _⟩ => ⟨S256x512, .bf16⟩
  | .local _ .vmem, ⟨6, _⟩ => ⟨S8x1x256, .f32⟩
  | .local _ .vmem, ⟨7, _⟩ => ⟨S8x80x256, .f32⟩
  | .local _ .vmem, ⟨8, _⟩ => ⟨S2x8x256x256, .f32⟩
  | .local _ .vmem, ⟨9, _⟩ => ⟨S2x8x1x256, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 32], ![false, false]⟩

def k0_mult1 : BitVec 32 :=
  let c0_i32_43 : BitVec 32 := 0#32
  c0_i32_43
@[reducible] def k0_t1_loop (i : grid0.Coords) : Scf.Loop 32 :=
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_157 : BitVec 32 := 1#32
  ⟨c0_i32_155, v194, c1_i32_157⟩
def k0_mult2 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c0_i32_248 : BitVec 32 := 0#32
  let v323 : BitVec 32 := Scalar.addi v322 c0_i32_248
  let c1_i32_249 : BitVec 32 := 1#32
  let v324 : BitVec 32 := Scalar.addi v323 c1_i32_249
  let c256_i32 : BitVec 32 := 256#32
  let v325 : BitVec 32 := Scalar.muli v324 c256_i32
  v325
def k0_off1 (i : grid0.Coords) (k0_t1 : Fin (k0_t1_loop i).trips) (c0_i32_248 : BitVec 32) : Fin 4 → Nat :=
  let c0_250 : Index := 0#32
  let c0_251 : Index := 0#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let c1_i32_249 : BitVec 32 := 1#32
  let v324 : BitVec 32 := Scalar.addi v323 c1_i32_249
  let c256_i32 : BitVec 32 := 256#32
  let v325 : BitVec 32 := Scalar.muli v324 c256_i32
  let v326 : BitVec 32 := v325
  let v327 : Index := Scalar.indexCast v326
  let c0_252 : Index := 0#32
  ![0, 0, v327.toNat, 0]
def k0_off2 (i : grid0.Coords) (k0_t1 : Fin (k0_t1_loop i).trips) (c0_i32_248 : BitVec 32) : Fin 5 → Nat :=
  let c0_277 : Index := 0#32
  let c0_278 : Index := 0#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let v355 : Index := Scalar.indexCast v323
  let c0_279 : Index := 0#32
  let c0_280 : Index := 0#32
  ![0, 0, v355.toNat, 0, 0]
def k0_mult3 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c0_i32_248 : BitVec 32 := 0#32
  let v323 : BitVec 32 := Scalar.addi v322 c0_i32_248
  let c1_i32_288 : BitVec 32 := 1#32
  let v368 : BitVec 32 := Scalar.addi v323 c1_i32_288
  let c256_i32_289 : BitVec 32 := 256#32
  let v369 : BitVec 32 := Scalar.muli v368 c256_i32_289
  v369
def k0_off3 (i : grid0.Coords) (k0_t1 : Fin (k0_t1_loop i).trips) (c0_i32_248 : BitVec 32) : Fin 4 → Nat :=
  let c0_290 : Index := 0#32
  let c1_291 : Index := 1#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let c1_i32_288 : BitVec 32 := 1#32
  let v368 : BitVec 32 := Scalar.addi v323 c1_i32_288
  let c256_i32_289 : BitVec 32 := 256#32
  let v369 : BitVec 32 := Scalar.muli v368 c256_i32_289
  let v370 : BitVec 32 := v369
  let v371 : Index := Scalar.indexCast v370
  let c0_292 : Index := 0#32
  ![0, 1, v371.toNat, 0]
def k0_off4 (i : grid0.Coords) (k0_t1 : Fin (k0_t1_loop i).trips) (c0_i32_248 : BitVec 32) : Fin 5 → Nat :=
  let c0_317 : Index := 0#32
  let c0_318 : Index := 0#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let v399 : Index := Scalar.indexCast v323
  let c64_319 : Index := 64#32
  let c0_320 : Index := 0#32
  ![0, 0, v399.toNat, 64, 0]
def k0_mult4 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c0_i32_248 : BitVec 32 := 0#32
  let v323 : BitVec 32 := Scalar.addi v322 c0_i32_248
  let c1_i32_328 : BitVec 32 := 1#32
  let v412 : BitVec 32 := Scalar.addi v323 c1_i32_328
  let c256_i32_329 : BitVec 32 := 256#32
  let v413 : BitVec 32 := Scalar.muli v412 c256_i32_329
  v413
def k0_off5 (i : grid0.Coords) (k0_t1 : Fin (k0_t1_loop i).trips) (c0_i32_248 : BitVec 32) : Fin 4 → Nat :=
  let c0_330 : Index := 0#32
  let c2_331 : Index := 2#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let c1_i32_328 : BitVec 32 := 1#32
  let v412 : BitVec 32 := Scalar.addi v323 c1_i32_328
  let c256_i32_329 : BitVec 32 := 256#32
  let v413 : BitVec 32 := Scalar.muli v412 c256_i32_329
  let v414 : BitVec 32 := v413
  let v415 : Index := Scalar.indexCast v414
  let c0_332 : Index := 0#32
  ![0, 2, v415.toNat, 0]
def k0_off6 (i : grid0.Coords) (k0_t1 : Fin (k0_t1_loop i).trips) (c0_i32_248 : BitVec 32) : Fin 5 → Nat :=
  let c0_357 : Index := 0#32
  let c1_358 : Index := 1#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let v443 : Index := Scalar.indexCast v323
  let c0_359 : Index := 0#32
  let c0_360 : Index := 0#32
  ![0, 1, v443.toNat, 0, 0]
def k0_mult5 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c0_i32_248 : BitVec 32 := 0#32
  let v323 : BitVec 32 := Scalar.addi v322 c0_i32_248
  let c1_i32_368 : BitVec 32 := 1#32
  let v456 : BitVec 32 := Scalar.addi v323 c1_i32_368
  let c256_i32_369 : BitVec 32 := 256#32
  let v457 : BitVec 32 := Scalar.muli v456 c256_i32_369
  v457
def k0_off7 (i : grid0.Coords) (k0_t1 : Fin (k0_t1_loop i).trips) (c0_i32_248 : BitVec 32) : Fin 4 → Nat :=
  let c0_370 : Index := 0#32
  let c3_371 : Index := 3#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let c1_i32_368 : BitVec 32 := 1#32
  let v456 : BitVec 32 := Scalar.addi v323 c1_i32_368
  let c256_i32_369 : BitVec 32 := 256#32
  let v457 : BitVec 32 := Scalar.muli v456 c256_i32_369
  let v458 : BitVec 32 := v457
  let v459 : Index := Scalar.indexCast v458
  let c0_372 : Index := 0#32
  ![0, 3, v459.toNat, 0]
def k0_off8 (i : grid0.Coords) (k0_t1 : Fin (k0_t1_loop i).trips) (c0_i32_248 : BitVec 32) : Fin 5 → Nat :=
  let c0_397 : Index := 0#32
  let c1_398 : Index := 1#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let v487 : Index := Scalar.indexCast v323
  let c64_399 : Index := 64#32
  let c0_400 : Index := 0#32
  ![0, 1, v487.toNat, 64, 0]
def k0_mult6 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c0_i32_248 : BitVec 32 := 0#32
  let v323 : BitVec 32 := Scalar.addi v322 c0_i32_248
  let c1_i32_408 : BitVec 32 := 1#32
  let v500 : BitVec 32 := Scalar.addi v323 c1_i32_408
  let c256_i32_409 : BitVec 32 := 256#32
  let v501 : BitVec 32 := Scalar.muli v500 c256_i32_409
  v501
def k0_off9 (i : grid0.Coords) (k0_t1 : Fin (k0_t1_loop i).trips) (c0_i32_248 : BitVec 32) : Fin 4 → Nat :=
  let c0_410 : Index := 0#32
  let c4_411 : Index := 4#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let c1_i32_408 : BitVec 32 := 1#32
  let v500 : BitVec 32 := Scalar.addi v323 c1_i32_408
  let c256_i32_409 : BitVec 32 := 256#32
  let v501 : BitVec 32 := Scalar.muli v500 c256_i32_409
  let v502 : BitVec 32 := v501
  let v503 : Index := Scalar.indexCast v502
  let c0_412 : Index := 0#32
  ![0, 4, v503.toNat, 0]
def k0_off10 (i : grid0.Coords) (k0_t1 : Fin (k0_t1_loop i).trips) (c0_i32_248 : BitVec 32) : Fin 5 → Nat :=
  let c0_437 : Index := 0#32
  let c2_438 : Index := 2#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let v531 : Index := Scalar.indexCast v323
  let c0_439 : Index := 0#32
  let c0_440 : Index := 0#32
  ![0, 2, v531.toNat, 0, 0]
def k0_mult7 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c0_i32_248 : BitVec 32 := 0#32
  let v323 : BitVec 32 := Scalar.addi v322 c0_i32_248
  let c1_i32_448 : BitVec 32 := 1#32
  let v544 : BitVec 32 := Scalar.addi v323 c1_i32_448
  let c256_i32_449 : BitVec 32 := 256#32
  let v545 : BitVec 32 := Scalar.muli v544 c256_i32_449
  v545
def k0_off11 (i : grid0.Coords) (k0_t1 : Fin (k0_t1_loop i).trips) (c0_i32_248 : BitVec 32) : Fin 4 → Nat :=
  let c0_450 : Index := 0#32
  let c5_451 : Index := 5#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let c1_i32_448 : BitVec 32 := 1#32
  let v544 : BitVec 32 := Scalar.addi v323 c1_i32_448
  let c256_i32_449 : BitVec 32 := 256#32
  let v545 : BitVec 32 := Scalar.muli v544 c256_i32_449
  let v546 : BitVec 32 := v545
  let v547 : Index := Scalar.indexCast v546
  let c0_452 : Index := 0#32
  ![0, 5, v547.toNat, 0]
def k0_off12 (i : grid0.Coords) (k0_t1 : Fin (k0_t1_loop i).trips) (c0_i32_248 : BitVec 32) : Fin 5 → Nat :=
  let c0_477 : Index := 0#32
  let c2_478 : Index := 2#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let v575 : Index := Scalar.indexCast v323
  let c64_479 : Index := 64#32
  let c0_480 : Index := 0#32
  ![0, 2, v575.toNat, 64, 0]
def k0_mult8 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c0_i32_248 : BitVec 32 := 0#32
  let v323 : BitVec 32 := Scalar.addi v322 c0_i32_248
  let c1_i32_488 : BitVec 32 := 1#32
  let v588 : BitVec 32 := Scalar.addi v323 c1_i32_488
  let c256_i32_489 : BitVec 32 := 256#32
  let v589 : BitVec 32 := Scalar.muli v588 c256_i32_489
  v589
def k0_off13 (i : grid0.Coords) (k0_t1 : Fin (k0_t1_loop i).trips) (c0_i32_248 : BitVec 32) : Fin 4 → Nat :=
  let c0_490 : Index := 0#32
  let c6_491 : Index := 6#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let c1_i32_488 : BitVec 32 := 1#32
  let v588 : BitVec 32 := Scalar.addi v323 c1_i32_488
  let c256_i32_489 : BitVec 32 := 256#32
  let v589 : BitVec 32 := Scalar.muli v588 c256_i32_489
  let v590 : BitVec 32 := v589
  let v591 : Index := Scalar.indexCast v590
  let c0_492 : Index := 0#32
  ![0, 6, v591.toNat, 0]
def k0_off14 (i : grid0.Coords) (k0_t1 : Fin (k0_t1_loop i).trips) (c0_i32_248 : BitVec 32) : Fin 5 → Nat :=
  let c0_517 : Index := 0#32
  let c3_518 : Index := 3#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let v619 : Index := Scalar.indexCast v323
  let c0_519 : Index := 0#32
  let c0_520 : Index := 0#32
  ![0, 3, v619.toNat, 0, 0]
def k0_mult9 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c0_i32_248 : BitVec 32 := 0#32
  let v323 : BitVec 32 := Scalar.addi v322 c0_i32_248
  let c1_i32_528 : BitVec 32 := 1#32
  let v632 : BitVec 32 := Scalar.addi v323 c1_i32_528
  let c256_i32_529 : BitVec 32 := 256#32
  let v633 : BitVec 32 := Scalar.muli v632 c256_i32_529
  v633
def k0_off15 (i : grid0.Coords) (k0_t1 : Fin (k0_t1_loop i).trips) (c0_i32_248 : BitVec 32) : Fin 4 → Nat :=
  let c0_530 : Index := 0#32
  let c7_531 : Index := 7#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let c1_i32_528 : BitVec 32 := 1#32
  let v632 : BitVec 32 := Scalar.addi v323 c1_i32_528
  let c256_i32_529 : BitVec 32 := 256#32
  let v633 : BitVec 32 := Scalar.muli v632 c256_i32_529
  let v634 : BitVec 32 := v633
  let v635 : Index := Scalar.indexCast v634
  let c0_532 : Index := 0#32
  ![0, 7, v635.toNat, 0]
def k0_off16 (i : grid0.Coords) (k0_t1 : Fin (k0_t1_loop i).trips) (c0_i32_248 : BitVec 32) : Fin 5 → Nat :=
  let c0_557 : Index := 0#32
  let c3_558 : Index := 3#32
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let v323 : BitVec 32 := Scalar.addi v322 c0_i32_248
  let v663 : Index := Scalar.indexCast v323
  let c64_559 : Index := 64#32
  let c0_560 : Index := 0#32
  ![0, 3, v663.toNat, 64, 0]
def k0_mult10 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c1_i32_568 : BitVec 32 := 1#32
  let v676 : BitVec 32 := Scalar.addi v322 c1_i32_568
  let c1_i32_569 : BitVec 32 := 1#32
  let v677 : BitVec 32 := Scalar.addi v676 c1_i32_569
  let c256_i32_570 : BitVec 32 := 256#32
  let v678 : BitVec 32 := Scalar.muli v677 c256_i32_570
  v678
def k0_mult11 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c1_i32_568 : BitVec 32 := 1#32
  let v676 : BitVec 32 := Scalar.addi v322 c1_i32_568
  let c1_i32_609 : BitVec 32 := 1#32
  let v721 : BitVec 32 := Scalar.addi v676 c1_i32_609
  let c256_i32_610 : BitVec 32 := 256#32
  let v722 : BitVec 32 := Scalar.muli v721 c256_i32_610
  v722
def k0_mult12 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c1_i32_568 : BitVec 32 := 1#32
  let v676 : BitVec 32 := Scalar.addi v322 c1_i32_568
  let c1_i32_649 : BitVec 32 := 1#32
  let v765 : BitVec 32 := Scalar.addi v676 c1_i32_649
  let c256_i32_650 : BitVec 32 := 256#32
  let v766 : BitVec 32 := Scalar.muli v765 c256_i32_650
  v766
def k0_mult13 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c1_i32_568 : BitVec 32 := 1#32
  let v676 : BitVec 32 := Scalar.addi v322 c1_i32_568
  let c1_i32_689 : BitVec 32 := 1#32
  let v809 : BitVec 32 := Scalar.addi v676 c1_i32_689
  let c256_i32_690 : BitVec 32 := 256#32
  let v810 : BitVec 32 := Scalar.muli v809 c256_i32_690
  v810
def k0_mult14 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c1_i32_568 : BitVec 32 := 1#32
  let v676 : BitVec 32 := Scalar.addi v322 c1_i32_568
  let c1_i32_729 : BitVec 32 := 1#32
  let v853 : BitVec 32 := Scalar.addi v676 c1_i32_729
  let c256_i32_730 : BitVec 32 := 256#32
  let v854 : BitVec 32 := Scalar.muli v853 c256_i32_730
  v854
def k0_mult15 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c1_i32_568 : BitVec 32 := 1#32
  let v676 : BitVec 32 := Scalar.addi v322 c1_i32_568
  let c1_i32_769 : BitVec 32 := 1#32
  let v897 : BitVec 32 := Scalar.addi v676 c1_i32_769
  let c256_i32_770 : BitVec 32 := 256#32
  let v898 : BitVec 32 := Scalar.muli v897 c256_i32_770
  v898
def k0_mult16 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c1_i32_568 : BitVec 32 := 1#32
  let v676 : BitVec 32 := Scalar.addi v322 c1_i32_568
  let c1_i32_809 : BitVec 32 := 1#32
  let v941 : BitVec 32 := Scalar.addi v676 c1_i32_809
  let c256_i32_810 : BitVec 32 := 256#32
  let v942 : BitVec 32 := Scalar.muli v941 c256_i32_810
  v942
def k0_mult17 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c1_i32_568 : BitVec 32 := 1#32
  let v676 : BitVec 32 := Scalar.addi v322 c1_i32_568
  let c1_i32_849 : BitVec 32 := 1#32
  let v985 : BitVec 32 := Scalar.addi v676 c1_i32_849
  let c256_i32_850 : BitVec 32 := 256#32
  let v986 : BitVec 32 := Scalar.muli v985 c256_i32_850
  v986
def k0_mult18 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c2_i32_889 : BitVec 32 := 2#32
  let v1029 : BitVec 32 := Scalar.addi v322 c2_i32_889
  let c1_i32_890 : BitVec 32 := 1#32
  let v1030 : BitVec 32 := Scalar.addi v1029 c1_i32_890
  let c256_i32_891 : BitVec 32 := 256#32
  let v1031 : BitVec 32 := Scalar.muli v1030 c256_i32_891
  v1031
def k0_mult19 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c2_i32_889 : BitVec 32 := 2#32
  let v1029 : BitVec 32 := Scalar.addi v322 c2_i32_889
  let c1_i32_930 : BitVec 32 := 1#32
  let v1074 : BitVec 32 := Scalar.addi v1029 c1_i32_930
  let c256_i32_931 : BitVec 32 := 256#32
  let v1075 : BitVec 32 := Scalar.muli v1074 c256_i32_931
  v1075
def k0_mult20 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c2_i32_889 : BitVec 32 := 2#32
  let v1029 : BitVec 32 := Scalar.addi v322 c2_i32_889
  let c1_i32_970 : BitVec 32 := 1#32
  let v1118 : BitVec 32 := Scalar.addi v1029 c1_i32_970
  let c256_i32_971 : BitVec 32 := 256#32
  let v1119 : BitVec 32 := Scalar.muli v1118 c256_i32_971
  v1119
def k0_mult21 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c2_i32_889 : BitVec 32 := 2#32
  let v1029 : BitVec 32 := Scalar.addi v322 c2_i32_889
  let c1_i32_1010 : BitVec 32 := 1#32
  let v1162 : BitVec 32 := Scalar.addi v1029 c1_i32_1010
  let c256_i32_1011 : BitVec 32 := 256#32
  let v1163 : BitVec 32 := Scalar.muli v1162 c256_i32_1011
  v1163
def k0_mult22 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c2_i32_889 : BitVec 32 := 2#32
  let v1029 : BitVec 32 := Scalar.addi v322 c2_i32_889
  let c1_i32_1050 : BitVec 32 := 1#32
  let v1206 : BitVec 32 := Scalar.addi v1029 c1_i32_1050
  let c256_i32_1051 : BitVec 32 := 256#32
  let v1207 : BitVec 32 := Scalar.muli v1206 c256_i32_1051
  v1207
def k0_mult23 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c2_i32_889 : BitVec 32 := 2#32
  let v1029 : BitVec 32 := Scalar.addi v322 c2_i32_889
  let c1_i32_1090 : BitVec 32 := 1#32
  let v1250 : BitVec 32 := Scalar.addi v1029 c1_i32_1090
  let c256_i32_1091 : BitVec 32 := 256#32
  let v1251 : BitVec 32 := Scalar.muli v1250 c256_i32_1091
  v1251
def k0_mult24 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c2_i32_889 : BitVec 32 := 2#32
  let v1029 : BitVec 32 := Scalar.addi v322 c2_i32_889
  let c1_i32_1130 : BitVec 32 := 1#32
  let v1294 : BitVec 32 := Scalar.addi v1029 c1_i32_1130
  let c256_i32_1131 : BitVec 32 := 256#32
  let v1295 : BitVec 32 := Scalar.muli v1294 c256_i32_1131
  v1295
def k0_mult25 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c2_i32_889 : BitVec 32 := 2#32
  let v1029 : BitVec 32 := Scalar.addi v322 c2_i32_889
  let c1_i32_1170 : BitVec 32 := 1#32
  let v1338 : BitVec 32 := Scalar.addi v1029 c1_i32_1170
  let c256_i32_1171 : BitVec 32 := 256#32
  let v1339 : BitVec 32 := Scalar.muli v1338 c256_i32_1171
  v1339
def k0_mult26 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c3_i32_1210 : BitVec 32 := 3#32
  let v1382 : BitVec 32 := Scalar.addi v322 c3_i32_1210
  let c1_i32_1211 : BitVec 32 := 1#32
  let v1383 : BitVec 32 := Scalar.addi v1382 c1_i32_1211
  let c256_i32_1212 : BitVec 32 := 256#32
  let v1384 : BitVec 32 := Scalar.muli v1383 c256_i32_1212
  v1384
def k0_mult27 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c3_i32_1210 : BitVec 32 := 3#32
  let v1382 : BitVec 32 := Scalar.addi v322 c3_i32_1210
  let c1_i32_1251 : BitVec 32 := 1#32
  let v1427 : BitVec 32 := Scalar.addi v1382 c1_i32_1251
  let c256_i32_1252 : BitVec 32 := 256#32
  let v1428 : BitVec 32 := Scalar.muli v1427 c256_i32_1252
  v1428
def k0_mult28 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c3_i32_1210 : BitVec 32 := 3#32
  let v1382 : BitVec 32 := Scalar.addi v322 c3_i32_1210
  let c1_i32_1291 : BitVec 32 := 1#32
  let v1471 : BitVec 32 := Scalar.addi v1382 c1_i32_1291
  let c256_i32_1292 : BitVec 32 := 256#32
  let v1472 : BitVec 32 := Scalar.muli v1471 c256_i32_1292
  v1472
def k0_mult29 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c3_i32_1210 : BitVec 32 := 3#32
  let v1382 : BitVec 32 := Scalar.addi v322 c3_i32_1210
  let c1_i32_1331 : BitVec 32 := 1#32
  let v1515 : BitVec 32 := Scalar.addi v1382 c1_i32_1331
  let c256_i32_1332 : BitVec 32 := 256#32
  let v1516 : BitVec 32 := Scalar.muli v1515 c256_i32_1332
  v1516
def k0_mult30 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c3_i32_1210 : BitVec 32 := 3#32
  let v1382 : BitVec 32 := Scalar.addi v322 c3_i32_1210
  let c1_i32_1371 : BitVec 32 := 1#32
  let v1559 : BitVec 32 := Scalar.addi v1382 c1_i32_1371
  let c256_i32_1372 : BitVec 32 := 256#32
  let v1560 : BitVec 32 := Scalar.muli v1559 c256_i32_1372
  v1560
def k0_mult31 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c3_i32_1210 : BitVec 32 := 3#32
  let v1382 : BitVec 32 := Scalar.addi v322 c3_i32_1210
  let c1_i32_1411 : BitVec 32 := 1#32
  let v1603 : BitVec 32 := Scalar.addi v1382 c1_i32_1411
  let c256_i32_1412 : BitVec 32 := 256#32
  let v1604 : BitVec 32 := Scalar.muli v1603 c256_i32_1412
  v1604
def k0_mult32 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c3_i32_1210 : BitVec 32 := 3#32
  let v1382 : BitVec 32 := Scalar.addi v322 c3_i32_1210
  let c1_i32_1451 : BitVec 32 := 1#32
  let v1647 : BitVec 32 := Scalar.addi v1382 c1_i32_1451
  let c256_i32_1452 : BitVec 32 := 256#32
  let v1648 : BitVec 32 := Scalar.muli v1647 c256_i32_1452
  v1648
def k0_mult33 (i : grid0.Coords) (k0_t1 : Fin (k0_t1_loop i).trips) : BitVec 32 :=
  let c4_i32_247 : BitVec 32 := 4#32
  let c0_i32_155 : BitVec 32 := 0#32
  let c1_i32_157 : BitVec 32 := 1#32
  let arg10 : BitVec 32 := Scf.iv c0_i32_155 c1_i32_157 k0_t1
  let v322 : BitVec 32 := Scalar.muli c4_i32_247 arg10
  let c3_i32_1210 : BitVec 32 := 3#32
  let v1382 : BitVec 32 := Scalar.addi v322 c3_i32_1210
  let c1_i32_1491 : BitVec 32 := 1#32
  let v1691 : BitVec 32 := Scalar.addi v1382 c1_i32_1491
  let c256_i32_1492 : BitVec 32 := 256#32
  let v1692 : BitVec 32 := Scalar.muli v1691 c256_i32_1492
  v1692
@[reducible] def k0_t2_loop (i : grid0.Coords) : Scf.Loop 32 :=
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let v191 : BitVec 32 := Scalar.addi c0_i32_155 v190
  let c1_i32_158 : BitVec 32 := 1#32
  ⟨v194, v191, c1_i32_158⟩
def k0_mult34 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c0_i32_248 : BitVec 32 := 0#32
  let v323 : BitVec 32 := Scalar.addi v322 c0_i32_248
  let c1_i32_249 : BitVec 32 := 1#32
  let v324 : BitVec 32 := Scalar.addi v323 c1_i32_249
  let c256_i32 : BitVec 32 := 256#32
  let v325 : BitVec 32 := Scalar.muli v324 c256_i32
  v325
def k0_off17 (i : grid0.Coords) (k0_t2 : Fin (k0_t2_loop i).trips) (c0_i32_248 : BitVec 32) : Fin 4 → Nat :=
  let c0_250 : Index := 0#32
  let c0_251 : Index := 0#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let c1_i32_249 : BitVec 32 := 1#32
  let v324 : BitVec 32 := Scalar.addi v323 c1_i32_249
  let c256_i32 : BitVec 32 := 256#32
  let v325 : BitVec 32 := Scalar.muli v324 c256_i32
  let v326 : BitVec 32 := v325
  let v327 : Index := Scalar.indexCast v326
  let c0_252 : Index := 0#32
  ![0, 0, v327.toNat, 0]
def k0_off18 (i : grid0.Coords) (k0_t2 : Fin (k0_t2_loop i).trips) (c0_i32_248 : BitVec 32) : Fin 5 → Nat :=
  let c0_277 : Index := 0#32
  let c0_278 : Index := 0#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let v355 : Index := Scalar.indexCast v323
  let c0_279 : Index := 0#32
  let c0_280 : Index := 0#32
  ![0, 0, v355.toNat, 0, 0]
def k0_mult35 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c0_i32_248 : BitVec 32 := 0#32
  let v323 : BitVec 32 := Scalar.addi v322 c0_i32_248
  let c1_i32_288 : BitVec 32 := 1#32
  let v368 : BitVec 32 := Scalar.addi v323 c1_i32_288
  let c256_i32_289 : BitVec 32 := 256#32
  let v369 : BitVec 32 := Scalar.muli v368 c256_i32_289
  v369
def k0_off19 (i : grid0.Coords) (k0_t2 : Fin (k0_t2_loop i).trips) (c0_i32_248 : BitVec 32) : Fin 4 → Nat :=
  let c0_290 : Index := 0#32
  let c1_291 : Index := 1#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let c1_i32_288 : BitVec 32 := 1#32
  let v368 : BitVec 32 := Scalar.addi v323 c1_i32_288
  let c256_i32_289 : BitVec 32 := 256#32
  let v369 : BitVec 32 := Scalar.muli v368 c256_i32_289
  let v370 : BitVec 32 := v369
  let v371 : Index := Scalar.indexCast v370
  let c0_292 : Index := 0#32
  ![0, 1, v371.toNat, 0]
def k0_off20 (i : grid0.Coords) (k0_t2 : Fin (k0_t2_loop i).trips) (c0_i32_248 : BitVec 32) : Fin 5 → Nat :=
  let c0_317 : Index := 0#32
  let c0_318 : Index := 0#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let v399 : Index := Scalar.indexCast v323
  let c64_319 : Index := 64#32
  let c0_320 : Index := 0#32
  ![0, 0, v399.toNat, 64, 0]
def k0_mult36 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c0_i32_248 : BitVec 32 := 0#32
  let v323 : BitVec 32 := Scalar.addi v322 c0_i32_248
  let c1_i32_328 : BitVec 32 := 1#32
  let v412 : BitVec 32 := Scalar.addi v323 c1_i32_328
  let c256_i32_329 : BitVec 32 := 256#32
  let v413 : BitVec 32 := Scalar.muli v412 c256_i32_329
  v413
def k0_off21 (i : grid0.Coords) (k0_t2 : Fin (k0_t2_loop i).trips) (c0_i32_248 : BitVec 32) : Fin 4 → Nat :=
  let c0_330 : Index := 0#32
  let c2_331 : Index := 2#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let c1_i32_328 : BitVec 32 := 1#32
  let v412 : BitVec 32 := Scalar.addi v323 c1_i32_328
  let c256_i32_329 : BitVec 32 := 256#32
  let v413 : BitVec 32 := Scalar.muli v412 c256_i32_329
  let v414 : BitVec 32 := v413
  let v415 : Index := Scalar.indexCast v414
  let c0_332 : Index := 0#32
  ![0, 2, v415.toNat, 0]
def k0_off22 (i : grid0.Coords) (k0_t2 : Fin (k0_t2_loop i).trips) (c0_i32_248 : BitVec 32) : Fin 5 → Nat :=
  let c0_357 : Index := 0#32
  let c1_358 : Index := 1#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let v443 : Index := Scalar.indexCast v323
  let c0_359 : Index := 0#32
  let c0_360 : Index := 0#32
  ![0, 1, v443.toNat, 0, 0]
def k0_mult37 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c0_i32_248 : BitVec 32 := 0#32
  let v323 : BitVec 32 := Scalar.addi v322 c0_i32_248
  let c1_i32_368 : BitVec 32 := 1#32
  let v456 : BitVec 32 := Scalar.addi v323 c1_i32_368
  let c256_i32_369 : BitVec 32 := 256#32
  let v457 : BitVec 32 := Scalar.muli v456 c256_i32_369
  v457
def k0_off23 (i : grid0.Coords) (k0_t2 : Fin (k0_t2_loop i).trips) (c0_i32_248 : BitVec 32) : Fin 4 → Nat :=
  let c0_370 : Index := 0#32
  let c3_371 : Index := 3#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let c1_i32_368 : BitVec 32 := 1#32
  let v456 : BitVec 32 := Scalar.addi v323 c1_i32_368
  let c256_i32_369 : BitVec 32 := 256#32
  let v457 : BitVec 32 := Scalar.muli v456 c256_i32_369
  let v458 : BitVec 32 := v457
  let v459 : Index := Scalar.indexCast v458
  let c0_372 : Index := 0#32
  ![0, 3, v459.toNat, 0]
def k0_off24 (i : grid0.Coords) (k0_t2 : Fin (k0_t2_loop i).trips) (c0_i32_248 : BitVec 32) : Fin 5 → Nat :=
  let c0_397 : Index := 0#32
  let c1_398 : Index := 1#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let v487 : Index := Scalar.indexCast v323
  let c64_399 : Index := 64#32
  let c0_400 : Index := 0#32
  ![0, 1, v487.toNat, 64, 0]
def k0_mult38 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c0_i32_248 : BitVec 32 := 0#32
  let v323 : BitVec 32 := Scalar.addi v322 c0_i32_248
  let c1_i32_408 : BitVec 32 := 1#32
  let v500 : BitVec 32 := Scalar.addi v323 c1_i32_408
  let c256_i32_409 : BitVec 32 := 256#32
  let v501 : BitVec 32 := Scalar.muli v500 c256_i32_409
  v501
def k0_off25 (i : grid0.Coords) (k0_t2 : Fin (k0_t2_loop i).trips) (c0_i32_248 : BitVec 32) : Fin 4 → Nat :=
  let c0_410 : Index := 0#32
  let c4_411 : Index := 4#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let c1_i32_408 : BitVec 32 := 1#32
  let v500 : BitVec 32 := Scalar.addi v323 c1_i32_408
  let c256_i32_409 : BitVec 32 := 256#32
  let v501 : BitVec 32 := Scalar.muli v500 c256_i32_409
  let v502 : BitVec 32 := v501
  let v503 : Index := Scalar.indexCast v502
  let c0_412 : Index := 0#32
  ![0, 4, v503.toNat, 0]
def k0_off26 (i : grid0.Coords) (k0_t2 : Fin (k0_t2_loop i).trips) (c0_i32_248 : BitVec 32) : Fin 5 → Nat :=
  let c0_437 : Index := 0#32
  let c2_438 : Index := 2#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let v531 : Index := Scalar.indexCast v323
  let c0_439 : Index := 0#32
  let c0_440 : Index := 0#32
  ![0, 2, v531.toNat, 0, 0]
def k0_mult39 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c0_i32_248 : BitVec 32 := 0#32
  let v323 : BitVec 32 := Scalar.addi v322 c0_i32_248
  let c1_i32_448 : BitVec 32 := 1#32
  let v544 : BitVec 32 := Scalar.addi v323 c1_i32_448
  let c256_i32_449 : BitVec 32 := 256#32
  let v545 : BitVec 32 := Scalar.muli v544 c256_i32_449
  v545
def k0_off27 (i : grid0.Coords) (k0_t2 : Fin (k0_t2_loop i).trips) (c0_i32_248 : BitVec 32) : Fin 4 → Nat :=
  let c0_450 : Index := 0#32
  let c5_451 : Index := 5#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let c1_i32_448 : BitVec 32 := 1#32
  let v544 : BitVec 32 := Scalar.addi v323 c1_i32_448
  let c256_i32_449 : BitVec 32 := 256#32
  let v545 : BitVec 32 := Scalar.muli v544 c256_i32_449
  let v546 : BitVec 32 := v545
  let v547 : Index := Scalar.indexCast v546
  let c0_452 : Index := 0#32
  ![0, 5, v547.toNat, 0]
def k0_off28 (i : grid0.Coords) (k0_t2 : Fin (k0_t2_loop i).trips) (c0_i32_248 : BitVec 32) : Fin 5 → Nat :=
  let c0_477 : Index := 0#32
  let c2_478 : Index := 2#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let v575 : Index := Scalar.indexCast v323
  let c64_479 : Index := 64#32
  let c0_480 : Index := 0#32
  ![0, 2, v575.toNat, 64, 0]
def k0_mult40 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c0_i32_248 : BitVec 32 := 0#32
  let v323 : BitVec 32 := Scalar.addi v322 c0_i32_248
  let c1_i32_488 : BitVec 32 := 1#32
  let v588 : BitVec 32 := Scalar.addi v323 c1_i32_488
  let c256_i32_489 : BitVec 32 := 256#32
  let v589 : BitVec 32 := Scalar.muli v588 c256_i32_489
  v589
def k0_off29 (i : grid0.Coords) (k0_t2 : Fin (k0_t2_loop i).trips) (c0_i32_248 : BitVec 32) : Fin 4 → Nat :=
  let c0_490 : Index := 0#32
  let c6_491 : Index := 6#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let c1_i32_488 : BitVec 32 := 1#32
  let v588 : BitVec 32 := Scalar.addi v323 c1_i32_488
  let c256_i32_489 : BitVec 32 := 256#32
  let v589 : BitVec 32 := Scalar.muli v588 c256_i32_489
  let v590 : BitVec 32 := v589
  let v591 : Index := Scalar.indexCast v590
  let c0_492 : Index := 0#32
  ![0, 6, v591.toNat, 0]
def k0_off30 (i : grid0.Coords) (k0_t2 : Fin (k0_t2_loop i).trips) (c0_i32_248 : BitVec 32) : Fin 5 → Nat :=
  let c0_517 : Index := 0#32
  let c3_518 : Index := 3#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let v619 : Index := Scalar.indexCast v323
  let c0_519 : Index := 0#32
  let c0_520 : Index := 0#32
  ![0, 3, v619.toNat, 0, 0]
def k0_mult41 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c0_i32_248 : BitVec 32 := 0#32
  let v323 : BitVec 32 := Scalar.addi v322 c0_i32_248
  let c1_i32_528 : BitVec 32 := 1#32
  let v632 : BitVec 32 := Scalar.addi v323 c1_i32_528
  let c256_i32_529 : BitVec 32 := 256#32
  let v633 : BitVec 32 := Scalar.muli v632 c256_i32_529
  v633
def k0_off31 (i : grid0.Coords) (k0_t2 : Fin (k0_t2_loop i).trips) (c0_i32_248 : BitVec 32) : Fin 4 → Nat :=
  let c0_530 : Index := 0#32
  let c7_531 : Index := 7#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let c1_i32_528 : BitVec 32 := 1#32
  let v632 : BitVec 32 := Scalar.addi v323 c1_i32_528
  let c256_i32_529 : BitVec 32 := 256#32
  let v633 : BitVec 32 := Scalar.muli v632 c256_i32_529
  let v634 : BitVec 32 := v633
  let v635 : Index := Scalar.indexCast v634
  let c0_532 : Index := 0#32
  ![0, 7, v635.toNat, 0]
def k0_off32 (i : grid0.Coords) (k0_t2 : Fin (k0_t2_loop i).trips) (c0_i32_248 : BitVec 32) : Fin 5 → Nat :=
  let c0_557 : Index := 0#32
  let c3_558 : Index := 3#32
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let v323 : BitVec 32 := Scalar.addi v322 c0_i32_248
  let v663 : Index := Scalar.indexCast v323
  let c64_559 : Index := 64#32
  let c0_560 : Index := 0#32
  ![0, 3, v663.toNat, 64, 0]
def k0_mult42 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c1_i32_568 : BitVec 32 := 1#32
  let v676 : BitVec 32 := Scalar.addi v322 c1_i32_568
  let c1_i32_569 : BitVec 32 := 1#32
  let v677 : BitVec 32 := Scalar.addi v676 c1_i32_569
  let c256_i32_570 : BitVec 32 := 256#32
  let v678 : BitVec 32 := Scalar.muli v677 c256_i32_570
  v678
def k0_mult43 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c1_i32_568 : BitVec 32 := 1#32
  let v676 : BitVec 32 := Scalar.addi v322 c1_i32_568
  let c1_i32_609 : BitVec 32 := 1#32
  let v721 : BitVec 32 := Scalar.addi v676 c1_i32_609
  let c256_i32_610 : BitVec 32 := 256#32
  let v722 : BitVec 32 := Scalar.muli v721 c256_i32_610
  v722
def k0_mult44 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c1_i32_568 : BitVec 32 := 1#32
  let v676 : BitVec 32 := Scalar.addi v322 c1_i32_568
  let c1_i32_649 : BitVec 32 := 1#32
  let v765 : BitVec 32 := Scalar.addi v676 c1_i32_649
  let c256_i32_650 : BitVec 32 := 256#32
  let v766 : BitVec 32 := Scalar.muli v765 c256_i32_650
  v766
def k0_mult45 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c1_i32_568 : BitVec 32 := 1#32
  let v676 : BitVec 32 := Scalar.addi v322 c1_i32_568
  let c1_i32_689 : BitVec 32 := 1#32
  let v809 : BitVec 32 := Scalar.addi v676 c1_i32_689
  let c256_i32_690 : BitVec 32 := 256#32
  let v810 : BitVec 32 := Scalar.muli v809 c256_i32_690
  v810
def k0_mult46 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c1_i32_568 : BitVec 32 := 1#32
  let v676 : BitVec 32 := Scalar.addi v322 c1_i32_568
  let c1_i32_729 : BitVec 32 := 1#32
  let v853 : BitVec 32 := Scalar.addi v676 c1_i32_729
  let c256_i32_730 : BitVec 32 := 256#32
  let v854 : BitVec 32 := Scalar.muli v853 c256_i32_730
  v854
def k0_mult47 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c1_i32_568 : BitVec 32 := 1#32
  let v676 : BitVec 32 := Scalar.addi v322 c1_i32_568
  let c1_i32_769 : BitVec 32 := 1#32
  let v897 : BitVec 32 := Scalar.addi v676 c1_i32_769
  let c256_i32_770 : BitVec 32 := 256#32
  let v898 : BitVec 32 := Scalar.muli v897 c256_i32_770
  v898
def k0_mult48 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c1_i32_568 : BitVec 32 := 1#32
  let v676 : BitVec 32 := Scalar.addi v322 c1_i32_568
  let c1_i32_809 : BitVec 32 := 1#32
  let v941 : BitVec 32 := Scalar.addi v676 c1_i32_809
  let c256_i32_810 : BitVec 32 := 256#32
  let v942 : BitVec 32 := Scalar.muli v941 c256_i32_810
  v942
def k0_mult49 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c1_i32_568 : BitVec 32 := 1#32
  let v676 : BitVec 32 := Scalar.addi v322 c1_i32_568
  let c1_i32_849 : BitVec 32 := 1#32
  let v985 : BitVec 32 := Scalar.addi v676 c1_i32_849
  let c256_i32_850 : BitVec 32 := 256#32
  let v986 : BitVec 32 := Scalar.muli v985 c256_i32_850
  v986
def k0_mult50 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c2_i32_889 : BitVec 32 := 2#32
  let v1029 : BitVec 32 := Scalar.addi v322 c2_i32_889
  let c1_i32_890 : BitVec 32 := 1#32
  let v1030 : BitVec 32 := Scalar.addi v1029 c1_i32_890
  let c256_i32_891 : BitVec 32 := 256#32
  let v1031 : BitVec 32 := Scalar.muli v1030 c256_i32_891
  v1031
def k0_mult51 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c2_i32_889 : BitVec 32 := 2#32
  let v1029 : BitVec 32 := Scalar.addi v322 c2_i32_889
  let c1_i32_930 : BitVec 32 := 1#32
  let v1074 : BitVec 32 := Scalar.addi v1029 c1_i32_930
  let c256_i32_931 : BitVec 32 := 256#32
  let v1075 : BitVec 32 := Scalar.muli v1074 c256_i32_931
  v1075
def k0_mult52 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c2_i32_889 : BitVec 32 := 2#32
  let v1029 : BitVec 32 := Scalar.addi v322 c2_i32_889
  let c1_i32_970 : BitVec 32 := 1#32
  let v1118 : BitVec 32 := Scalar.addi v1029 c1_i32_970
  let c256_i32_971 : BitVec 32 := 256#32
  let v1119 : BitVec 32 := Scalar.muli v1118 c256_i32_971
  v1119
def k0_mult53 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c2_i32_889 : BitVec 32 := 2#32
  let v1029 : BitVec 32 := Scalar.addi v322 c2_i32_889
  let c1_i32_1010 : BitVec 32 := 1#32
  let v1162 : BitVec 32 := Scalar.addi v1029 c1_i32_1010
  let c256_i32_1011 : BitVec 32 := 256#32
  let v1163 : BitVec 32 := Scalar.muli v1162 c256_i32_1011
  v1163
def k0_mult54 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c2_i32_889 : BitVec 32 := 2#32
  let v1029 : BitVec 32 := Scalar.addi v322 c2_i32_889
  let c1_i32_1050 : BitVec 32 := 1#32
  let v1206 : BitVec 32 := Scalar.addi v1029 c1_i32_1050
  let c256_i32_1051 : BitVec 32 := 256#32
  let v1207 : BitVec 32 := Scalar.muli v1206 c256_i32_1051
  v1207
def k0_mult55 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c2_i32_889 : BitVec 32 := 2#32
  let v1029 : BitVec 32 := Scalar.addi v322 c2_i32_889
  let c1_i32_1090 : BitVec 32 := 1#32
  let v1250 : BitVec 32 := Scalar.addi v1029 c1_i32_1090
  let c256_i32_1091 : BitVec 32 := 256#32
  let v1251 : BitVec 32 := Scalar.muli v1250 c256_i32_1091
  v1251
def k0_mult56 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c2_i32_889 : BitVec 32 := 2#32
  let v1029 : BitVec 32 := Scalar.addi v322 c2_i32_889
  let c1_i32_1130 : BitVec 32 := 1#32
  let v1294 : BitVec 32 := Scalar.addi v1029 c1_i32_1130
  let c256_i32_1131 : BitVec 32 := 256#32
  let v1295 : BitVec 32 := Scalar.muli v1294 c256_i32_1131
  v1295
def k0_mult57 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c2_i32_889 : BitVec 32 := 2#32
  let v1029 : BitVec 32 := Scalar.addi v322 c2_i32_889
  let c1_i32_1170 : BitVec 32 := 1#32
  let v1338 : BitVec 32 := Scalar.addi v1029 c1_i32_1170
  let c256_i32_1171 : BitVec 32 := 256#32
  let v1339 : BitVec 32 := Scalar.muli v1338 c256_i32_1171
  v1339
def k0_mult58 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c3_i32_1210 : BitVec 32 := 3#32
  let v1382 : BitVec 32 := Scalar.addi v322 c3_i32_1210
  let c1_i32_1211 : BitVec 32 := 1#32
  let v1383 : BitVec 32 := Scalar.addi v1382 c1_i32_1211
  let c256_i32_1212 : BitVec 32 := 256#32
  let v1384 : BitVec 32 := Scalar.muli v1383 c256_i32_1212
  v1384
def k0_mult59 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c3_i32_1210 : BitVec 32 := 3#32
  let v1382 : BitVec 32 := Scalar.addi v322 c3_i32_1210
  let c1_i32_1251 : BitVec 32 := 1#32
  let v1427 : BitVec 32 := Scalar.addi v1382 c1_i32_1251
  let c256_i32_1252 : BitVec 32 := 256#32
  let v1428 : BitVec 32 := Scalar.muli v1427 c256_i32_1252
  v1428
def k0_mult60 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c3_i32_1210 : BitVec 32 := 3#32
  let v1382 : BitVec 32 := Scalar.addi v322 c3_i32_1210
  let c1_i32_1291 : BitVec 32 := 1#32
  let v1471 : BitVec 32 := Scalar.addi v1382 c1_i32_1291
  let c256_i32_1292 : BitVec 32 := 256#32
  let v1472 : BitVec 32 := Scalar.muli v1471 c256_i32_1292
  v1472
def k0_mult61 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c3_i32_1210 : BitVec 32 := 3#32
  let v1382 : BitVec 32 := Scalar.addi v322 c3_i32_1210
  let c1_i32_1331 : BitVec 32 := 1#32
  let v1515 : BitVec 32 := Scalar.addi v1382 c1_i32_1331
  let c256_i32_1332 : BitVec 32 := 256#32
  let v1516 : BitVec 32 := Scalar.muli v1515 c256_i32_1332
  v1516
def k0_mult62 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c3_i32_1210 : BitVec 32 := 3#32
  let v1382 : BitVec 32 := Scalar.addi v322 c3_i32_1210
  let c1_i32_1371 : BitVec 32 := 1#32
  let v1559 : BitVec 32 := Scalar.addi v1382 c1_i32_1371
  let c256_i32_1372 : BitVec 32 := 256#32
  let v1560 : BitVec 32 := Scalar.muli v1559 c256_i32_1372
  v1560
def k0_mult63 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c3_i32_1210 : BitVec 32 := 3#32
  let v1382 : BitVec 32 := Scalar.addi v322 c3_i32_1210
  let c1_i32_1411 : BitVec 32 := 1#32
  let v1603 : BitVec 32 := Scalar.addi v1382 c1_i32_1411
  let c256_i32_1412 : BitVec 32 := 256#32
  let v1604 : BitVec 32 := Scalar.muli v1603 c256_i32_1412
  v1604
def k0_mult64 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c3_i32_1210 : BitVec 32 := 3#32
  let v1382 : BitVec 32 := Scalar.addi v322 c3_i32_1210
  let c1_i32_1451 : BitVec 32 := 1#32
  let v1647 : BitVec 32 := Scalar.addi v1382 c1_i32_1451
  let c256_i32_1452 : BitVec 32 := 256#32
  let v1648 : BitVec 32 := Scalar.muli v1647 c256_i32_1452
  v1648
def k0_mult65 (i : grid0.Coords) (k0_t2 : Fin (k0_t2_loop i).trips) : BitVec 32 :=
  let c4_i32_247 : BitVec 32 := 4#32
  let c0_i32_155 : BitVec 32 := 0#32
  let arg1 : BitVec 32 := BitVec.ofNat 32 (i 1).val
  let c0_i32_148 : BitVec 32 := 0#32
  let v174 : BitVec 1 := Scalar.cmpi .sgt arg1 c0_i32_148
  let v175 : BitVec 32 := Scalar.extui v174
  let c0_i32_149 : BitVec 32 := 0#32
  let v176 : BitVec 1 := Scalar.cmpi .slt arg1 c0_i32_149
  let v177 : BitVec 32 := Scalar.extui v176
  let v178 : BitVec 32 := Scalar.subi v175 v177
  let c4_i32 : BitVec 32 := 4#32
  let c0_i32_150 : BitVec 32 := 0#32
  let v179 : BitVec 1 := Scalar.cmpi .sgt c4_i32 c0_i32_150
  let v180 : BitVec 32 := Scalar.extui v179
  let c0_i32_151 : BitVec 32 := 0#32
  let v181 : BitVec 1 := Scalar.cmpi .slt c4_i32 c0_i32_151
  let v182 : BitVec 32 := Scalar.extui v181
  let v183 : BitVec 32 := Scalar.subi v180 v182
  let v184 : BitVec 1 := Scalar.cmpi .ne v178 v183
  let v185 : BitVec 32 := Scalar.remsi arg1 c4_i32
  let c0_i32_152 : BitVec 32 := 0#32
  let v186 : BitVec 1 := Scalar.cmpi .ne v185 c0_i32_152
  let v187 : BitVec 1 := Scalar.andi v184 v186
  let v173 : BitVec 32 := Scalar.divsi arg1 c4_i32
  let c1_i32_153 : BitVec 32 := 1#32
  let v188 : BitVec 32 := Scalar.subi v173 c1_i32_153
  let v189 : BitVec 32 := Scalar.select v187 v188 v173
  let v190 : BitVec 32 := Scalar.subi v189 c0_i32_155
  let c1_i32_156 : BitVec 32 := 1#32
  let v192 : BitVec 32 := Scalar.divsi v190 c1_i32_156
  let v193 : BitVec 32 := Scalar.muli v192 c1_i32_156
  let v194 : BitVec 32 := Scalar.addi c0_i32_155 v193
  let c1_i32_158 : BitVec 32 := 1#32
  let arg10 : BitVec 32 := Scf.iv v194 c1_i32_158 k0_t2
  let v322 : BitVec 32 := Scalar.muli c4_i32_247 arg10
  let c3_i32_1210 : BitVec 32 := 3#32
  let v1382 : BitVec 32 := Scalar.addi v322 c3_i32_1210
  let c1_i32_1491 : BitVec 32 := 1#32
  let v1691 : BitVec 32 := Scalar.addi v1382 c1_i32_1491
  let c256_i32_1492 : BitVec 32 := 256#32
  let v1692 : BitVec 32 := Scalar.muli v1691 c256_i32_1492
  v1692
def k0_cond1 (i : grid0.Coords) : BitVec 1 :=
  let arg1 : BitVec 32 := BitVec.ofNat 32 (i 1).val
  let c4_i32_165 : BitVec 32 := 4#32
  let c0_i32_166 : BitVec 32 := 0#32
  let v206 : BitVec 1 := Scalar.cmpi .eq c4_i32_165 c0_i32_166
  let c1_i32_167 : BitVec 32 := 1#32
  let v207 : BitVec 32 := Scalar.select v206 c1_i32_167 c4_i32_165
  let v208 : BitVec 32 := Scalar.remsi arg1 v207
  let c0_i32_169 : BitVec 32 := 0#32
  let v210 : BitVec 1 := Scalar.cmpi .slt v208 c0_i32_169
  let c0_i32_170 : BitVec 32 := 0#32
  let v211 : BitVec 1 := Scalar.cmpi .slt v207 c0_i32_170
  let v212 : BitVec 1 := Scalar.xori v210 v211
  let c0_i32_168 : BitVec 32 := 0#32
  let v209 : BitVec 1 := Scalar.cmpi .ne v208 c0_i32_168
  let v213 : BitVec 1 := Scalar.andi v212 v209
  let v214 : BitVec 32 := Scalar.addi v208 v207
  let v215 : BitVec 32 := Scalar.select v213 v214 v208
  let c0_i32_171 : BitVec 32 := 0#32
  let v216 : BitVec 1 := Scalar.cmpi .eq v215 c0_i32_171
  let v217 : BitVec 32 := Scalar.extui v216
  let c0_i32_172 : BitVec 32 := 0#32
  let v218 : BitVec 1 := Scalar.cmpi .ne v217 c0_i32_172
  v218

def k0_off33 (i : grid0.Coords) : Fin 5 → Nat :=
  let c0_343 : Index := 0#32
  let c0_344 : Index := 0#32
  let arg1 : BitVec 32 := BitVec.ofNat 32 (i 1).val
  let v466 : Index := Scalar.indexCast arg1
  let c0_345 : Index := 0#32
  let c0_346 : Index := 0#32
  ![0, 0, v466.toNat, 0, 0]
def k0_off34 (i : grid0.Coords) : Fin 5 → Nat :=
  let c0_354 : Index := 0#32
  let c0_355 : Index := 0#32
  let arg1 : BitVec 32 := BitVec.ofNat 32 (i 1).val
  let v479 : Index := Scalar.indexCast arg1
  let c64_356 : Index := 64#32
  let c0_357 : Index := 0#32
  ![0, 0, v479.toNat, 64, 0]
def k0_off35 (i : grid0.Coords) : Fin 5 → Nat :=
  let c0_365 : Index := 0#32
  let c1_366 : Index := 1#32
  let arg1 : BitVec 32 := BitVec.ofNat 32 (i 1).val
  let v492 : Index := Scalar.indexCast arg1
  let c0_367 : Index := 0#32
  let c0_368 : Index := 0#32
  ![0, 1, v492.toNat, 0, 0]
def k0_off36 (i : grid0.Coords) : Fin 5 → Nat :=
  let c0_376 : Index := 0#32
  let c1_377 : Index := 1#32
  let arg1 : BitVec 32 := BitVec.ofNat 32 (i 1).val
  let v505 : Index := Scalar.indexCast arg1
  let c64_378 : Index := 64#32
  let c0_379 : Index := 0#32
  ![0, 1, v505.toNat, 64, 0]
def k0_off37 (i : grid0.Coords) : Fin 5 → Nat :=
  let c0_387 : Index := 0#32
  let c2_388 : Index := 2#32
  let arg1 : BitVec 32 := BitVec.ofNat 32 (i 1).val
  let v518 : Index := Scalar.indexCast arg1
  let c0_389 : Index := 0#32
  let c0_390 : Index := 0#32
  ![0, 2, v518.toNat, 0, 0]
def k0_off38 (i : grid0.Coords) : Fin 5 → Nat :=
  let c0_398 : Index := 0#32
  let c2_399 : Index := 2#32
  let arg1 : BitVec 32 := BitVec.ofNat 32 (i 1).val
  let v531 : Index := Scalar.indexCast arg1
  let c64_400 : Index := 64#32
  let c0_401 : Index := 0#32
  ![0, 2, v531.toNat, 64, 0]
def k0_off39 (i : grid0.Coords) : Fin 5 → Nat :=
  let c0_409 : Index := 0#32
  let c3_410 : Index := 3#32
  let arg1 : BitVec 32 := BitVec.ofNat 32 (i 1).val
  let v544 : Index := Scalar.indexCast arg1
  let c0_411 : Index := 0#32
  let c0_412 : Index := 0#32
  ![0, 3, v544.toNat, 0, 0]
def k0_off40 (i : grid0.Coords) : Fin 5 → Nat :=
  let c0_420 : Index := 0#32
  let c3_421 : Index := 3#32
  let arg1 : BitVec 32 := BitVec.ofNat 32 (i 1).val
  let v557 : Index := Scalar.indexCast arg1
  let c64_422 : Index := 64#32
  let c0_423 : Index := 0#32
  ![0, 3, v557.toNat, 64, 0]
def k0_cond2 (i : grid0.Coords) : BitVec 1 :=
  let arg1 : BitVec 32 := BitVec.ofNat 32 (i 1).val
  let c4_i32_173 : BitVec 32 := 4#32
  let c0_i32_174 : BitVec 32 := 0#32
  let v219 : BitVec 1 := Scalar.cmpi .eq c4_i32_173 c0_i32_174
  let c1_i32_175 : BitVec 32 := 1#32
  let v220 : BitVec 32 := Scalar.select v219 c1_i32_175 c4_i32_173
  let v221 : BitVec 32 := Scalar.remsi arg1 v220
  let c0_i32_177 : BitVec 32 := 0#32
  let v223 : BitVec 1 := Scalar.cmpi .slt v221 c0_i32_177
  let c0_i32_178 : BitVec 32 := 0#32
  let v224 : BitVec 1 := Scalar.cmpi .slt v220 c0_i32_178
  let v225 : BitVec 1 := Scalar.xori v223 v224
  let c0_i32_176 : BitVec 32 := 0#32
  let v222 : BitVec 1 := Scalar.cmpi .ne v221 c0_i32_176
  let v226 : BitVec 1 := Scalar.andi v225 v222
  let v227 : BitVec 32 := Scalar.addi v221 v220
  let v228 : BitVec 32 := Scalar.select v226 v227 v221
  let c1_i32_179 : BitVec 32 := 1#32
  let v229 : BitVec 1 := Scalar.cmpi .eq v228 c1_i32_179
  let v230 : BitVec 32 := Scalar.extui v229
  let c0_i32_180 : BitVec 32 := 0#32
  let v231 : BitVec 1 := Scalar.cmpi .ne v230 c0_i32_180
  v231

def k0_mult66 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_248 : BitVec 32 := 1#32
  let v323 : BitVec 32 := Scalar.addi v322 c1_i32_248
  let c256_i32 : BitVec 32 := 256#32
  let v324 : BitVec 32 := Scalar.muli v323 c256_i32
  v324
def k0_off41 (i : grid0.Coords) : Fin 4 → Nat :=
  let c0_249 : Index := 0#32
  let c0_250 : Index := 0#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_248 : BitVec 32 := 1#32
  let v323 : BitVec 32 := Scalar.addi v322 c1_i32_248
  let c256_i32 : BitVec 32 := 256#32
  let v324 : BitVec 32 := Scalar.muli v323 c256_i32
  let v325 : BitVec 32 := v324
  let v326 : Index := Scalar.indexCast v325
  let c0_251 : Index := 0#32
  ![0, 0, v326.toNat, 0]
def k0_off42 (i : grid0.Coords) : Fin 5 → Nat :=
  let c0_276 : Index := 0#32
  let c0_277 : Index := 0#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let v354 : Index := Scalar.indexCast v322
  let c0_278 : Index := 0#32
  let c0_279 : Index := 0#32
  ![0, 0, v354.toNat, 0, 0]
def k0_mult67 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_287 : BitVec 32 := 1#32
  let v367 : BitVec 32 := Scalar.addi v322 c1_i32_287
  let c256_i32_288 : BitVec 32 := 256#32
  let v368 : BitVec 32 := Scalar.muli v367 c256_i32_288
  v368
def k0_off43 (i : grid0.Coords) : Fin 4 → Nat :=
  let c0_289 : Index := 0#32
  let c1_290 : Index := 1#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_287 : BitVec 32 := 1#32
  let v367 : BitVec 32 := Scalar.addi v322 c1_i32_287
  let c256_i32_288 : BitVec 32 := 256#32
  let v368 : BitVec 32 := Scalar.muli v367 c256_i32_288
  let v369 : BitVec 32 := v368
  let v370 : Index := Scalar.indexCast v369
  let c0_291 : Index := 0#32
  ![0, 1, v370.toNat, 0]
def k0_off44 (i : grid0.Coords) : Fin 5 → Nat :=
  let c0_316 : Index := 0#32
  let c0_317 : Index := 0#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let v398 : Index := Scalar.indexCast v322
  let c64_318 : Index := 64#32
  let c0_319 : Index := 0#32
  ![0, 0, v398.toNat, 64, 0]
def k0_mult68 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_327 : BitVec 32 := 1#32
  let v411 : BitVec 32 := Scalar.addi v322 c1_i32_327
  let c256_i32_328 : BitVec 32 := 256#32
  let v412 : BitVec 32 := Scalar.muli v411 c256_i32_328
  v412
def k0_off45 (i : grid0.Coords) : Fin 4 → Nat :=
  let c0_329 : Index := 0#32
  let c2_330 : Index := 2#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_327 : BitVec 32 := 1#32
  let v411 : BitVec 32 := Scalar.addi v322 c1_i32_327
  let c256_i32_328 : BitVec 32 := 256#32
  let v412 : BitVec 32 := Scalar.muli v411 c256_i32_328
  let v413 : BitVec 32 := v412
  let v414 : Index := Scalar.indexCast v413
  let c0_331 : Index := 0#32
  ![0, 2, v414.toNat, 0]
def k0_off46 (i : grid0.Coords) : Fin 5 → Nat :=
  let c0_356 : Index := 0#32
  let c1_357 : Index := 1#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let v442 : Index := Scalar.indexCast v322
  let c0_358 : Index := 0#32
  let c0_359 : Index := 0#32
  ![0, 1, v442.toNat, 0, 0]
def k0_mult69 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_367 : BitVec 32 := 1#32
  let v455 : BitVec 32 := Scalar.addi v322 c1_i32_367
  let c256_i32_368 : BitVec 32 := 256#32
  let v456 : BitVec 32 := Scalar.muli v455 c256_i32_368
  v456
def k0_off47 (i : grid0.Coords) : Fin 4 → Nat :=
  let c0_369 : Index := 0#32
  let c3_370 : Index := 3#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_367 : BitVec 32 := 1#32
  let v455 : BitVec 32 := Scalar.addi v322 c1_i32_367
  let c256_i32_368 : BitVec 32 := 256#32
  let v456 : BitVec 32 := Scalar.muli v455 c256_i32_368
  let v457 : BitVec 32 := v456
  let v458 : Index := Scalar.indexCast v457
  let c0_371 : Index := 0#32
  ![0, 3, v458.toNat, 0]
def k0_off48 (i : grid0.Coords) : Fin 5 → Nat :=
  let c0_396 : Index := 0#32
  let c1_397 : Index := 1#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let v486 : Index := Scalar.indexCast v322
  let c64_398 : Index := 64#32
  let c0_399 : Index := 0#32
  ![0, 1, v486.toNat, 64, 0]
def k0_mult70 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_407 : BitVec 32 := 1#32
  let v499 : BitVec 32 := Scalar.addi v322 c1_i32_407
  let c256_i32_408 : BitVec 32 := 256#32
  let v500 : BitVec 32 := Scalar.muli v499 c256_i32_408
  v500
def k0_off49 (i : grid0.Coords) : Fin 4 → Nat :=
  let c0_409 : Index := 0#32
  let c4_410 : Index := 4#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_407 : BitVec 32 := 1#32
  let v499 : BitVec 32 := Scalar.addi v322 c1_i32_407
  let c256_i32_408 : BitVec 32 := 256#32
  let v500 : BitVec 32 := Scalar.muli v499 c256_i32_408
  let v501 : BitVec 32 := v500
  let v502 : Index := Scalar.indexCast v501
  let c0_411 : Index := 0#32
  ![0, 4, v502.toNat, 0]
def k0_off50 (i : grid0.Coords) : Fin 5 → Nat :=
  let c0_436 : Index := 0#32
  let c2_437 : Index := 2#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let v530 : Index := Scalar.indexCast v322
  let c0_438 : Index := 0#32
  let c0_439 : Index := 0#32
  ![0, 2, v530.toNat, 0, 0]
def k0_mult71 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_447 : BitVec 32 := 1#32
  let v543 : BitVec 32 := Scalar.addi v322 c1_i32_447
  let c256_i32_448 : BitVec 32 := 256#32
  let v544 : BitVec 32 := Scalar.muli v543 c256_i32_448
  v544
def k0_off51 (i : grid0.Coords) : Fin 4 → Nat :=
  let c0_449 : Index := 0#32
  let c5_450 : Index := 5#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_447 : BitVec 32 := 1#32
  let v543 : BitVec 32 := Scalar.addi v322 c1_i32_447
  let c256_i32_448 : BitVec 32 := 256#32
  let v544 : BitVec 32 := Scalar.muli v543 c256_i32_448
  let v545 : BitVec 32 := v544
  let v546 : Index := Scalar.indexCast v545
  let c0_451 : Index := 0#32
  ![0, 5, v546.toNat, 0]
def k0_off52 (i : grid0.Coords) : Fin 5 → Nat :=
  let c0_476 : Index := 0#32
  let c2_477 : Index := 2#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let v574 : Index := Scalar.indexCast v322
  let c64_478 : Index := 64#32
  let c0_479 : Index := 0#32
  ![0, 2, v574.toNat, 64, 0]
def k0_mult72 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_487 : BitVec 32 := 1#32
  let v587 : BitVec 32 := Scalar.addi v322 c1_i32_487
  let c256_i32_488 : BitVec 32 := 256#32
  let v588 : BitVec 32 := Scalar.muli v587 c256_i32_488
  v588
def k0_off53 (i : grid0.Coords) : Fin 4 → Nat :=
  let c0_489 : Index := 0#32
  let c6_490 : Index := 6#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_487 : BitVec 32 := 1#32
  let v587 : BitVec 32 := Scalar.addi v322 c1_i32_487
  let c256_i32_488 : BitVec 32 := 256#32
  let v588 : BitVec 32 := Scalar.muli v587 c256_i32_488
  let v589 : BitVec 32 := v588
  let v590 : Index := Scalar.indexCast v589
  let c0_491 : Index := 0#32
  ![0, 6, v590.toNat, 0]
def k0_off54 (i : grid0.Coords) : Fin 5 → Nat :=
  let c0_516 : Index := 0#32
  let c3_517 : Index := 3#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let v618 : Index := Scalar.indexCast v322
  let c0_518 : Index := 0#32
  let c0_519 : Index := 0#32
  ![0, 3, v618.toNat, 0, 0]
def k0_mult73 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_527 : BitVec 32 := 1#32
  let v631 : BitVec 32 := Scalar.addi v322 c1_i32_527
  let c256_i32_528 : BitVec 32 := 256#32
  let v632 : BitVec 32 := Scalar.muli v631 c256_i32_528
  v632
def k0_off55 (i : grid0.Coords) : Fin 4 → Nat :=
  let c0_529 : Index := 0#32
  let c7_530 : Index := 7#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_527 : BitVec 32 := 1#32
  let v631 : BitVec 32 := Scalar.addi v322 c1_i32_527
  let c256_i32_528 : BitVec 32 := 256#32
  let v632 : BitVec 32 := Scalar.muli v631 c256_i32_528
  let v633 : BitVec 32 := v632
  let v634 : Index := Scalar.indexCast v633
  let c0_531 : Index := 0#32
  ![0, 7, v634.toNat, 0]
def k0_off56 (i : grid0.Coords) : Fin 5 → Nat :=
  let c0_556 : Index := 0#32
  let c3_557 : Index := 3#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let v662 : Index := Scalar.indexCast v322
  let c64_558 : Index := 64#32
  let c0_559 : Index := 0#32
  ![0, 3, v662.toNat, 64, 0]
def k0_off57 (i : grid0.Coords) : Fin 5 → Nat :=
  let c0_663 : Index := 0#32
  let c0_664 : Index := 0#32
  let arg1 : BitVec 32 := BitVec.ofNat 32 (i 1).val
  let v819 : Index := Scalar.indexCast arg1
  let c0_665 : Index := 0#32
  let c0_666 : Index := 0#32
  ![0, 0, v819.toNat, 0, 0]
def k0_off58 (i : grid0.Coords) : Fin 5 → Nat :=
  let c0_674 : Index := 0#32
  let c0_675 : Index := 0#32
  let arg1 : BitVec 32 := BitVec.ofNat 32 (i 1).val
  let v832 : Index := Scalar.indexCast arg1
  let c64_676 : Index := 64#32
  let c0_677 : Index := 0#32
  ![0, 0, v832.toNat, 64, 0]
def k0_off59 (i : grid0.Coords) : Fin 5 → Nat :=
  let c0_685 : Index := 0#32
  let c1_686 : Index := 1#32
  let arg1 : BitVec 32 := BitVec.ofNat 32 (i 1).val
  let v845 : Index := Scalar.indexCast arg1
  let c0_687 : Index := 0#32
  let c0_688 : Index := 0#32
  ![0, 1, v845.toNat, 0, 0]
def k0_off60 (i : grid0.Coords) : Fin 5 → Nat :=
  let c0_696 : Index := 0#32
  let c1_697 : Index := 1#32
  let arg1 : BitVec 32 := BitVec.ofNat 32 (i 1).val
  let v858 : Index := Scalar.indexCast arg1
  let c64_698 : Index := 64#32
  let c0_699 : Index := 0#32
  ![0, 1, v858.toNat, 64, 0]
def k0_off61 (i : grid0.Coords) : Fin 5 → Nat :=
  let c0_707 : Index := 0#32
  let c2_708 : Index := 2#32
  let arg1 : BitVec 32 := BitVec.ofNat 32 (i 1).val
  let v871 : Index := Scalar.indexCast arg1
  let c0_709 : Index := 0#32
  let c0_710 : Index := 0#32
  ![0, 2, v871.toNat, 0, 0]
def k0_off62 (i : grid0.Coords) : Fin 5 → Nat :=
  let c0_718 : Index := 0#32
  let c2_719 : Index := 2#32
  let arg1 : BitVec 32 := BitVec.ofNat 32 (i 1).val
  let v884 : Index := Scalar.indexCast arg1
  let c64_720 : Index := 64#32
  let c0_721 : Index := 0#32
  ![0, 2, v884.toNat, 64, 0]
def k0_off63 (i : grid0.Coords) : Fin 5 → Nat :=
  let c0_729 : Index := 0#32
  let c3_730 : Index := 3#32
  let arg1 : BitVec 32 := BitVec.ofNat 32 (i 1).val
  let v897 : Index := Scalar.indexCast arg1
  let c0_731 : Index := 0#32
  let c0_732 : Index := 0#32
  ![0, 3, v897.toNat, 0, 0]
def k0_off64 (i : grid0.Coords) : Fin 5 → Nat :=
  let c0_740 : Index := 0#32
  let c3_741 : Index := 3#32
  let arg1 : BitVec 32 := BitVec.ofNat 32 (i 1).val
  let v910 : Index := Scalar.indexCast arg1
  let c64_742 : Index := 64#32
  let c0_743 : Index := 0#32
  ![0, 3, v910.toNat, 64, 0]
def k0_cond3 (i : grid0.Coords) : BitVec 1 :=
  let arg1 : BitVec 32 := BitVec.ofNat 32 (i 1).val
  let c4_i32_181 : BitVec 32 := 4#32
  let c0_i32_182 : BitVec 32 := 0#32
  let v232 : BitVec 1 := Scalar.cmpi .eq c4_i32_181 c0_i32_182
  let c1_i32_183 : BitVec 32 := 1#32
  let v233 : BitVec 32 := Scalar.select v232 c1_i32_183 c4_i32_181
  let v234 : BitVec 32 := Scalar.remsi arg1 v233
  let c0_i32_185 : BitVec 32 := 0#32
  let v236 : BitVec 1 := Scalar.cmpi .slt v234 c0_i32_185
  let c0_i32_186 : BitVec 32 := 0#32
  let v237 : BitVec 1 := Scalar.cmpi .slt v233 c0_i32_186
  let v238 : BitVec 1 := Scalar.xori v236 v237
  let c0_i32_184 : BitVec 32 := 0#32
  let v235 : BitVec 1 := Scalar.cmpi .ne v234 c0_i32_184
  let v239 : BitVec 1 := Scalar.andi v238 v235
  let v240 : BitVec 32 := Scalar.addi v234 v233
  let v241 : BitVec 32 := Scalar.select v239 v240 v234
  let c2_i32 : BitVec 32 := 2#32
  let v242 : BitVec 1 := Scalar.cmpi .eq v241 c2_i32
  let v243 : BitVec 32 := Scalar.extui v242
  let c0_i32_187 : BitVec 32 := 0#32
  let v244 : BitVec 1 := Scalar.cmpi .ne v243 c0_i32_187
  v244

def k0_mult74 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_248 : BitVec 32 := 1#32
  let v323 : BitVec 32 := Scalar.addi v322 c1_i32_248
  let c256_i32 : BitVec 32 := 256#32
  let v324 : BitVec 32 := Scalar.muli v323 c256_i32
  v324
def k0_off65 (i : grid0.Coords) (c0_i32_247 : BitVec 32) : Fin 4 → Nat :=
  let c0_249 : Index := 0#32
  let c0_250 : Index := 0#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_248 : BitVec 32 := 1#32
  let v323 : BitVec 32 := Scalar.addi v322 c1_i32_248
  let c256_i32 : BitVec 32 := 256#32
  let v324 : BitVec 32 := Scalar.muli v323 c256_i32
  let v325 : BitVec 32 := v324
  let v326 : Index := Scalar.indexCast v325
  let c0_251 : Index := 0#32
  ![0, 0, v326.toNat, 0]
def k0_off66 (i : grid0.Coords) (c0_i32_247 : BitVec 32) : Fin 5 → Nat :=
  let c0_276 : Index := 0#32
  let c0_277 : Index := 0#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v354 : Index := Scalar.indexCast v322
  let c0_278 : Index := 0#32
  let c0_279 : Index := 0#32
  ![0, 0, v354.toNat, 0, 0]
def k0_mult75 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_287 : BitVec 32 := 1#32
  let v367 : BitVec 32 := Scalar.addi v322 c1_i32_287
  let c256_i32_288 : BitVec 32 := 256#32
  let v368 : BitVec 32 := Scalar.muli v367 c256_i32_288
  v368
def k0_off67 (i : grid0.Coords) (c0_i32_247 : BitVec 32) : Fin 4 → Nat :=
  let c0_289 : Index := 0#32
  let c1_290 : Index := 1#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_287 : BitVec 32 := 1#32
  let v367 : BitVec 32 := Scalar.addi v322 c1_i32_287
  let c256_i32_288 : BitVec 32 := 256#32
  let v368 : BitVec 32 := Scalar.muli v367 c256_i32_288
  let v369 : BitVec 32 := v368
  let v370 : Index := Scalar.indexCast v369
  let c0_291 : Index := 0#32
  ![0, 1, v370.toNat, 0]
def k0_off68 (i : grid0.Coords) (c0_i32_247 : BitVec 32) : Fin 5 → Nat :=
  let c0_316 : Index := 0#32
  let c0_317 : Index := 0#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v398 : Index := Scalar.indexCast v322
  let c64_318 : Index := 64#32
  let c0_319 : Index := 0#32
  ![0, 0, v398.toNat, 64, 0]
def k0_mult76 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_327 : BitVec 32 := 1#32
  let v411 : BitVec 32 := Scalar.addi v322 c1_i32_327
  let c256_i32_328 : BitVec 32 := 256#32
  let v412 : BitVec 32 := Scalar.muli v411 c256_i32_328
  v412
def k0_off69 (i : grid0.Coords) (c0_i32_247 : BitVec 32) : Fin 4 → Nat :=
  let c0_329 : Index := 0#32
  let c2_330 : Index := 2#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_327 : BitVec 32 := 1#32
  let v411 : BitVec 32 := Scalar.addi v322 c1_i32_327
  let c256_i32_328 : BitVec 32 := 256#32
  let v412 : BitVec 32 := Scalar.muli v411 c256_i32_328
  let v413 : BitVec 32 := v412
  let v414 : Index := Scalar.indexCast v413
  let c0_331 : Index := 0#32
  ![0, 2, v414.toNat, 0]
def k0_off70 (i : grid0.Coords) (c0_i32_247 : BitVec 32) : Fin 5 → Nat :=
  let c0_356 : Index := 0#32
  let c1_357 : Index := 1#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v442 : Index := Scalar.indexCast v322
  let c0_358 : Index := 0#32
  let c0_359 : Index := 0#32
  ![0, 1, v442.toNat, 0, 0]
def k0_mult77 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_367 : BitVec 32 := 1#32
  let v455 : BitVec 32 := Scalar.addi v322 c1_i32_367
  let c256_i32_368 : BitVec 32 := 256#32
  let v456 : BitVec 32 := Scalar.muli v455 c256_i32_368
  v456
def k0_off71 (i : grid0.Coords) (c0_i32_247 : BitVec 32) : Fin 4 → Nat :=
  let c0_369 : Index := 0#32
  let c3_370 : Index := 3#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_367 : BitVec 32 := 1#32
  let v455 : BitVec 32 := Scalar.addi v322 c1_i32_367
  let c256_i32_368 : BitVec 32 := 256#32
  let v456 : BitVec 32 := Scalar.muli v455 c256_i32_368
  let v457 : BitVec 32 := v456
  let v458 : Index := Scalar.indexCast v457
  let c0_371 : Index := 0#32
  ![0, 3, v458.toNat, 0]
def k0_off72 (i : grid0.Coords) (c0_i32_247 : BitVec 32) : Fin 5 → Nat :=
  let c0_396 : Index := 0#32
  let c1_397 : Index := 1#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v486 : Index := Scalar.indexCast v322
  let c64_398 : Index := 64#32
  let c0_399 : Index := 0#32
  ![0, 1, v486.toNat, 64, 0]
def k0_mult78 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_407 : BitVec 32 := 1#32
  let v499 : BitVec 32 := Scalar.addi v322 c1_i32_407
  let c256_i32_408 : BitVec 32 := 256#32
  let v500 : BitVec 32 := Scalar.muli v499 c256_i32_408
  v500
def k0_off73 (i : grid0.Coords) (c0_i32_247 : BitVec 32) : Fin 4 → Nat :=
  let c0_409 : Index := 0#32
  let c4_410 : Index := 4#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_407 : BitVec 32 := 1#32
  let v499 : BitVec 32 := Scalar.addi v322 c1_i32_407
  let c256_i32_408 : BitVec 32 := 256#32
  let v500 : BitVec 32 := Scalar.muli v499 c256_i32_408
  let v501 : BitVec 32 := v500
  let v502 : Index := Scalar.indexCast v501
  let c0_411 : Index := 0#32
  ![0, 4, v502.toNat, 0]
def k0_off74 (i : grid0.Coords) (c0_i32_247 : BitVec 32) : Fin 5 → Nat :=
  let c0_436 : Index := 0#32
  let c2_437 : Index := 2#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v530 : Index := Scalar.indexCast v322
  let c0_438 : Index := 0#32
  let c0_439 : Index := 0#32
  ![0, 2, v530.toNat, 0, 0]
def k0_mult79 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_447 : BitVec 32 := 1#32
  let v543 : BitVec 32 := Scalar.addi v322 c1_i32_447
  let c256_i32_448 : BitVec 32 := 256#32
  let v544 : BitVec 32 := Scalar.muli v543 c256_i32_448
  v544
def k0_off75 (i : grid0.Coords) (c0_i32_247 : BitVec 32) : Fin 4 → Nat :=
  let c0_449 : Index := 0#32
  let c5_450 : Index := 5#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_447 : BitVec 32 := 1#32
  let v543 : BitVec 32 := Scalar.addi v322 c1_i32_447
  let c256_i32_448 : BitVec 32 := 256#32
  let v544 : BitVec 32 := Scalar.muli v543 c256_i32_448
  let v545 : BitVec 32 := v544
  let v546 : Index := Scalar.indexCast v545
  let c0_451 : Index := 0#32
  ![0, 5, v546.toNat, 0]
def k0_off76 (i : grid0.Coords) (c0_i32_247 : BitVec 32) : Fin 5 → Nat :=
  let c0_476 : Index := 0#32
  let c2_477 : Index := 2#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v574 : Index := Scalar.indexCast v322
  let c64_478 : Index := 64#32
  let c0_479 : Index := 0#32
  ![0, 2, v574.toNat, 64, 0]
def k0_mult80 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_487 : BitVec 32 := 1#32
  let v587 : BitVec 32 := Scalar.addi v322 c1_i32_487
  let c256_i32_488 : BitVec 32 := 256#32
  let v588 : BitVec 32 := Scalar.muli v587 c256_i32_488
  v588
def k0_off77 (i : grid0.Coords) (c0_i32_247 : BitVec 32) : Fin 4 → Nat :=
  let c0_489 : Index := 0#32
  let c6_490 : Index := 6#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_487 : BitVec 32 := 1#32
  let v587 : BitVec 32 := Scalar.addi v322 c1_i32_487
  let c256_i32_488 : BitVec 32 := 256#32
  let v588 : BitVec 32 := Scalar.muli v587 c256_i32_488
  let v589 : BitVec 32 := v588
  let v590 : Index := Scalar.indexCast v589
  let c0_491 : Index := 0#32
  ![0, 6, v590.toNat, 0]
def k0_off78 (i : grid0.Coords) (c0_i32_247 : BitVec 32) : Fin 5 → Nat :=
  let c0_516 : Index := 0#32
  let c3_517 : Index := 3#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v618 : Index := Scalar.indexCast v322
  let c0_518 : Index := 0#32
  let c0_519 : Index := 0#32
  ![0, 3, v618.toNat, 0, 0]
def k0_mult81 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_527 : BitVec 32 := 1#32
  let v631 : BitVec 32 := Scalar.addi v322 c1_i32_527
  let c256_i32_528 : BitVec 32 := 256#32
  let v632 : BitVec 32 := Scalar.muli v631 c256_i32_528
  v632
def k0_off79 (i : grid0.Coords) (c0_i32_247 : BitVec 32) : Fin 4 → Nat :=
  let c0_529 : Index := 0#32
  let c7_530 : Index := 7#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_527 : BitVec 32 := 1#32
  let v631 : BitVec 32 := Scalar.addi v322 c1_i32_527
  let c256_i32_528 : BitVec 32 := 256#32
  let v632 : BitVec 32 := Scalar.muli v631 c256_i32_528
  let v633 : BitVec 32 := v632
  let v634 : Index := Scalar.indexCast v633
  let c0_531 : Index := 0#32
  ![0, 7, v634.toNat, 0]
def k0_off80 (i : grid0.Coords) (c0_i32_247 : BitVec 32) : Fin 5 → Nat :=
  let c0_556 : Index := 0#32
  let c3_557 : Index := 3#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v662 : Index := Scalar.indexCast v322
  let c64_558 : Index := 64#32
  let c0_559 : Index := 0#32
  ![0, 3, v662.toNat, 64, 0]
def k0_mult82 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_568 : BitVec 32 := 1#32
  let v676 : BitVec 32 := Scalar.addi v675 c1_i32_568
  let c256_i32_569 : BitVec 32 := 256#32
  let v677 : BitVec 32 := Scalar.muli v676 c256_i32_569
  v677
def k0_mult83 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_608 : BitVec 32 := 1#32
  let v720 : BitVec 32 := Scalar.addi v675 c1_i32_608
  let c256_i32_609 : BitVec 32 := 256#32
  let v721 : BitVec 32 := Scalar.muli v720 c256_i32_609
  v721
def k0_mult84 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_648 : BitVec 32 := 1#32
  let v764 : BitVec 32 := Scalar.addi v675 c1_i32_648
  let c256_i32_649 : BitVec 32 := 256#32
  let v765 : BitVec 32 := Scalar.muli v764 c256_i32_649
  v765
def k0_mult85 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_688 : BitVec 32 := 1#32
  let v808 : BitVec 32 := Scalar.addi v675 c1_i32_688
  let c256_i32_689 : BitVec 32 := 256#32
  let v809 : BitVec 32 := Scalar.muli v808 c256_i32_689
  v809
def k0_mult86 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_728 : BitVec 32 := 1#32
  let v852 : BitVec 32 := Scalar.addi v675 c1_i32_728
  let c256_i32_729 : BitVec 32 := 256#32
  let v853 : BitVec 32 := Scalar.muli v852 c256_i32_729
  v853
def k0_mult87 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_768 : BitVec 32 := 1#32
  let v896 : BitVec 32 := Scalar.addi v675 c1_i32_768
  let c256_i32_769 : BitVec 32 := 256#32
  let v897 : BitVec 32 := Scalar.muli v896 c256_i32_769
  v897
def k0_mult88 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_808 : BitVec 32 := 1#32
  let v940 : BitVec 32 := Scalar.addi v675 c1_i32_808
  let c256_i32_809 : BitVec 32 := 256#32
  let v941 : BitVec 32 := Scalar.muli v940 c256_i32_809
  v941
def k0_mult89 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_848 : BitVec 32 := 1#32
  let v984 : BitVec 32 := Scalar.addi v675 c1_i32_848
  let c256_i32_849 : BitVec 32 := 256#32
  let v985 : BitVec 32 := Scalar.muli v984 c256_i32_849
  v985
def k0_off81 (i : grid0.Coords) : Fin 5 → Nat :=
  let c0_984 : Index := 0#32
  let c0_985 : Index := 0#32
  let arg1 : BitVec 32 := BitVec.ofNat 32 (i 1).val
  let v1172 : Index := Scalar.indexCast arg1
  let c0_986 : Index := 0#32
  let c0_987 : Index := 0#32
  ![0, 0, v1172.toNat, 0, 0]
def k0_off82 (i : grid0.Coords) : Fin 5 → Nat :=
  let c0_995 : Index := 0#32
  let c0_996 : Index := 0#32
  let arg1 : BitVec 32 := BitVec.ofNat 32 (i 1).val
  let v1185 : Index := Scalar.indexCast arg1
  let c64_997 : Index := 64#32
  let c0_998 : Index := 0#32
  ![0, 0, v1185.toNat, 64, 0]
def k0_off83 (i : grid0.Coords) : Fin 5 → Nat :=
  let c0_1006 : Index := 0#32
  let c1_1007 : Index := 1#32
  let arg1 : BitVec 32 := BitVec.ofNat 32 (i 1).val
  let v1198 : Index := Scalar.indexCast arg1
  let c0_1008 : Index := 0#32
  let c0_1009 : Index := 0#32
  ![0, 1, v1198.toNat, 0, 0]
def k0_off84 (i : grid0.Coords) : Fin 5 → Nat :=
  let c0_1017 : Index := 0#32
  let c1_1018 : Index := 1#32
  let arg1 : BitVec 32 := BitVec.ofNat 32 (i 1).val
  let v1211 : Index := Scalar.indexCast arg1
  let c64_1019 : Index := 64#32
  let c0_1020 : Index := 0#32
  ![0, 1, v1211.toNat, 64, 0]
def k0_off85 (i : grid0.Coords) : Fin 5 → Nat :=
  let c0_1028 : Index := 0#32
  let c2_1029 : Index := 2#32
  let arg1 : BitVec 32 := BitVec.ofNat 32 (i 1).val
  let v1224 : Index := Scalar.indexCast arg1
  let c0_1030 : Index := 0#32
  let c0_1031 : Index := 0#32
  ![0, 2, v1224.toNat, 0, 0]
def k0_off86 (i : grid0.Coords) : Fin 5 → Nat :=
  let c0_1039 : Index := 0#32
  let c2_1040 : Index := 2#32
  let arg1 : BitVec 32 := BitVec.ofNat 32 (i 1).val
  let v1237 : Index := Scalar.indexCast arg1
  let c64_1041 : Index := 64#32
  let c0_1042 : Index := 0#32
  ![0, 2, v1237.toNat, 64, 0]
def k0_off87 (i : grid0.Coords) : Fin 5 → Nat :=
  let c0_1050 : Index := 0#32
  let c3_1051 : Index := 3#32
  let arg1 : BitVec 32 := BitVec.ofNat 32 (i 1).val
  let v1250 : Index := Scalar.indexCast arg1
  let c0_1052 : Index := 0#32
  let c0_1053 : Index := 0#32
  ![0, 3, v1250.toNat, 0, 0]
def k0_off88 (i : grid0.Coords) : Fin 5 → Nat :=
  let c0_1061 : Index := 0#32
  let c3_1062 : Index := 3#32
  let arg1 : BitVec 32 := BitVec.ofNat 32 (i 1).val
  let v1263 : Index := Scalar.indexCast arg1
  let c64_1063 : Index := 64#32
  let c0_1064 : Index := 0#32
  ![0, 3, v1263.toNat, 64, 0]
def k0_cond4 (i : grid0.Coords) : BitVec 1 :=
  let arg1 : BitVec 32 := BitVec.ofNat 32 (i 1).val
  let c4_i32_188 : BitVec 32 := 4#32
  let c0_i32_189 : BitVec 32 := 0#32
  let v245 : BitVec 1 := Scalar.cmpi .eq c4_i32_188 c0_i32_189
  let c1_i32_190 : BitVec 32 := 1#32
  let v246 : BitVec 32 := Scalar.select v245 c1_i32_190 c4_i32_188
  let v247 : BitVec 32 := Scalar.remsi arg1 v246
  let c0_i32_192 : BitVec 32 := 0#32
  let v249 : BitVec 1 := Scalar.cmpi .slt v247 c0_i32_192
  let c0_i32_193 : BitVec 32 := 0#32
  let v250 : BitVec 1 := Scalar.cmpi .slt v246 c0_i32_193
  let v251 : BitVec 1 := Scalar.xori v249 v250
  let c0_i32_191 : BitVec 32 := 0#32
  let v248 : BitVec 1 := Scalar.cmpi .ne v247 c0_i32_191
  let v252 : BitVec 1 := Scalar.andi v251 v248
  let v253 : BitVec 32 := Scalar.addi v247 v246
  let v254 : BitVec 32 := Scalar.select v252 v253 v247
  let c3_i32 : BitVec 32 := 3#32
  let v255 : BitVec 1 := Scalar.cmpi .eq v254 c3_i32
  let v256 : BitVec 32 := Scalar.extui v255
  let c0_i32_194 : BitVec 32 := 0#32
  let v257 : BitVec 1 := Scalar.cmpi .ne v256 c0_i32_194
  v257

def k0_mult90 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_248 : BitVec 32 := 1#32
  let v323 : BitVec 32 := Scalar.addi v322 c1_i32_248
  let c256_i32 : BitVec 32 := 256#32
  let v324 : BitVec 32 := Scalar.muli v323 c256_i32
  v324
def k0_off89 (i : grid0.Coords) (c0_i32_247 : BitVec 32) : Fin 4 → Nat :=
  let c0_249 : Index := 0#32
  let c0_250 : Index := 0#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_248 : BitVec 32 := 1#32
  let v323 : BitVec 32 := Scalar.addi v322 c1_i32_248
  let c256_i32 : BitVec 32 := 256#32
  let v324 : BitVec 32 := Scalar.muli v323 c256_i32
  let v325 : BitVec 32 := v324
  let v326 : Index := Scalar.indexCast v325
  let c0_251 : Index := 0#32
  ![0, 0, v326.toNat, 0]
def k0_off90 (i : grid0.Coords) (c0_i32_247 : BitVec 32) : Fin 5 → Nat :=
  let c0_276 : Index := 0#32
  let c0_277 : Index := 0#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v354 : Index := Scalar.indexCast v322
  let c0_278 : Index := 0#32
  let c0_279 : Index := 0#32
  ![0, 0, v354.toNat, 0, 0]
def k0_mult91 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_287 : BitVec 32 := 1#32
  let v367 : BitVec 32 := Scalar.addi v322 c1_i32_287
  let c256_i32_288 : BitVec 32 := 256#32
  let v368 : BitVec 32 := Scalar.muli v367 c256_i32_288
  v368
def k0_off91 (i : grid0.Coords) (c0_i32_247 : BitVec 32) : Fin 4 → Nat :=
  let c0_289 : Index := 0#32
  let c1_290 : Index := 1#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_287 : BitVec 32 := 1#32
  let v367 : BitVec 32 := Scalar.addi v322 c1_i32_287
  let c256_i32_288 : BitVec 32 := 256#32
  let v368 : BitVec 32 := Scalar.muli v367 c256_i32_288
  let v369 : BitVec 32 := v368
  let v370 : Index := Scalar.indexCast v369
  let c0_291 : Index := 0#32
  ![0, 1, v370.toNat, 0]
def k0_off92 (i : grid0.Coords) (c0_i32_247 : BitVec 32) : Fin 5 → Nat :=
  let c0_316 : Index := 0#32
  let c0_317 : Index := 0#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v398 : Index := Scalar.indexCast v322
  let c64_318 : Index := 64#32
  let c0_319 : Index := 0#32
  ![0, 0, v398.toNat, 64, 0]
def k0_mult92 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_327 : BitVec 32 := 1#32
  let v411 : BitVec 32 := Scalar.addi v322 c1_i32_327
  let c256_i32_328 : BitVec 32 := 256#32
  let v412 : BitVec 32 := Scalar.muli v411 c256_i32_328
  v412
def k0_off93 (i : grid0.Coords) (c0_i32_247 : BitVec 32) : Fin 4 → Nat :=
  let c0_329 : Index := 0#32
  let c2_330 : Index := 2#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_327 : BitVec 32 := 1#32
  let v411 : BitVec 32 := Scalar.addi v322 c1_i32_327
  let c256_i32_328 : BitVec 32 := 256#32
  let v412 : BitVec 32 := Scalar.muli v411 c256_i32_328
  let v413 : BitVec 32 := v412
  let v414 : Index := Scalar.indexCast v413
  let c0_331 : Index := 0#32
  ![0, 2, v414.toNat, 0]
def k0_off94 (i : grid0.Coords) (c0_i32_247 : BitVec 32) : Fin 5 → Nat :=
  let c0_356 : Index := 0#32
  let c1_357 : Index := 1#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v442 : Index := Scalar.indexCast v322
  let c0_358 : Index := 0#32
  let c0_359 : Index := 0#32
  ![0, 1, v442.toNat, 0, 0]
def k0_mult93 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_367 : BitVec 32 := 1#32
  let v455 : BitVec 32 := Scalar.addi v322 c1_i32_367
  let c256_i32_368 : BitVec 32 := 256#32
  let v456 : BitVec 32 := Scalar.muli v455 c256_i32_368
  v456
def k0_off95 (i : grid0.Coords) (c0_i32_247 : BitVec 32) : Fin 4 → Nat :=
  let c0_369 : Index := 0#32
  let c3_370 : Index := 3#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_367 : BitVec 32 := 1#32
  let v455 : BitVec 32 := Scalar.addi v322 c1_i32_367
  let c256_i32_368 : BitVec 32 := 256#32
  let v456 : BitVec 32 := Scalar.muli v455 c256_i32_368
  let v457 : BitVec 32 := v456
  let v458 : Index := Scalar.indexCast v457
  let c0_371 : Index := 0#32
  ![0, 3, v458.toNat, 0]
def k0_off96 (i : grid0.Coords) (c0_i32_247 : BitVec 32) : Fin 5 → Nat :=
  let c0_396 : Index := 0#32
  let c1_397 : Index := 1#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v486 : Index := Scalar.indexCast v322
  let c64_398 : Index := 64#32
  let c0_399 : Index := 0#32
  ![0, 1, v486.toNat, 64, 0]
def k0_mult94 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_407 : BitVec 32 := 1#32
  let v499 : BitVec 32 := Scalar.addi v322 c1_i32_407
  let c256_i32_408 : BitVec 32 := 256#32
  let v500 : BitVec 32 := Scalar.muli v499 c256_i32_408
  v500
def k0_off97 (i : grid0.Coords) (c0_i32_247 : BitVec 32) : Fin 4 → Nat :=
  let c0_409 : Index := 0#32
  let c4_410 : Index := 4#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_407 : BitVec 32 := 1#32
  let v499 : BitVec 32 := Scalar.addi v322 c1_i32_407
  let c256_i32_408 : BitVec 32 := 256#32
  let v500 : BitVec 32 := Scalar.muli v499 c256_i32_408
  let v501 : BitVec 32 := v500
  let v502 : Index := Scalar.indexCast v501
  let c0_411 : Index := 0#32
  ![0, 4, v502.toNat, 0]
def k0_off98 (i : grid0.Coords) (c0_i32_247 : BitVec 32) : Fin 5 → Nat :=
  let c0_436 : Index := 0#32
  let c2_437 : Index := 2#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v530 : Index := Scalar.indexCast v322
  let c0_438 : Index := 0#32
  let c0_439 : Index := 0#32
  ![0, 2, v530.toNat, 0, 0]
def k0_mult95 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_447 : BitVec 32 := 1#32
  let v543 : BitVec 32 := Scalar.addi v322 c1_i32_447
  let c256_i32_448 : BitVec 32 := 256#32
  let v544 : BitVec 32 := Scalar.muli v543 c256_i32_448
  v544
def k0_off99 (i : grid0.Coords) (c0_i32_247 : BitVec 32) : Fin 4 → Nat :=
  let c0_449 : Index := 0#32
  let c5_450 : Index := 5#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_447 : BitVec 32 := 1#32
  let v543 : BitVec 32 := Scalar.addi v322 c1_i32_447
  let c256_i32_448 : BitVec 32 := 256#32
  let v544 : BitVec 32 := Scalar.muli v543 c256_i32_448
  let v545 : BitVec 32 := v544
  let v546 : Index := Scalar.indexCast v545
  let c0_451 : Index := 0#32
  ![0, 5, v546.toNat, 0]
def k0_off100 (i : grid0.Coords) (c0_i32_247 : BitVec 32) : Fin 5 → Nat :=
  let c0_476 : Index := 0#32
  let c2_477 : Index := 2#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v574 : Index := Scalar.indexCast v322
  let c64_478 : Index := 64#32
  let c0_479 : Index := 0#32
  ![0, 2, v574.toNat, 64, 0]
def k0_mult96 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_487 : BitVec 32 := 1#32
  let v587 : BitVec 32 := Scalar.addi v322 c1_i32_487
  let c256_i32_488 : BitVec 32 := 256#32
  let v588 : BitVec 32 := Scalar.muli v587 c256_i32_488
  v588
def k0_off101 (i : grid0.Coords) (c0_i32_247 : BitVec 32) : Fin 4 → Nat :=
  let c0_489 : Index := 0#32
  let c6_490 : Index := 6#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_487 : BitVec 32 := 1#32
  let v587 : BitVec 32 := Scalar.addi v322 c1_i32_487
  let c256_i32_488 : BitVec 32 := 256#32
  let v588 : BitVec 32 := Scalar.muli v587 c256_i32_488
  let v589 : BitVec 32 := v588
  let v590 : Index := Scalar.indexCast v589
  let c0_491 : Index := 0#32
  ![0, 6, v590.toNat, 0]
def k0_off102 (i : grid0.Coords) (c0_i32_247 : BitVec 32) : Fin 5 → Nat :=
  let c0_516 : Index := 0#32
  let c3_517 : Index := 3#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v618 : Index := Scalar.indexCast v322
  let c0_518 : Index := 0#32
  let c0_519 : Index := 0#32
  ![0, 3, v618.toNat, 0, 0]
def k0_mult97 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c0_i32_247 : BitVec 32 := 0#32
  let v322 : BitVec 32 := Scalar.addi v205 c0_i32_247
  let c1_i32_527 : BitVec 32 := 1#32
  let v631 : BitVec 32 := Scalar.addi v322 c1_i32_527
  let c256_i32_528 : BitVec 32 := 256#32
  let v632 : BitVec 32 := Scalar.muli v631 c256_i32_528
  v632
def k0_off103 (i : grid0.Coords) (c0_i32_247 : BitVec 32) : Fin 4 → Nat :=
  let c0_529 : Index := 0#32
  let c7_530 : Index := 7#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let c1_i32_527 : BitVec 32 := 1#32
  let v631 : BitVec 32 := Scalar.addi v322 c1_i32_527
  let c256_i32_528 : BitVec 32 := 256#32
  let v632 : BitVec 32 := Scalar.muli v631 c256_i32_528
  let v633 : BitVec 32 := v632
  let v634 : Index := Scalar.indexCast v633
  let c0_531 : Index := 0#32
  ![0, 7, v634.toNat, 0]
def k0_off104 (i : grid0.Coords) (c0_i32_247 : BitVec 32) : Fin 5 → Nat :=
  let c0_556 : Index := 0#32
  let c3_557 : Index := 3#32
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let v322 : BitVec 32 := Scalar.addi v205 c0_i32_247
  let v662 : Index := Scalar.indexCast v322
  let c64_558 : Index := 64#32
  let c0_559 : Index := 0#32
  ![0, 3, v662.toNat, 64, 0]
def k0_mult98 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_568 : BitVec 32 := 1#32
  let v676 : BitVec 32 := Scalar.addi v675 c1_i32_568
  let c256_i32_569 : BitVec 32 := 256#32
  let v677 : BitVec 32 := Scalar.muli v676 c256_i32_569
  v677
def k0_mult99 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_608 : BitVec 32 := 1#32
  let v720 : BitVec 32 := Scalar.addi v675 c1_i32_608
  let c256_i32_609 : BitVec 32 := 256#32
  let v721 : BitVec 32 := Scalar.muli v720 c256_i32_609
  v721
def k0_mult100 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_648 : BitVec 32 := 1#32
  let v764 : BitVec 32 := Scalar.addi v675 c1_i32_648
  let c256_i32_649 : BitVec 32 := 256#32
  let v765 : BitVec 32 := Scalar.muli v764 c256_i32_649
  v765
def k0_mult101 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_688 : BitVec 32 := 1#32
  let v808 : BitVec 32 := Scalar.addi v675 c1_i32_688
  let c256_i32_689 : BitVec 32 := 256#32
  let v809 : BitVec 32 := Scalar.muli v808 c256_i32_689
  v809
def k0_mult102 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_728 : BitVec 32 := 1#32
  let v852 : BitVec 32 := Scalar.addi v675 c1_i32_728
  let c256_i32_729 : BitVec 32 := 256#32
  let v853 : BitVec 32 := Scalar.muli v852 c256_i32_729
  v853
def k0_mult103 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_768 : BitVec 32 := 1#32
  let v896 : BitVec 32 := Scalar.addi v675 c1_i32_768
  let c256_i32_769 : BitVec 32 := 256#32
  let v897 : BitVec 32 := Scalar.muli v896 c256_i32_769
  v897
def k0_mult104 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_808 : BitVec 32 := 1#32
  let v940 : BitVec 32 := Scalar.addi v675 c1_i32_808
  let c256_i32_809 : BitVec 32 := 256#32
  let v941 : BitVec 32 := Scalar.muli v940 c256_i32_809
  v941
def k0_mult105 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c1_i32_567 : BitVec 32 := 1#32
  let v675 : BitVec 32 := Scalar.addi v205 c1_i32_567
  let c1_i32_848 : BitVec 32 := 1#32
  let v984 : BitVec 32 := Scalar.addi v675 c1_i32_848
  let c256_i32_849 : BitVec 32 := 256#32
  let v985 : BitVec 32 := Scalar.muli v984 c256_i32_849
  v985
def k0_mult106 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c2_i32_888 : BitVec 32 := 2#32
  let v1028 : BitVec 32 := Scalar.addi v205 c2_i32_888
  let c1_i32_889 : BitVec 32 := 1#32
  let v1029 : BitVec 32 := Scalar.addi v1028 c1_i32_889
  let c256_i32_890 : BitVec 32 := 256#32
  let v1030 : BitVec 32 := Scalar.muli v1029 c256_i32_890
  v1030
def k0_mult107 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c2_i32_888 : BitVec 32 := 2#32
  let v1028 : BitVec 32 := Scalar.addi v205 c2_i32_888
  let c1_i32_929 : BitVec 32 := 1#32
  let v1073 : BitVec 32 := Scalar.addi v1028 c1_i32_929
  let c256_i32_930 : BitVec 32 := 256#32
  let v1074 : BitVec 32 := Scalar.muli v1073 c256_i32_930
  v1074
def k0_mult108 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c2_i32_888 : BitVec 32 := 2#32
  let v1028 : BitVec 32 := Scalar.addi v205 c2_i32_888
  let c1_i32_969 : BitVec 32 := 1#32
  let v1117 : BitVec 32 := Scalar.addi v1028 c1_i32_969
  let c256_i32_970 : BitVec 32 := 256#32
  let v1118 : BitVec 32 := Scalar.muli v1117 c256_i32_970
  v1118
def k0_mult109 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c2_i32_888 : BitVec 32 := 2#32
  let v1028 : BitVec 32 := Scalar.addi v205 c2_i32_888
  let c1_i32_1009 : BitVec 32 := 1#32
  let v1161 : BitVec 32 := Scalar.addi v1028 c1_i32_1009
  let c256_i32_1010 : BitVec 32 := 256#32
  let v1162 : BitVec 32 := Scalar.muli v1161 c256_i32_1010
  v1162
def k0_mult110 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c2_i32_888 : BitVec 32 := 2#32
  let v1028 : BitVec 32 := Scalar.addi v205 c2_i32_888
  let c1_i32_1049 : BitVec 32 := 1#32
  let v1205 : BitVec 32 := Scalar.addi v1028 c1_i32_1049
  let c256_i32_1050 : BitVec 32 := 256#32
  let v1206 : BitVec 32 := Scalar.muli v1205 c256_i32_1050
  v1206
def k0_mult111 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c2_i32_888 : BitVec 32 := 2#32
  let v1028 : BitVec 32 := Scalar.addi v205 c2_i32_888
  let c1_i32_1089 : BitVec 32 := 1#32
  let v1249 : BitVec 32 := Scalar.addi v1028 c1_i32_1089
  let c256_i32_1090 : BitVec 32 := 256#32
  let v1250 : BitVec 32 := Scalar.muli v1249 c256_i32_1090
  v1250
def k0_mult112 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c2_i32_888 : BitVec 32 := 2#32
  let v1028 : BitVec 32 := Scalar.addi v205 c2_i32_888
  let c1_i32_1129 : BitVec 32 := 1#32
  let v1293 : BitVec 32 := Scalar.addi v1028 c1_i32_1129
  let c256_i32_1130 : BitVec 32 := 256#32
  let v1294 : BitVec 32 := Scalar.muli v1293 c256_i32_1130
  v1294
def k0_mult113 (i : grid0.Coords) : BitVec 32 :=
  let arg1 : BitVec 32 := BitVec.ofNat 32 (i 1).val
  let c4_i32_159 : BitVec 32 := 4#32
  let c0_i32_160 : BitVec 32 := 0#32
  let v195 : BitVec 1 := Scalar.cmpi .eq c4_i32_159 c0_i32_160
  let c1_i32_161 : BitVec 32 := 1#32
  let v196 : BitVec 32 := Scalar.select v195 c1_i32_161 c4_i32_159
  let v197 : BitVec 32 := Scalar.remsi arg1 v196
  let c0_i32_163 : BitVec 32 := 0#32
  let v199 : BitVec 1 := Scalar.cmpi .slt v197 c0_i32_163
  let c0_i32_164 : BitVec 32 := 0#32
  let v200 : BitVec 1 := Scalar.cmpi .slt v196 c0_i32_164
  let v201 : BitVec 1 := Scalar.xori v199 v200
  let c0_i32_162 : BitVec 32 := 0#32
  let v198 : BitVec 1 := Scalar.cmpi .ne v197 c0_i32_162
  let v202 : BitVec 1 := Scalar.andi v201 v198
  let v203 : BitVec 32 := Scalar.addi v197 v196
  let v204 : BitVec 32 := Scalar.select v202 v203 v197
  let v205 : BitVec 32 := Scalar.subi arg1 v204
  let c2_i32_888 : BitVec 32 := 2#32
  let v1028 : BitVec 32 := Scalar.addi v205 c2_i32_888
  let c1_i32_1169 : BitVec 32 := 1#32
  let v1337 : BitVec 32 := Scalar.addi v1028 c1_i32_1169
  let c256_i32_1170 : BitVec 32 := 256#32
  let v1338 : BitVec 32 := Scalar.muli v1337 c256_i32_1170
  v1338
def k0_off105 (i : grid0.Coords) : Fin 5 → Nat :=
  let c0_1305 : Index := 0#32
  let c0_1306 : Index := 0#32
  let arg1 : BitVec 32 := BitVec.ofNat 32 (i 1).val
  let v1525 : Index := Scalar.indexCast arg1
  let c0_1307 : Index := 0#32
  let c0_1308 : Index := 0#32
  ![0, 0, v1525.toNat, 0, 0]
def k0_off106 (i : grid0.Coords) : Fin 5 → Nat :=
  let c0_1316 : Index := 0#32
  let c0_1317 : Index := 0#32
  let arg1 : BitVec 32 := BitVec.ofNat 32 (i 1).val
  let v1538 : Index := Scalar.indexCast arg1
  let c64_1318 : Index := 64#32
  let c0_1319 : Index := 0#32
  ![0, 0, v1538.toNat, 64, 0]
def k0_off107 (i : grid0.Coords) : Fin 5 → Nat :=
  let c0_1327 : Index := 0#32
  let c1_1328 : Index := 1#32
  let arg1 : BitVec 32 := BitVec.ofNat 32 (i 1).val
  let v1551 : Index := Scalar.indexCast arg1
  let c0_1329 : Index := 0#32
  let c0_1330 : Index := 0#32
  ![0, 1, v1551.toNat, 0, 0]
def k0_off108 (i : grid0.Coords) : Fin 5 → Nat :=
  let c0_1338 : Index := 0#32
  let c1_1339 : Index := 1#32
  let arg1 : BitVec 32 := BitVec.ofNat 32 (i 1).val
  let v1564 : Index := Scalar.indexCast arg1
  let c64_1340 : Index := 64#32
  let c0_1341 : Index := 0#32
  ![0, 1, v1564.toNat, 64, 0]
def k0_off109 (i : grid0.Coords) : Fin 5 → Nat :=
  let c0_1349 : Index := 0#32
  let c2_1350 : Index := 2#32
  let arg1 : BitVec 32 := BitVec.ofNat 32 (i 1).val
  let v1577 : Index := Scalar.indexCast arg1
  let c0_1351 : Index := 0#32
  let c0_1352 : Index := 0#32
  ![0, 2, v1577.toNat, 0, 0]
def k0_off110 (i : grid0.Coords) : Fin 5 → Nat :=
  let c0_1360 : Index := 0#32
  let c2_1361 : Index := 2#32
  let arg1 : BitVec 32 := BitVec.ofNat 32 (i 1).val
  let v1590 : Index := Scalar.indexCast arg1
  let c64_1362 : Index := 64#32
  let c0_1363 : Index := 0#32
  ![0, 2, v1590.toNat, 64, 0]
def k0_off111 (i : grid0.Coords) : Fin 5 → Nat :=
  let c0_1371 : Index := 0#32
  let c3_1372 : Index := 3#32
  let arg1 : BitVec 32 := BitVec.ofNat 32 (i 1).val
  let v1603 : Index := Scalar.indexCast arg1
  let c0_1373 : Index := 0#32
  let c0_1374 : Index := 0#32
  ![0, 3, v1603.toNat, 0, 0]
def k0_off112 (i : grid0.Coords) : Fin 5 → Nat :=
  let c0_1382 : Index := 0#32
  let c3_1383 : Index := 3#32
  let arg1 : BitVec 32 := BitVec.ofNat 32 (i 1).val
  let v1616 : Index := Scalar.indexCast arg1
  let c64_1384 : Index := 64#32
  let c0_1385 : Index := 0#32
  ![0, 3, v1616.toNat, 64, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4x32x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S4x8x8192x8192 : Shape := ⟨4, ![4, 8, 8192, 8192]⟩
abbrev S4x8192x8192x8 : Shape := ⟨4, ![4, 8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S32768x512 : Shape := ⟨2, ![32768, 512]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S4x8x8192x8192, .f32⟩
  | .hbm, ⟨6, _⟩ => ⟨S4x8192x8192x8, .f32⟩
  | .hbm, ⟨7, _⟩ => ⟨S4x8x8192x8192, .f32⟩
  | .hbm, ⟨8, _⟩ => ⟨S4x8x8192x8192, .f32⟩
  | .hbm, ⟨9, _⟩ => ⟨S_, .f32⟩
  | .hbm, ⟨10, _⟩ => ⟨S4x8x8192x8192, .f32⟩
  | .hbm, ⟨11, _⟩ => ⟨S4x8x8192x8192, .f32⟩
  | .hbm, ⟨12, _⟩ => ⟨S8192, .i32⟩
  | .hbm, ⟨13, _⟩ => ⟨S1x8192, .i32⟩
  | .hbm, ⟨14, _⟩ => ⟨S_, .i32⟩
  | .hbm, ⟨15, _⟩ => ⟨S_, .i32⟩
  | .hbm, ⟨16, _⟩ => ⟨S1x8192, .i32⟩
  | .hbm, ⟨17, _⟩ => ⟨S1x8192, .i32⟩
  | .hbm, ⟨18, _⟩ => ⟨S1x8192, .i32⟩
  | .hbm, ⟨19, _⟩ => ⟨S_, .i32⟩
  | .hbm, ⟨20, _⟩ => ⟨S1x8192, .i32⟩
  | .hbm, ⟨21, _⟩ => ⟨S1x8192, .i1⟩
  | .hbm, ⟨22, _⟩ => ⟨S1x8192, .i32⟩
  | .hbm, ⟨23, _⟩ => ⟨S1x8192, .i32⟩
  | .hbm, ⟨24, _⟩ => ⟨S_, .i32⟩
  | .hbm, ⟨25, _⟩ => ⟨S1x8192, .i32⟩
  | .hbm, ⟨26, _⟩ => ⟨S1x8192, .i1⟩
  | .hbm, ⟨27, _⟩ => ⟨S1x8192, .i1⟩
  | .hbm, ⟨28, _⟩ => ⟨S_, .i32⟩
  | .hbm, ⟨29, _⟩ => ⟨S1x8192, .i32⟩
  | .hbm, ⟨30, _⟩ => ⟨S1x8192, .i32⟩
  | .hbm, ⟨31, _⟩ => ⟨S1x8192, .i32⟩
  | .hbm, ⟨32, _⟩ => ⟨S8192x1, .i32⟩
  | .hbm, ⟨33, _⟩ => ⟨S_, .i32⟩
  | .hbm, ⟨34, _⟩ => ⟨S_, .i32⟩
  | .hbm, ⟨35, _⟩ => ⟨S8192x1, .i32⟩
  | .hbm, ⟨36, _⟩ => ⟨S8192x1, .i32⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i1⟩
  | .hbm, ⟨41, _⟩ => ⟨S8192x1, .i32⟩
  | .hbm, ⟨42, _⟩ => ⟨S8192x1, .i32⟩
  | .hbm, ⟨43, _⟩ => ⟨S_, .i32⟩
  | .hbm, ⟨44, _⟩ => ⟨S8192x1, .i32⟩
  | .hbm, ⟨45, _⟩ => ⟨S8192x1, .i1⟩
  | .hbm, ⟨46, _⟩ => ⟨S8192x1, .i1⟩
  | .hbm, ⟨47, _⟩ => ⟨S_, .i32⟩
  | .hbm, ⟨48, _⟩ => ⟨S8192x1, .i32⟩
  | .hbm, ⟨49, _⟩ => ⟨S8192x1, .i32⟩
  | .hbm, ⟨50, _⟩ => ⟨S8192x1, .i32⟩
  | .hbm, ⟨51, _⟩ => ⟨S8192x8192, .i32⟩
  | .hbm, ⟨52, _⟩ => ⟨S8192x8192, .i32⟩
  | .hbm, ⟨53, _⟩ => ⟨S8192x8192, .i1⟩
  | .hbm, ⟨54, _⟩ => ⟨S_, .f32⟩
  | .hbm, ⟨55, _⟩ => ⟨S_, .f32⟩
  | .hbm, ⟨56, _⟩ => ⟨S4x8x8192x8192, .i1⟩
  | .hbm, ⟨57, _⟩ => ⟨S4x8x8192x8192, .f32⟩
  | .hbm, ⟨58, _⟩ => ⟨S4x8x8192x8192, .f32⟩
  | .hbm, ⟨59, _⟩ => ⟨S_, .f32⟩
  | .hbm, ⟨60, _⟩ => ⟨S4x8x8192, .f32⟩
  | .hbm, ⟨61, _⟩ => ⟨S_, .f32⟩
  | .hbm, ⟨62, _⟩ => ⟨S4x8x8192, .f32⟩
  | .hbm, ⟨63, _⟩ => ⟨S4x8x8192, .f32⟩
  | .hbm, ⟨64, _⟩ => ⟨S4x8x8192x1, .f32⟩
  | .hbm, ⟨65, _⟩ => ⟨S4x8x8192x8192, .f32⟩
  | .hbm, ⟨66, _⟩ => ⟨S4x8x8192x8192, .f32⟩
  | .hbm, ⟨67, _⟩ => ⟨S4x8x8192x8192, .f32⟩
  | .hbm, ⟨68, _⟩ => ⟨S_, .f32⟩
  | .hbm, ⟨69, _⟩ => ⟨S4x8x8192, .f32⟩
  | .hbm, ⟨70, _⟩ => ⟨S4x8x8192x1, .f32⟩
  | .hbm, ⟨71, _⟩ => ⟨S4x8x8192x8192, .f32⟩
  | .hbm, ⟨72, _⟩ => ⟨S4x8x8192x8192, .f32⟩
  | .hbm, ⟨73, _⟩ => ⟨S4x8x64x8192, .f32⟩
  | .hbm, ⟨74, _⟩ => ⟨S4x8192x8x64, .f32⟩
  | .hbm, ⟨75, _⟩ => ⟨S32768x512, .f32⟩
  | .hbm, ⟨76, _⟩ => ⟨S32768x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v14 : Ref sig .tc := ⟨.hbm, 58, rfl⟩
abbrev main_cst_2 : Ref sig .tc := ⟨.hbm, 59, rfl⟩
abbrev main_v15 : Ref sig .tc := ⟨.hbm, 60, rfl⟩
abbrev main_cst_3 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_cst_4 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩

abbrev nD : Nat := 1
abbrev τ : Topo := Topo.v7x

variable {F : FTy → Type} [FloatOps F]
-- ==== Kernel2.lean ====
abbrev S16 : Shape := ⟨1, ![16]⟩
abbrev S73728x1024 : Shape := ⟨2, ![73728, 1024]⟩
abbrev S16x1024x512 : Shape := ⟨3, ![16, 1024, 512]⟩
abbrev S16x512x1024 : Shape := ⟨3, ![16, 512, 1024]⟩
abbrev S_ : Shape := ⟨0, ![]⟩
abbrev S144 : Shape := ⟨1, ![144]⟩
abbrev S144x1 : Shape := ⟨2, ![144, 1]⟩
abbrev S1x16 : Shape := ⟨2, ![1, 16]⟩
abbrev S144x16 : Shape := ⟨2, ![144, 16]⟩
abbrev S1 : Shape := ⟨1, ![1]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 71
  | .vmem => 10
  | .smem => 2
  | _ => 0

abbrev bufTy : (tb : Table) → Fin (tcTables nBuf tb) → BufTy
  | .hbm, ⟨0, _⟩ => ⟨S16, .i32⟩
  | .hbm, ⟨1, _⟩ => ⟨S73728x1024, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S_, .i32⟩
  | .hbm, ⟨34, _⟩ => ⟨S16, .i32⟩
  | .hbm, ⟨35, _⟩ => ⟨S144, .i32⟩
  | .hbm, ⟨36, _⟩ => ⟨S_, .i32⟩
  | .hbm, ⟨37, _⟩ => ⟨S144, .i32⟩
  | .hbm, ⟨38, _⟩ => ⟨S144, .i32⟩
  | .hbm, ⟨39, _⟩ => ⟨S144x1, .i32⟩
  | .hbm, ⟨40, _⟩ => ⟨S1x16, .i32⟩
  | .hbm, ⟨41, _⟩ => ⟨S144x16, .i32⟩
  | .hbm, ⟨42, _⟩ => ⟨S144x16, .i32⟩
  | .hbm, ⟨43, _⟩ => ⟨S144x16, .i1⟩
  | .hbm, ⟨44, _⟩ => ⟨S144x16, .i32⟩
  | .hbm, ⟨45, _⟩ => ⟨S_, .i32⟩
  | .hbm, ⟨46, _⟩ => ⟨S144, .i32⟩
  | .hbm, ⟨47, _⟩ => ⟨S_, .i32⟩
  | .hbm, ⟨48, _⟩ => ⟨S144, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S16x1024x512, .bf16⟩
  | .hbm, ⟨68, _⟩ => ⟨S16x1024x512, .bf16⟩
  | .hbm, ⟨69, _⟩ => ⟨S16x512x1024, .bf16⟩
  | .hbm, ⟨70, _⟩ => ⟨S73728x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .smem, ⟨0, _⟩ => ⟨S144, .i32⟩
  | .local _ .smem, ⟨1, _⟩ => ⟨S1, .i32⟩
  | _, _ => ⟨S16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16 : Shape := ⟨1, ![16]⟩
abbrev S73728x1024 : Shape := ⟨2, ![73728, 1024]⟩
abbrev S16x1024x512 : Shape := ⟨3, ![16, 1024, 512]⟩
abbrev S16x512x1024 : Shape := ⟨3, ![16, 512, 1024]⟩
abbrev S73728 : Shape := ⟨1, ![73728]⟩
abbrev S_ : Shape := ⟨0, ![]⟩
abbrev S73728x1 : Shape := ⟨2, ![73728, 1]⟩
abbrev S1x16 : Shape := ⟨2, ![1, 16]⟩
abbrev S73728x16 : Shape := ⟨2, ![73728, 16]⟩
abbrev S1x1024x512 : Shape := ⟨3, ![1, 1024, 512]⟩
abbrev S1024x512 : Shape := ⟨2, ![1024, 512]⟩
abbrev S73728x512 : Shape := ⟨2, ![73728, 512]⟩
abbrev S1x512x1024 : Shape := ⟨3, ![1, 512, 1024]⟩
abbrev S512x1024 : Shape := ⟨2, ![512, 1024]⟩

abbrev nBuf : Space → Nat
  | .hbm => 484
  | .vmem => 0
  | .smem => 0
  | _ => 0

abbrev hbmTy0_0 (i : Nat) : BufTy := match i % 128 with
  | 0 => ⟨S16, .i32⟩
  | 1 => ⟨S73728x1024, .f32⟩
  | 2 => ⟨S16x1024x512, .f32⟩
  | 3 => ⟨S16x1024x512, .f32⟩
  | 4 => ⟨S16x512x1024, .f32⟩
  | 5 => ⟨S73728, .i32⟩
  | 6 => ⟨S_, .i32⟩
  | 7 => ⟨S16, .i32⟩
  | 8 => ⟨S16, .i32⟩
  | 9 => ⟨S_, .i32⟩
  | 10 => ⟨S16, .i32⟩
  | 11 => ⟨S16, .i32⟩
  | 12 => ⟨S_, .i32⟩
  | 13 => ⟨S_, .i32⟩
  | 14 => ⟨S16, .i32⟩
  | 15 => ⟨S16, .i32⟩
  | 16 => ⟨S16, .i32⟩
  | 17 => ⟨S_, .i32⟩
  | 18 => ⟨S16, .i32⟩
  | 19 => ⟨S16, .i1⟩
  | 20 => ⟨S16, .i32⟩
  | 21 => ⟨S16, .i32⟩
  | 22 => ⟨S_, .i32⟩
  | 23 => ⟨S16, .i32⟩
  | 24 => ⟨S16, .i1⟩
  | 25 => ⟨S16, .i1⟩
  | 26 => ⟨S_, .i32⟩
  | 27 => ⟨S16, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S_, .i32⟩
  | 35 => ⟨S16, .i32⟩
  | 36 => ⟨S73728x1, .i32⟩
  | 37 => ⟨S16, .i32⟩
  | 38 => ⟨S1x16, .i32⟩
  | 39 => ⟨S73728x16, .i32⟩
  | 40 => ⟨S73728x16, .i32⟩
  | 41 => ⟨S73728x16, .i1⟩
  | 42 => ⟨S73728x1, .i32⟩
  | 43 => ⟨S1x16, .i32⟩
  | 44 => ⟨S73728x16, .i32⟩
  | 45 => ⟨S73728x16, .i32⟩
  | 46 => ⟨S73728x16, .i1⟩
  | 47 => ⟨S73728x16, .i1⟩
  | 48 => ⟨S73728x16, .f32⟩
  | 49 => ⟨S73728x1024, .bf16⟩
  | 50 => ⟨S_, .f32⟩
  | 51 => ⟨S73728x1024, .f32⟩
  | 52 => ⟨S1x1024x512, .f32⟩
  | 53 => ⟨S1024x512, .f32⟩
  | 54 => ⟨S1024x512, .bf16⟩
  | 55 => ⟨S73728x512, .f32⟩
  | 56 => ⟨S1x1024x512, .f32⟩
  | 57 => ⟨S1024x512, .f32⟩
  | 58 => ⟨S1024x512, .bf16⟩
  | 59 => ⟨S73728x512, .f32⟩
  | 60 => ⟨S73728x512, .f32⟩
  | 61 => ⟨S73728x512, .f32⟩
  | 62 => ⟨S_, .f32⟩
  | 63 => ⟨S73728x512, .f32⟩
  | 64 => ⟨S73728x512, .f32⟩
  | 65 => ⟨S_, .f32⟩
  | 66 => ⟨S73728x512, .f32⟩
  | 67 => ⟨S73728x512, .f32⟩
  | 68 => ⟨S73728x512, .f32⟩
  | 69 => ⟨S73728x512, .f32⟩
  | 70 => ⟨S73728x512, .bf16⟩
  | 71 => ⟨S73728x1, .f32⟩
  | 72 => ⟨S1x512x1024, .f32⟩
  | 73 => ⟨S512x1024, .f32⟩
  | 74 => ⟨S512x1024, .bf16⟩
  | 75 => ⟨S73728x1024, .f32⟩
  | 76 => ⟨S73728x1024, .f32⟩
  | 77 => ⟨S73728x1024, .f32⟩
  | 78 => ⟨S73728x1024, .f32⟩
  | 79 => ⟨S1x1024x512, .f32⟩
  | 80 => ⟨S1024x512, .f32⟩
  | 81 => ⟨S1024x512, .bf16⟩
  | 82 => ⟨S73728x512, .f32⟩
  | 83 => ⟨S1x1024x512, .f32⟩
  | 84 => ⟨S1024x512, .f32⟩
  | 85 => ⟨S1024x512, .bf16⟩
  | 86 => ⟨S73728x512, .f32⟩
  | 87 => ⟨S73728x512, .f32⟩
  | 88 => ⟨S73728x512, .f32⟩
  | 89 => ⟨S_, .f32⟩
  | 90 => ⟨S73728x512, .f32⟩
  | 91 => ⟨S73728x512, .f32⟩
  | 92 => ⟨S_, .f32⟩
  | 93 => ⟨S73728x512, .f32⟩
  | 94 => ⟨S73728x512, .f32⟩
  | 95 => ⟨S73728x512, .f32⟩
  | 96 => ⟨S73728x512, .f32⟩
  | 97 => ⟨S73728x512, .bf16⟩
  | 98 => ⟨S73728x1, .f32⟩
  | 99 => ⟨S1x512x1024, .f32⟩
  | 100 => ⟨S512x1024, .f32⟩
  | 101 => ⟨S512x1024, .bf16⟩
  | 102 => ⟨S73728x1024, .f32⟩
  | 103 => ⟨S73728x1024, .f32⟩
  | 104 => ⟨S73728x1024, .f32⟩
  | 105 => ⟨S73728x1024, .f32⟩
  | 106 => ⟨S1x1024x512, .f32⟩
  | 107 => ⟨S1024x512, .f32⟩
  | 108 => ⟨S1024x512, .bf16⟩
  | 109 => ⟨S73728x512, .f32⟩
  | 110 => ⟨S1x1024x512, .f32⟩
  | 111 => ⟨S1024x512, .f32⟩
  | 112 => ⟨S1024x512, .bf16⟩
  | 113 => ⟨S73728x512, .f32⟩
  | 114 => ⟨S73728x512, .f32⟩
  | 115 => ⟨S73728x512, .f32⟩
  | 116 => ⟨S_, .f32⟩
  | 117 => ⟨S73728x512, .f32⟩
  | 118 => ⟨S73728x512, .f32⟩
  | 119 => ⟨S_, .f32⟩
  | 120 => ⟨S73728x512, .f32⟩
  | 121 => ⟨S73728x512, .f32⟩
  | 122 => ⟨S73728x512, .f32⟩
  | 123 => ⟨S73728x512, .f32⟩
  | 124 => ⟨S73728x512, .bf16⟩
  | 125 => ⟨S73728x1, .f32⟩
  | 126 => ⟨S1x512x1024, .f32⟩
  | 127 => ⟨S512x1024, .f32⟩
  | _ => ⟨S16, .i32⟩

abbrev hbmTy0_1 (i : Nat) : BufTy := match i % 128 with
  | 0 => ⟨S512x1024, .bf16⟩
  | 1 => ⟨S73728x1024, .f32⟩
  | 2 => ⟨S73728x1024, .f32⟩
  | 3 => ⟨S73728x1024, .f32⟩
  | 4 => ⟨S73728x1024, .f32⟩
  | 5 => ⟨S1x1024x512, .f32⟩
  | 6 => ⟨S1024x512, .f32⟩
  | 7 => ⟨S1024x512, .bf16⟩
  | 8 => ⟨S73728x512, .f32⟩
  | 9 => ⟨S1x1024x512, .f32⟩
  | 10 => ⟨S1024x512, .f32⟩
  | 11 => ⟨S1024x512, .bf16⟩
  | 12 => ⟨S73728x512, .f32⟩
  | 13 => ⟨S73728x512, .f32⟩
  | 14 => ⟨S73728x512, .f32⟩
  | 15 => ⟨S_, .f32⟩
  | 16 => ⟨S73728x512, .f32⟩
  | 17 => ⟨S73728x512, .f32⟩
  | 18 => ⟨S_, .f32⟩
  | 19 => ⟨S73728x512, .f32⟩
  | 20 => ⟨S73728x512, .f32⟩
  | 21 => ⟨S73728x512, .f32⟩
  | 22 => ⟨S73728x512, .f32⟩
  | 23 => ⟨S73728x512, .bf16⟩
  | 24 => ⟨S73728x1, .f32⟩
  | 25 => ⟨S1x512x1024, .f32⟩
  | 26 => ⟨S512x1024, .f32⟩
  | 27 => ⟨S512x1024, .bf16⟩
  | 28 => ⟨S73728x1024, .f32⟩
  | 29 => ⟨S73728x1024, .f32⟩
  | 30 => ⟨S73728x1024, .f32⟩
  | 31 => ⟨S73728x1024, .f32⟩
  | 32 => ⟨S1x1024x512, .f32⟩
  | 33 => ⟨S1024x512, .f32⟩
  | 34 => ⟨S1024x512, .bf16⟩
  | 35 => ⟨S73728x512, .f32⟩
  | 36 => ⟨S1x1024x512, .f32⟩
  | 37 => ⟨S1024x512, .f32⟩
  | 38 => ⟨S1024x512, .bf16⟩
  | 39 => ⟨S73728x512, .f32⟩
  | 40 => ⟨S73728x512, .f32⟩
  | 41 => ⟨S73728x512, .f32⟩
  | 42 => ⟨S_, .f32⟩
  | 43 => ⟨S73728x512, .f32⟩
  | 44 => ⟨S73728x512, .f32⟩
  | 45 => ⟨S_, .f32⟩
  | 46 => ⟨S73728x512, .f32⟩
  | 47 => ⟨S73728x512, .f32⟩
  | 48 => ⟨S73728x512, .f32⟩
  | 49 => ⟨S73728x512, .f32⟩
  | 50 => ⟨S73728x512, .bf16⟩
  | 51 => ⟨S73728x1, .f32⟩
  | 52 => ⟨S1x512x1024, .f32⟩
  | 53 => ⟨S512x1024, .f32⟩
  | 54 => ⟨S512x1024, .bf16⟩
  | 55 => ⟨S73728x1024, .f32⟩
  | 56 => ⟨S73728x1024, .f32⟩
  | 57 => ⟨S73728x1024, .f32⟩
  | 58 => ⟨S73728x1024, .f32⟩
  | 59 => ⟨S1x1024x512, .f32⟩
  | 60 => ⟨S1024x512, .f32⟩
  | 61 => ⟨S1024x512, .bf16⟩
  | 62 => ⟨S73728x512, .f32⟩
  | 63 => ⟨S1x1024x512, .f32⟩
  | 64 => ⟨S1024x512, .f32⟩
  | 65 => ⟨S1024x512, .bf16⟩
  | 66 => ⟨S73728x512, .f32⟩
  | 67 => ⟨S73728x512, .f32⟩
  | 68 => ⟨S73728x512, .f32⟩
  | 69 => ⟨S_, .f32⟩
  | 70 => ⟨S73728x512, .f32⟩
  | 71 => ⟨S73728x512, .f32⟩
  | 72 => ⟨S_, .f32⟩
  | 73 => ⟨S73728x512, .f32⟩
  | 74 => ⟨S73728x512, .f32⟩
  | 75 => ⟨S73728x512, .f32⟩
  | 76 => ⟨S73728x512, .f32⟩
  | 77 => ⟨S73728x512, .bf16⟩
  | 78 => ⟨S73728x1, .f32⟩
  | 79 => ⟨S1x512x1024, .f32⟩
  | 80 => ⟨S512x1024, .f32⟩
  | 81 => ⟨S512x1024, .bf16⟩
  | 82 => ⟨S73728x1024, .f32⟩
  | 83 => ⟨S73728x1024, .f32⟩
  | 84 => ⟨S73728x1024, .f32⟩
  | 85 => ⟨S73728x1024, .f32⟩
  | 86 => ⟨S1x1024x512, .f32⟩
  | 87 => ⟨S1024x512, .f32⟩
  | 88 => ⟨S1024x512, .bf16⟩
  | 89 => ⟨S73728x512, .f32⟩
  | 90 => ⟨S1x1024x512, .f32⟩
  | 91 => ⟨S1024x512, .f32⟩
  | 92 => ⟨S1024x512, .bf16⟩
  | 93 => ⟨S73728x512, .f32⟩
  | 94 => ⟨S73728x512, .f32⟩
  | 95 => ⟨S73728x512, .f32⟩
  | 96 => ⟨S_, .f32⟩
  | 97 => ⟨S73728x512, .f32⟩
  | 98 => ⟨S73728x512, .f32⟩
  | 99 => ⟨S_, .f32⟩
  | 100 => ⟨S73728x512, .f32⟩
  | 101 => ⟨S73728x512, .f32⟩
  | 102 => ⟨S73728x512, .f32⟩
  | 103 => ⟨S73728x512, .f32⟩
  | 104 => ⟨S73728x512, .bf16⟩
  | 105 => ⟨S73728x1, .f32⟩
  | 106 => ⟨S1x512x1024, .f32⟩
  | 107 => ⟨S512x1024, .f32⟩
  | 108 => ⟨S512x1024, .bf16⟩
  | 109 => ⟨S73728x1024, .f32⟩
  | 110 => ⟨S73728x1024, .f32⟩
  | 111 => ⟨S73728x1024, .f32⟩
  | 112 => ⟨S73728x1024, .f32⟩
  | 113 => ⟨S1x1024x512, .f32⟩
  | 114 => ⟨S1024x512, .f32⟩
  | 115 => ⟨S1024x512, .bf16⟩
  | 116 => ⟨S73728x512, .f32⟩
  | 117 => ⟨S1x1024x512, .f32⟩
  | 118 => ⟨S1024x512, .f32⟩
  | 119 => ⟨S1024x512, .bf16⟩
  | 120 => ⟨S73728x512, .f32⟩
  | 121 => ⟨S73728x512, .f32⟩
  | 122 => ⟨S73728x512, .f32⟩
  | 123 => ⟨S_, .f32⟩
  | 124 => ⟨S73728x512, .f32⟩
  | 125 => ⟨S73728x512, .f32⟩
  | 126 => ⟨S_, .f32⟩
  | 127 => ⟨S73728x512, .f32⟩
  | _ => ⟨S16, .i32⟩

abbrev hbmTy0_2 (i : Nat) : BufTy := match i % 128 with
  | 0 => ⟨S73728x512, .f32⟩
  | 1 => ⟨S73728x512, .f32⟩
  | 2 => ⟨S73728x512, .f32⟩
  | 3 => ⟨S73728x512, .bf16⟩
  | 4 => ⟨S73728x1, .f32⟩
  | 5 => ⟨S1x512x1024, .f32⟩
  | 6 => ⟨S512x1024, .f32⟩
  | 7 => ⟨S512x1024, .bf16⟩
  | 8 => ⟨S73728x1024, .f32⟩
  | 9 => ⟨S73728x1024, .f32⟩
  | 10 => ⟨S73728x1024, .f32⟩
  | 11 => ⟨S73728x1024, .f32⟩
  | 12 => ⟨S1x1024x512, .f32⟩
  | 13 => ⟨S1024x512, .f32⟩
  | 14 => ⟨S1024x512, .bf16⟩
  | 15 => ⟨S73728x512, .f32⟩
  | 16 => ⟨S1x1024x512, .f32⟩
  | 17 => ⟨S1024x512, .f32⟩
  | 18 => ⟨S1024x512, .bf16⟩
  | 19 => ⟨S73728x512, .f32⟩
  | 20 => ⟨S73728x512, .f32⟩
  | 21 => ⟨S73728x512, .f32⟩
  | 22 => ⟨S_, .f32⟩
  | 23 => ⟨S73728x512, .f32⟩
  | 24 => ⟨S73728x512, .f32⟩
  | 25 => ⟨S_, .f32⟩
  | 26 => ⟨S73728x512, .f32⟩
  | 27 => ⟨S73728x512, .f32⟩
  | 28 => ⟨S73728x512, .f32⟩
  | 29 => ⟨S73728x512, .f32⟩
  | 30 => ⟨S73728x512, .bf16⟩
  | 31 => ⟨S73728x1, .f32⟩
  | 32 => ⟨S1x512x1024, .f32⟩
  | 33 => ⟨S512x1024, .f32⟩
  | 34 => ⟨S512x1024, .bf16⟩
  | 35 => ⟨S73728x1024, .f32⟩
  | 36 => ⟨S73728x1024, .f32⟩
  | 37 => ⟨S73728x1024, .f32⟩
  | 38 => ⟨S73728x1024, .f32⟩
  | 39 => ⟨S1x1024x512, .f32⟩
  | 40 => ⟨S1024x512, .f32⟩
  | 41 => ⟨S1024x512, .bf16⟩
  | 42 => ⟨S73728x512, .f32⟩
  | 43 => ⟨S1x1024x512, .f32⟩
  | 44 => ⟨S1024x512, .f32⟩
  | 45 => ⟨S1024x512, .bf16⟩
  | 46 => ⟨S73728x512, .f32⟩
  | 47 => ⟨S73728x512, .f32⟩
  | 48 => ⟨S73728x512, .f32⟩
  | 49 => ⟨S_, .f32⟩
  | 50 => ⟨S73728x512, .f32⟩
  | 51 => ⟨S73728x512, .f32⟩
  | 52 => ⟨S_, .f32⟩
  | 53 => ⟨S73728x512, .f32⟩
  | 54 => ⟨S73728x512, .f32⟩
  | 55 => ⟨S73728x512, .f32⟩
  | 56 => ⟨S73728x512, .f32⟩
  | 57 => ⟨S73728x512, .bf16⟩
  | 58 => ⟨S73728x1, .f32⟩
  | 59 => ⟨S1x512x1024, .f32⟩
  | 60 => ⟨S512x1024, .f32⟩
  | 61 => ⟨S512x1024, .bf16⟩
  | 62 => ⟨S73728x1024, .f32⟩
  | 63 => ⟨S73728x1024, .f32⟩
  | 64 => ⟨S73728x1024, .f32⟩
  | 65 => ⟨S73728x1024, .f32⟩
  | 66 => ⟨S1x1024x512, .f32⟩
  | 67 => ⟨S1024x512, .f32⟩
  | 68 => ⟨S1024x512, .bf16⟩
  | 69 => ⟨S73728x512, .f32⟩
  | 70 => ⟨S1x1024x512, .f32⟩
  | 71 => ⟨S1024x512, .f32⟩
  | 72 => ⟨S1024x512, .bf16⟩
  | 73 => ⟨S73728x512, .f32⟩
  | 74 => ⟨S73728x512, .f32⟩
  | 75 => ⟨S73728x512, .f32⟩
  | 76 => ⟨S_, .f32⟩
  | 77 => ⟨S73728x512, .f32⟩
  | 78 => ⟨S73728x512, .f32⟩
  | 79 => ⟨S_, .f32⟩
  | 80 => ⟨S73728x512, .f32⟩
  | 81 => ⟨S73728x512, .f32⟩
  | 82 => ⟨S73728x512, .f32⟩
  | 83 => ⟨S73728x512, .f32⟩
  | 84 => ⟨S73728x512, .bf16⟩
  | 85 => ⟨S73728x1, .f32⟩
  | 86 => ⟨S1x512x1024, .f32⟩
  | 87 => ⟨S512x1024, .f32⟩
  | 88 => ⟨S512x1024, .bf16⟩
  | 89 => ⟨S73728x1024, .f32⟩
  | 90 => ⟨S73728x1024, .f32⟩
  | 91 => ⟨S73728x1024, .f32⟩
  | 92 => ⟨S73728x1024, .f32⟩
  | 93 => ⟨S1x1024x512, .f32⟩
  | 94 => ⟨S1024x512, .f32⟩
  | 95 => ⟨S1024x512, .bf16⟩
  | 96 => ⟨S73728x512, .f32⟩
  | 97 => ⟨S1x1024x512, .f32⟩
  | 98 => ⟨S1024x512, .f32⟩
  | 99 => ⟨S1024x512, .bf16⟩
  | 100 => ⟨S73728x512, .f32⟩
  | 101 => ⟨S73728x512, .f32⟩
  | 102 => ⟨S73728x512, .f32⟩
  | 103 => ⟨S_, .f32⟩
  | 104 => ⟨S73728x512, .f32⟩
  | 105 => ⟨S73728x512, .f32⟩
  | 106 => ⟨S_, .f32⟩
  | 107 => ⟨S73728x512, .f32⟩
  | 108 => ⟨S73728x512, .f32⟩
  | 109 => ⟨S73728x512, .f32⟩
  | 110 => ⟨S73728x512, .f32⟩
  | 111 => ⟨S73728x512, .bf16⟩
  | 112 => ⟨S73728x1, .f32⟩
  | 113 => ⟨S1x512x1024, .f32⟩
  | 114 => ⟨S512x1024, .f32⟩
  | 115 => ⟨S512x1024, .bf16⟩
  | 116 => ⟨S73728x1024, .f32⟩
  | 117 => ⟨S73728x1024, .f32⟩
  | 118 => ⟨S73728x1024, .f32⟩
  | 119 => ⟨S73728x1024, .f32⟩
  | 120 => ⟨S1x1024x512, .f32⟩
  | 121 => ⟨S1024x512, .f32⟩
  | 122 => ⟨S1024x512, .bf16⟩
  | 123 => ⟨S73728x512, .f32⟩
  | 124 => ⟨S1x1024x512, .f32⟩
  | 125 => ⟨S1024x512, .f32⟩
  | 126 => ⟨S1024x512, .bf16⟩
  | 127 => ⟨S73728x512, .f32⟩
  | _ => ⟨S16, .i32⟩

abbrev hbmTy0_3 (i : Nat) : BufTy := match i % 128 with
  | 0 => ⟨S73728x512, .f32⟩
  | 1 => ⟨S73728x512, .f32⟩
  | 2 => ⟨S_, .f32⟩
  | 3 => ⟨S73728x512, .f32⟩
  | 4 => ⟨S73728x512, .f32⟩
  | 5 => ⟨S_, .f32⟩
  | 6 => ⟨S73728x512, .f32⟩
  | 7 => ⟨S73728x512, .f32⟩
  | 8 => ⟨S73728x512, .f32⟩
  | 9 => ⟨S73728x512, .f32⟩
  | 10 => ⟨S73728x512, .bf16⟩
  | 11 => ⟨S73728x1, .f32⟩
  | 12 => ⟨S1x512x1024, .f32⟩
  | 13 => ⟨S512x1024, .f32⟩
  | 14 => ⟨S512x1024, .bf16⟩
  | 15 => ⟨S73728x1024, .f32⟩
  | 16 => ⟨S73728x1024, .f32⟩
  | 17 => ⟨S73728x1024, .f32⟩
  | 18 => ⟨S73728x1024, .f32⟩
  | 19 => ⟨S1x1024x512, .f32⟩
  | 20 => ⟨S1024x512, .f32⟩
  | 21 => ⟨S1024x512, .bf16⟩
  | 22 => ⟨S73728x512, .f32⟩
  | 23 => ⟨S1x1024x512, .f32⟩
  | 24 => ⟨S1024x512, .f32⟩
  | 25 => ⟨S1024x512, .bf16⟩
  | 26 => ⟨S73728x512, .f32⟩
  | 27 => ⟨S73728x512, .f32⟩
  | 28 => ⟨S73728x512, .f32⟩
  | 29 => ⟨S_, .f32⟩
  | 30 => ⟨S73728x512, .f32⟩
  | 31 => ⟨S73728x512, .f32⟩
  | 32 => ⟨S_, .f32⟩
  | 33 => ⟨S73728x512, .f32⟩
  | 34 => ⟨S73728x512, .f32⟩
  | 35 => ⟨S73728x512, .f32⟩
  | 36 => ⟨S73728x512, .f32⟩
  | 37 => ⟨S73728x512, .bf16⟩
  | 38 => ⟨S73728x1, .f32⟩
  | 39 => ⟨S1x512x1024, .f32⟩
  | 40 => ⟨S512x1024, .f32⟩
  | 41 => ⟨S512x1024, .bf16⟩
  | 42 => ⟨S73728x1024, .f32⟩
  | 43 => ⟨S73728x1024, .f32⟩
  | 44 => ⟨S73728x1024, .f32⟩
  | 45 => ⟨S73728x1024, .f32⟩
  | 46 => ⟨S1x1024x512, .f32⟩
  | 47 => ⟨S1024x512, .f32⟩
  | 48 => ⟨S1024x512, .bf16⟩
  | 49 => ⟨S73728x512, .f32⟩
  | 50 => ⟨S1x1024x512, .f32⟩
  | 51 => ⟨S1024x512, .f32⟩
  | 52 => ⟨S1024x512, .bf16⟩
  | 53 => ⟨S73728x512, .f32⟩
  | 54 => ⟨S73728x512, .f32⟩
  | 55 => ⟨S73728x512, .f32⟩
  | 56 => ⟨S_, .f32⟩
  | 57 => ⟨S73728x512, .f32⟩
  | 58 => ⟨S73728x512, .f32⟩
  | 59 => ⟨S_, .f32⟩
  | 60 => ⟨S73728x512, .f32⟩
  | 61 => ⟨S73728x512, .f32⟩
  | 62 => ⟨S73728x512, .f32⟩
  | 63 => ⟨S73728x512, .f32⟩
  | 64 => ⟨S73728x512, .bf16⟩
  | 65 => ⟨S73728x1, .f32⟩
  | 66 => ⟨S1x512x1024, .f32⟩
  | 67 => ⟨S512x1024, .f32⟩
  | 68 => ⟨S512x1024, .bf16⟩
  | 69 => ⟨S73728x1024, .f32⟩
  | 70 => ⟨S73728x1024, .f32⟩
  | 71 => ⟨S73728x1024, .f32⟩
  | 72 => ⟨S73728x1024, .f32⟩
  | 73 => ⟨S1x1024x512, .f32⟩
  | 74 => ⟨S1024x512, .f32⟩
  | 75 => ⟨S1024x512, .bf16⟩
  | 76 => ⟨S73728x512, .f32⟩
  | 77 => ⟨S1x1024x512, .f32⟩
  | 78 => ⟨S1024x512, .f32⟩
  | 79 => ⟨S1024x512, .bf16⟩
  | 80 => ⟨S73728x512, .f32⟩
  | 81 => ⟨S73728x512, .f32⟩
  | 82 => ⟨S73728x512, .f32⟩
  | 83 => ⟨S_, .f32⟩
  | 84 => ⟨S73728x512, .f32⟩
  | 85 => ⟨S73728x512, .f32⟩
  | 86 => ⟨S_, .f32⟩
  | 87 => ⟨S73728x512, .f32⟩
  | 88 => ⟨S73728x512, .f32⟩
  | 89 => ⟨S73728x512, .f32⟩
  | 90 => ⟨S73728x512, .f32⟩
  | 91 => ⟨S73728x512, .bf16⟩
  | 92 => ⟨S73728x1, .f32⟩
  | 93 => ⟨S1x512x1024, .f32⟩
  | 94 => ⟨S512x1024, .f32⟩
  | 95 => ⟨S512x1024, .bf16⟩
  | 96 => ⟨S73728x1024, .f32⟩
  | 97 => ⟨S73728x1024, .f32⟩
  | 98 => ⟨S73728x1024, .f32⟩
  | 99 => ⟨S73728x1024, .f32⟩
  | _ => ⟨S16, .i32⟩

abbrev hbmTy (i : Nat) : BufTy := match i / 128 with
  | 0 => hbmTy0_0 i
  | 1 => hbmTy0_1 i
  | 2 => hbmTy0_2 i
  | 3 => hbmTy0_3 i
  | _ => ⟨S16, .i32⟩

abbrev bufTy : (tb : Table) → Fin (tcTables nBuf tb) → BufTy
  | .hbm, ⟨i, _⟩ => hbmTy i
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_c_2 : Ref sig .tc := ⟨.hbm, 30, rfl⟩
abbrev main_v6 : Ref sig .tc := ⟨.hbm, 31, rfl⟩
abbrev main_v7 : Ref sig .tc := ⟨.hbm, 32, rfl⟩
abbrev main_call1_call0_c : Ref sig .tc := ⟨.hbm, 33, rfl⟩
abbrev main_call1_call0_v0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_call5_v5 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_call6_v0 : Ref sig .tc := ⟨.hbm, 168, rfl⟩
abbrev main_call6_v1 : Ref sig .tc := ⟨.hbm, 169, rfl⟩
abbrev main_call6_cst : Ref sig .tc := ⟨.hbm, 170, rfl⟩
abbrev main_call6_v2 : Ref sig .tc := ⟨.hbm, 171, rfl⟩
abbrev main_call6_v3 : Ref sig .tc := ⟨.hbm, 172, rfl⟩
abbrev main_call6_cst_0 : Ref sig .tc := ⟨.hbm, 173, rfl⟩
abbrev main_call6_v4 : Ref sig .tc := ⟨.hbm, 174, rfl⟩
abbrev main_call6_v5 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_call7_v0 : Ref sig .tc := ⟨.hbm, 195, rfl⟩
abbrev main_call7_v1 : Ref sig .tc := ⟨.hbm, 196, rfl⟩
abbrev main_call7_cst : Ref sig .tc := ⟨.hbm, 197, rfl⟩
abbrev main_call7_v2 : Ref sig .tc := ⟨.hbm, 198, rfl⟩
abbrev main_call7_v3 : Ref sig .tc := ⟨.hbm, 199, rfl⟩
abbrev main_call7_cst_0 : Ref sig .tc := ⟨.hbm, 200, rfl⟩
abbrev main_call7_v4 : Ref sig .tc := ⟨.hbm, 201, rfl⟩
abbrev main_call7_v5 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_call8_v0 : Ref sig .tc := ⟨.hbm, 222, rfl⟩
abbrev main_call8_v1 : Ref sig .tc := ⟨.hbm, 223, rfl⟩
abbrev main_call8_cst : Ref sig .tc := ⟨.hbm, 224, rfl⟩
abbrev main_call8_v2 : Ref sig .tc := ⟨.hbm, 225, rfl⟩
abbrev main_call8_v3 : Ref sig .tc := ⟨.hbm, 226, rfl⟩
abbrev main_call8_cst_0 : Ref sig .tc := ⟨.hbm, 227, rfl⟩
abbrev main_call8_v4 : Ref sig .tc := ⟨.hbm, 228, rfl⟩
abbrev main_call8_v5 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_call9_v0 : Ref sig .tc := ⟨.hbm, 249, rfl⟩
abbrev main_call9_v1 : Ref sig .tc := ⟨.hbm, 250, rfl⟩
abbrev main_call9_cst : Ref sig .tc := ⟨.hbm, 251, rfl⟩
abbrev main_call9_v2 : Ref sig .tc := ⟨.hbm, 252, rfl⟩
abbrev main_call9_v3 : Ref sig .tc := ⟨.hbm, 253, rfl⟩
abbrev main_call9_cst_0 : Ref sig .tc := ⟨.hbm, 254, rfl⟩
abbrev main_call9_v4 : Ref sig .tc := ⟨.hbm, 255, rfl⟩
abbrev main_call9_v5 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_call10_v0 : Ref sig .tc := ⟨.hbm, 276, rfl⟩
abbrev main_call10_v1 : Ref sig .tc := ⟨.hbm, 277, rfl⟩
abbrev main_call10_cst : Ref sig .tc := ⟨.hbm, 278, rfl⟩
abbrev main_call10_v2 : Ref sig .tc := ⟨.hbm, 279, rfl⟩
abbrev main_call10_v3 : Ref sig .tc := ⟨.hbm, 280, rfl⟩
abbrev main_call10_cst_0 : Ref sig .tc := ⟨.hbm, 281, rfl⟩
abbrev main_call10_v4 : Ref sig .tc := ⟨.hbm, 282, rfl⟩
abbrev main_call10_v5 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_call11_v0 : Ref sig .tc := ⟨.hbm, 303, rfl⟩
abbrev main_call11_v1 : Ref sig .tc := ⟨.hbm, 304, rfl⟩
abbrev main_call11_cst : Ref sig .tc := ⟨.hbm, 305, rfl⟩
abbrev main_call11_v2 : Ref sig .tc := ⟨.hbm, 306, rfl⟩
abbrev main_call11_v3 : Ref sig .tc := ⟨.hbm, 307, rfl⟩
abbrev main_call11_cst_0 : Ref sig .tc := ⟨.hbm, 308, rfl⟩
abbrev main_call11_v4 : Ref sig .tc := ⟨.hbm, 309, rfl⟩
abbrev main_call11_v5 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_v221 : Ref sig .tc := ⟨.hbm, 329, rfl⟩
abbrev main_call12_v0 : Ref sig .tc := ⟨.hbm, 330, rfl⟩
abbrev main_call12_v1 : Ref sig .tc := ⟨.hbm, 331, rfl⟩
abbrev main_call12_cst : Ref sig .tc := ⟨.hbm, 332, rfl⟩
abbrev main_call12_v2 : Ref sig .tc := ⟨.hbm, 333, rfl⟩
abbrev main_call12_v3 : Ref sig .tc := ⟨.hbm, 334, rfl⟩
abbrev main_call12_cst_0 : Ref sig .tc := ⟨.hbm, 335, rfl⟩
abbrev main_call12_v4 : Ref sig .tc := ⟨.hbm, 336, rfl⟩
abbrev main_call12_v5 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_v229 : Ref sig .tc := ⟨.hbm, 345, rfl⟩
abbrev main_v230 : Ref sig .tc := ⟨.hbm, 346, rfl⟩
abbrev main_v231 : Ref sig .tc := ⟨.hbm, 347, rfl⟩
abbrev main_v232 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_v240 : Ref sig .tc := ⟨.hbm, 356, rfl⟩
abbrev main_call13_v0 : Ref sig .tc := ⟨.hbm, 357, rfl⟩
abbrev main_call13_v1 : Ref sig .tc := ⟨.hbm, 358, rfl⟩
abbrev main_call13_cst : Ref sig .tc := ⟨.hbm, 359, rfl⟩
abbrev main_call13_v2 : Ref sig .tc := ⟨.hbm, 360, rfl⟩
abbrev main_call13_v3 : Ref sig .tc := ⟨.hbm, 361, rfl⟩
abbrev main_call13_cst_0 : Ref sig .tc := ⟨.hbm, 362, rfl⟩
abbrev main_call13_v4 : Ref sig .tc := ⟨.hbm, 363, rfl⟩
abbrev main_call13_v5 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_call14_v0 : Ref sig .tc := ⟨.hbm, 384, rfl⟩
abbrev main_call14_v1 : Ref sig .tc := ⟨.hbm, 385, rfl⟩
abbrev main_call14_cst : Ref sig .tc := ⟨.hbm, 386, rfl⟩
abbrev main_call14_v2 : Ref sig .tc := ⟨.hbm, 387, rfl⟩
abbrev main_call14_v3 : Ref sig .tc := ⟨.hbm, 388, rfl⟩
abbrev main_call14_cst_0 : Ref sig .tc := ⟨.hbm, 389, rfl⟩
abbrev main_call14_v4 : Ref sig .tc := ⟨.hbm, 390, rfl⟩
abbrev main_call14_v5 : Ref sig .tc := ⟨.hbm, 391, rfl⟩
abbrev main_v260 : Ref sig .tc := ⟨.hbm, 392, rfl⟩
abbrev main_v261 : Ref sig .tc := ⟨.hbm, 393, rfl⟩
abbrev main_v262 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_v271 : Ref sig .tc := ⟨.hbm, 403, rfl⟩
abbrev main_v272 : Ref sig .tc := ⟨.hbm, 404, rfl⟩
abbrev main_v273 : Ref sig .tc := ⟨.hbm, 405, rfl⟩
abbrev main_v274 : Ref sig .tc := ⟨.hbm, 406, rfl⟩
abbrev main_v275 : Ref sig .tc := ⟨.hbm, 407, rfl⟩
abbrev main_v276 : Ref sig .tc := ⟨.hbm, 408, rfl⟩
abbrev main_v277 : Ref sig .tc := ⟨.hbm, 409, rfl⟩
abbrev main_v278 : Ref sig .tc := ⟨.hbm, 410, rfl⟩
abbrev main_call15_v0 : Ref sig .tc := ⟨.hbm, 411, rfl⟩
abbrev main_call15_v1 : Ref sig .tc := ⟨.hbm, 412, rfl⟩
abbrev main_call15_cst : Ref sig .tc := ⟨.hbm, 413, rfl⟩
abbrev main_call15_v2 : Ref sig .tc := ⟨.hbm, 414, rfl⟩
abbrev main_call15_v3 : Ref sig .tc := ⟨.hbm, 415, rfl⟩
abbrev main_call15_cst_0 : Ref sig .tc := ⟨.hbm, 416, rfl⟩
abbrev main_call15_v4 : Ref sig .tc := ⟨.hbm, 417, rfl⟩
abbrev main_call15_v5 : Ref sig .tc := ⟨.hbm, 418, rfl⟩
abbrev main_v279 : Ref sig .tc := ⟨.hbm, 419, rfl⟩
abbrev main_v280 : Ref sig .tc := ⟨.hbm, 420, rfl⟩
abbrev main_v281 : Ref sig .tc := ⟨.hbm, 421, rfl⟩
abbrev main_v282 : Ref sig .tc := ⟨.hbm, 422, rfl⟩
abbrev main_v283 : Ref sig .tc := ⟨.hbm, 423, rfl⟩
abbrev main_v284 : Ref sig .tc := ⟨.hbm, 424, rfl⟩
abbrev main_v285 : Ref sig .tc := ⟨.hbm, 425, rfl⟩
abbrev main_v286 : Ref sig .tc := ⟨.hbm, 426, rfl⟩
abbrev main_v287 : Ref sig .tc := ⟨.hbm, 427, rfl⟩
abbrev main_v288 : Ref sig .tc := ⟨.hbm, 428, rfl⟩
abbrev main_v289 : Ref sig .tc := ⟨.hbm, 429, rfl⟩
abbrev main_v290 : Ref sig .tc := ⟨.hbm, 430, rfl⟩
abbrev main_v291 : Ref sig .tc := ⟨.hbm, 431, rfl⟩
abbrev main_v292 : Ref sig .tc := ⟨.hbm, 432, rfl⟩
abbrev main_v293 : Ref sig .tc := ⟨.hbm, 433, rfl⟩
abbrev main_v294 : Ref sig .tc := ⟨.hbm, 434, rfl⟩
abbrev main_v295 : Ref sig .tc := ⟨.hbm, 435, rfl⟩
abbrev main_v296 : Ref sig .tc := ⟨.hbm, 436, rfl⟩
abbrev main_v297 : Ref sig .tc := ⟨.hbm, 437, rfl⟩
abbrev main_call16_v0 : Ref sig .tc := ⟨.hbm, 438, rfl⟩
abbrev main_call16_v1 : Ref sig .tc := ⟨.hbm, 439, rfl⟩
abbrev main_call16_cst : Ref sig .tc := ⟨.hbm, 440, rfl⟩
abbrev main_call16_v2 : Ref sig .tc := ⟨.hbm, 441, rfl⟩
abbrev main_call16_v3 : Ref sig .tc := ⟨.hbm, 442, rfl⟩
abbrev main_call16_cst_0 : Ref sig .tc := ⟨.hbm, 443, rfl⟩
abbrev main_call16_v4 : Ref sig .tc := ⟨.hbm, 444, rfl⟩
abbrev main_call16_v5 : Ref sig .tc := ⟨.hbm, 445, rfl⟩
abbrev main_v298 : Ref sig .tc := ⟨.hbm, 446, rfl⟩
abbrev main_v299 : Ref sig .tc := ⟨.hbm, 447, rfl⟩
abbrev main_v300 : Ref sig .tc := ⟨.hbm, 448, rfl⟩
abbrev main_v301 : Ref sig .tc := ⟨.hbm, 449, rfl⟩
abbrev main_v302 : Ref sig .tc := ⟨.hbm, 450, rfl⟩
abbrev main_v303 : Ref sig .tc := ⟨.hbm, 451, rfl⟩
abbrev main_v304 : Ref sig .tc := ⟨.hbm, 452, rfl⟩
abbrev main_v305 : Ref sig .tc := ⟨.hbm, 453, rfl⟩
abbrev main_v306 : Ref sig .tc := ⟨.hbm, 454, rfl⟩
abbrev main_v307 : Ref sig .tc := ⟨.hbm, 455, rfl⟩
abbrev main_v308 : Ref sig .tc := ⟨.hbm, 456, rfl⟩
abbrev main_v309 : Ref sig .tc := ⟨.hbm, 457, rfl⟩
abbrev main_v310 : Ref sig .tc := ⟨.hbm, 458, rfl⟩
abbrev main_v311 : Ref sig .tc := ⟨.hbm, 459, rfl⟩
abbrev main_v312 : Ref sig .tc := ⟨.hbm, 460, rfl⟩
abbrev main_v313 : Ref sig .tc := ⟨.hbm, 461, rfl⟩
abbrev main_v314 : Ref sig .tc := ⟨.hbm, 462, rfl⟩
abbrev main_v315 : Ref sig .tc := ⟨.hbm, 463, rfl⟩
abbrev main_v316 : Ref sig .tc := ⟨.hbm, 464, rfl⟩
abbrev main_call17_v0 : Ref sig .tc := ⟨.hbm, 465, rfl⟩
abbrev main_call17_v1 : Ref sig .tc := ⟨.hbm, 466, rfl⟩
abbrev main_call17_cst : Ref sig .tc := ⟨.hbm, 467, rfl⟩
abbrev main_call17_v2 : Ref sig .tc := ⟨.hbm, 468, rfl⟩
abbrev main_call17_v3 : Ref sig .tc := ⟨.hbm, 469, rfl⟩
abbrev main_call17_cst_0 : Ref sig .tc := ⟨.hbm, 470, rfl⟩
abbrev main_call17_v4 : Ref sig .tc := ⟨.hbm, 471, rfl⟩
abbrev main_call17_v5 : Ref sig .tc := ⟨.hbm, 472, rfl⟩
abbrev main_v317 : Ref sig .tc := ⟨.hbm, 473, rfl⟩
abbrev main_v318 : Ref sig .tc := ⟨.hbm, 474, rfl⟩
abbrev main_v319 : Ref sig .tc := ⟨.hbm, 475, rfl⟩
abbrev main_v320 : Ref sig .tc := ⟨.hbm, 476, rfl⟩
abbrev main_v321 : Ref sig .tc := ⟨.hbm, 477, rfl⟩
abbrev main_v322 : Ref sig .tc := ⟨.hbm, 478, rfl⟩
abbrev main_v323 : Ref sig .tc := ⟨.hbm, 479, rfl⟩
abbrev main_v324 : Ref sig .tc := ⟨.hbm, 480, rfl⟩
abbrev main_v325 : Ref sig .tc := ⟨.hbm, 481, rfl⟩
abbrev main_v326 : Ref sig .tc := ⟨.hbm, 482, rfl⟩
abbrev main_v327 : Ref sig .tc := ⟨.hbm, 483, rfl⟩

abbrev nD : Nat := 1
abbrev τ : Topo := Topo.v7x

variable {F : FTy → Type} [FloatOps F]
-- ==== Kernel3.lean ====
abbrev S32768x512 : Shape := ⟨2, ![32768, 512]⟩
abbrev S32768x256 : Shape := ⟨2, ![32768, 256]⟩
abbrev S32768x1024 : Shape := ⟨2, ![32768, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S16x1024 : Shape := ⟨2, ![16, 1024]⟩
abbrev S16x1 : Shape := ⟨2, ![16, 1]⟩
abbrev S1x1024 : Shape := ⟨2, ![1, 1024]⟩
abbrev S8x32768 : Shape := ⟨2, ![8, 32768]⟩
abbrev S16x128 : Shape := ⟨2, ![16, 128]⟩
abbrev S512x512 : Shape := ⟨2, ![512, 512]⟩
abbrev S512x256 : Shape := ⟨2, ![512, 256]⟩
abbrev S512x1024 : Shape := ⟨2, ![512, 1024]⟩
abbrev S8x512 : Shape := ⟨2, ![8, 512]⟩
abbrev S16x512 : Shape := ⟨2, ![16, 512]⟩
abbrev S256x1024 : Shape := ⟨2, ![256, 1024]⟩
abbrev S512 : Shape := ⟨1, ![512]⟩
abbrev S512x1 : Shape := ⟨2, ![512, 1]⟩
abbrev S1x512 : Shape := ⟨2, ![1, 512]⟩

abbrev nBuf : Space → Nat
  | .hbm => 24
  | .vmem => 21
  | .smem => 0
  | _ => 0

abbrev bufTy : (tb : Table) → Fin (tcTables nBuf tb) → BufTy
  | .hbm, ⟨0, _⟩ => ⟨S32768x512, .f32⟩
  | .hbm, ⟨1, _⟩ => ⟨S32768x256, .f32⟩
  | .hbm, ⟨2, _⟩ => ⟨S32768x256, .f32⟩
  | .hbm, ⟨3, _⟩ => ⟨S32768x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S16, .f32⟩
  | .hbm, ⟨9, _⟩ => ⟨S16x1024, .f32⟩
  | .hbm, ⟨10, _⟩ => ⟨S16x1, .f32⟩
  | .hbm, ⟨11, _⟩ => ⟨S32768x512, .bf16⟩
  | .hbm, ⟨12, _⟩ => ⟨S32768x256, .bf16⟩
  | .hbm, ⟨13, _⟩ => ⟨S32768x256, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16x1024, .bf16⟩
  | .hbm, ⟨18, _⟩ => ⟨S16x1024, .f32⟩
  | .hbm, ⟨19, _⟩ => ⟨S16x1024, .f32⟩
  | .hbm, ⟨20, _⟩ => ⟨S16x1024, .bf16⟩
  | .hbm, ⟨21, _⟩ => ⟨S32768x1024, .f32⟩
  | .hbm, ⟨22, _⟩ => ⟨S8x32768, .f32⟩
  | .hbm, ⟨23, _⟩ => ⟨S16x128, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S16x1024, .bf16⟩
  | .local _ .vmem, ⟨12, _⟩ => ⟨S16x1024, .bf16⟩
  | .local _ .vmem, ⟨13, _⟩ => ⟨S16x1, .f32⟩
  | .local _ .vmem, ⟨14, _⟩ => ⟨S512x1024, .f32⟩
  | .local _ .vmem, ⟨15, _⟩ => ⟨S512x1024, .f32⟩
  | .local _ .vmem, ⟨16, _⟩ => ⟨S8x512, .f32⟩
  | .local _ .vmem, ⟨17, _⟩ => ⟨S8x512, .f32⟩
  | .local _ .vmem, ⟨18, _⟩ => ⟨S16x128, .f32⟩
  | .local _ .vmem, ⟨19, _⟩ => ⟨S16x128, .f32⟩
  | .local _ .vmem, ⟨20, _⟩ => ⟨S16x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S32768x512 : Shape := ⟨2, ![32768, 512]⟩
abbrev S32768x256 : Shape := ⟨2, ![32768, 256]⟩
abbrev S32768x1024 : Shape := ⟨2, ![32768, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x256, .f32⟩
  | .hbm, ⟨2, _⟩ => ⟨S32768x256, .f32⟩
  | .hbm, ⟨3, _⟩ => ⟨S32768x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S16, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .bf16⟩
  | .hbm, ⟨14, _⟩ => ⟨S1024x1024, .bf16⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Proof.MoeRun.lean ====
/-
  The run of the experts' program: the host's look-ups, the body at every grid point by its two ways, the pipeline
  around it, and what the final memory holds.
-/
module

public import proofs.«01_k».proof.Proof.Gen.Kernel2Ideal.Launch
public import proofs.«01_k».proof.Proof.Gen.Kernel2Ideal.Skeleton
public import Idealize.ShloMosaic.Lib.Exec
public import Idealize.ShloMosaic.Lib.Tactic
public import Idealize.ShloMosaic.Lib.Pipeline.Frame
public import Idealize.ShloMosaic.Lib.Pipeline.FrameBody
public import Idealize.ShloMosaic.Lib.Pipeline.TableIdle
public import Idealize.ShloMosaic.Lib.VecWindow
public import Idealize.ShloMosaic.Adequacy
public import Idealize.ShloMosaic.Init

@[expose] public section

set_option maxRecDepth 16384
set_option synthInstance.maxHeartbeats 200000
set_option synthInstance.maxSize 4096

noncomputable section

namespace Cert.Kernel2Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat BodyObligation)

variable {F : FTy → Type} [FloatOps F]

/-- The resource model of the run. -/
abbrev RM (F : FTy → Type) := MT nD τ sig Unit (Elt F) ℕ (UR sig nD τ) ℕ

/-! ### The host's operations -/

/-- The stretches of host operations before the call, in order. -/
abbrev opss : List (List (HloOp τ sig (Elt F))) :=
  [hostOps0, hostOps0_1, hostOps0_2, hostOps0_3, hostOps0_4, hostOps0_5, hostOps0_6]

variable (m : (ℓ : Loc nD τ sig) → Buf (Elt F) ℓ) (ρ : Dev nD → PrngReg)

/-- What each buffer holds when the call begins. -/
def V (c : Dev nD) (b : Ref sig .tc) : Buf (Elt F) ((c : Thread nD τ).loc b) :=
  StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : (opss (F := F)).Forall fun ops => ops.Forall fun op => op.fresh = ∅ := by
  simp only [List.Forall]
  repeat' constructor

theorem hmain (𝒱₀ : Variants) : Pipeline.HMainP (Ix := Unit) (Name := ℕ) (U := UR sig nD τ) (Lvl := ℕ)
    (pcfgs (F := F)) (0 : Fin 1) defs₀ 𝒱₀ m main (V m) :=
  Pipeline.hmainP_prefixes pcfgs 0 defs₀ 𝒱₀ m main opss opss_sub opss_fresh fun c => main_chain c

/-! ### The two tables' contents, and the pipeline at them -/

/-- The tables' contents when the call begins. -/
def tabs : pre0.Contents (Elt F) := fun k => V m 0 (pre0.ref k)

/-! No host operation writes an argument. -/

theorem V_main_arg0 (c : Dev nD) : V m c main_arg0 = m ((c : Thread nD τ).loc main_arg0) := rfl

theorem V_main_arg1 (c : Dev nD) : V m c main_arg1 = m ((c : Thread nD τ).loc main_arg1) := rfl

theorem V_main_arg2 (c : Dev nD) : V m c main_arg2 = m ((c : Thread nD τ).loc main_arg2) := rfl

theorem V_main_arg3 (c : Dev nD) : V m c main_arg3 = m ((c : Thread nD τ).loc main_arg3) := rfl

theorem V_main_arg4 (c : Dev nD) : V m c main_arg4 = m ((c : Thread nD τ).loc main_arg4) := rfl

variable (a : (pcfg0 (F := F)).Adm)

/-- The number of tiles in use, as the body reads it. -/
abbrev nuW : BitVec 32 :=
  View.readAt (Elt F) (Memref.whole main_v21 : Memref sig .tc .smem S1 .i32).view
    (Rect.unit (s := S1) ![0] S1.size inb_S1_S1_0).toLoadRect (a.1 1) (Shape.Idx.first (numel1_S1.symm ▸ Nat.one_pos))

/-- Window `w`'s block at point `t`. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

/-- The result's block at point `t`: the tile's rows through their expert where the tile is in use, zeros elsewhere. -/
def outBlk (c : Dev nD) (t : Fin (cfg0 a).N) : Vec F S512x1024 .f32 :=
  if k0_cond1 ((cfg0 a).grid.coords t) (nuW a) = 1#1 then
    k0_pay1 (iblk m a c 0 t) (iblk m a c 1 t) (iblk m a c 2 t) (iblk m a c 3 t)
  else k0_pay2

/-- The two conditions exclude each other. -/
theorem cond2_iff (i : grid0.Coords) (w : BitVec 32) : k0_cond2 i w = 1#1 ↔ ¬ k0_cond1 i w = 1#1 := by
  unfold k0_cond1 k0_cond2 Scalar.cmpi Scalar.extui IntOp.cmpi
  simp only [BitVec.sle_eq_not_slt]
  cases (BitVec.ofNat 32 (i 0).val).slt w <;> decide

theorem idle_false (i : grid0.Coords) : (cfg0 a).idle (4 : Fin 5) i = false := by
  show (!(k0_cond1 i (a.1.atD 1 ![0]) == 1#1) && !(k0_cond2 i (a.1.atD 1 ![0]) == 1#1)) = false
  have h := cond2_iff i (a.1.atD 1 ![0])
  by_cases h1 : k0_cond1 i (a.1.atD 1 ![0]) = 1#1
  · rw [beq_iff_eq.mpr h1]; rfl
  · rw [beq_iff_eq.mpr (h.mpr h1)]; simp

/-- The proof data: each input block stays; the result's block is the body's. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => outBlk m a c t
  Φ _ := iprop(Pipeline.ΦA spec0 c ∗ Pipeline.ΦT pre0 a.1 c)
  q _ := fullShare
  owed _ := 0

theorem A_eq (c : Dev nD) (w : Fin (cfg0 a).W) : (dats m a 0 c).A w = V m c (Pipeline.arrRef spec0 w) := rfl

theorem before0_0 (c : Dev nD) (t : Fin (cfg0 a).N) (d) : (dats m a 0 c).before (0 : Fin 5) t d = iblk m a c (0 : Fin 5) t :=
  ((dats m a 0 c).before_in_eq_fetched (0 : Fin 5) rfl (fun _ => rfl) (fun _ _ _ => rfl) (fun t => rfl) t d).trans rfl
theorem before0_1 (c : Dev nD) (t : Fin (cfg0 a).N) (d) : (dats m a 0 c).before (1 : Fin 5) t d = iblk m a c (1 : Fin 5) t :=
  ((dats m a 0 c).before_in_eq_fetched (1 : Fin 5) rfl (fun _ => rfl) (fun _ _ _ => rfl) (fun t => rfl) t d).trans rfl
theorem before0_2 (c : Dev nD) (t : Fin (cfg0 a).N) (d) : (dats m a 0 c).before (2 : Fin 5) t d = iblk m a c (2 : Fin 5) t :=
  ((dats m a 0 c).before_in_eq_fetched (2 : Fin 5) rfl (fun _ => rfl) (fun _ _ _ => rfl) (fun t => rfl) t d).trans rfl
theorem before0_3 (c : Dev nD) (t : Fin (cfg0 a).N) (d) : (dats m a 0 c).before (3 : Fin 5) t d = iblk m a c (3 : Fin 5) t :=
  ((dats m a 0 c).before_in_eq_fetched (3 : Fin 5) rfl (fun _ => rfl) (fun _ _ _ => rfl) (fun t => rfl) t d).trans rfl

/-! ### The body -/

section
variable (c : Dev nD) (i : grid0.Coords)
  (arg3 : Memref sig .tc .vmem S512x1024 .f32) (harg3 : arg3.IsWhole)
  (arg4 : Memref sig .tc .vmem S1x1024x512 .bf16) (harg4 : arg4.IsWhole)
  (arg5 : Memref sig .tc .vmem S1x1024x512 .bf16) (harg5 : arg5.IsWhole)
  (arg6 : Memref sig .tc .vmem S1x512x1024 .bf16) (harg6 : arg6.IsWhole)
  (arg7 : Memref sig .tc .vmem S512x1024 .f32) (harg7 : arg7.IsWhole)
  (x0 : Vec F S512x1024 .f32) (x1 x2 : Vec F S1x1024x512 .bf16) (x3 : Vec F S1x512x1024 .bf16)

/-- The tables as the body holds them. -/
abbrev tab0 : Memref sig .tc .smem S144 .i32 := Memref.whole main_v19
abbrev tab1 : Memref sig .tc .smem S1 .i32 := Memref.whole main_v21

/-- What the body holds of its inputs. -/
def ins : sProp (RM F) :=
  iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tab0.view.loc (c : Thread nD τ) ↦{fullShare.right} a.1 0)
          ∗ (tab1.view.loc (c : Thread nD τ) ↦{fullShare.right} a.1 1))

set_option backward.proofsInPublic true in
set_option maxHeartbeats 8000000 in
/-- A tile in use: its rows through their expert. -/
theorem run_used (h1 : k0_cond1 i (nuW a) = 1#1) (h2 : ¬ k0_cond2 i (nuW a) = 1#1) (K : PUnit → sProp (RM F)) :
    iprop(ins a c arg3 arg4 arg5 arg6 x0 x1 x2 x3 ∗ (∃ d, owns (c : Thread nD τ) arg7 fullShare d)
        ∗ (iprop(ins a c arg3 arg4 arg5 arg6 x0 x1 x2 x3 ∗ owns (c : Thread nD τ) arg7 fullShare (k0_pay1 x0 x1 x2 x3)) -∗ K ⟨⟩))
      ⊢ wp frame (wpE (defs₀ (F := F)) Variants.none c none) Set.univ
        (cc0_moe_experts i tab0 (Memref.isWhole_whole _) tab1 (Memref.isWhole_whole _) arg3 harg3 arg4 harg4 arg5 harg5 arg6 harg6 arg7 harg7) K := by
  unfold ins owns
  rw [cc0_moe_experts_eq_skeleton]; unfold cc0_moe_experts_skel
  iintro ⟨⟨H0, H1, H2, H3, HT0, HT1⟩, ⟨%d4, %f4, -, HO4⟩, Hk⟩
  have hT0 : tab0.IsWhole := Memref.isWhole_whole _
  have hT1 : tab1.IsWhole := Memref.isWhole_whole _
  sl_exec! (disch := first | (guard_target = k0_cond1 _ _ = _; exact h1) | (guard_target = ¬(k0_cond2 _ _ = _); exact h2))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  iexists _; isplitr; swap
  · iexact HO4
  · ipureintro
    unfold run_used.sl.HO4_1
    refine (View.read_writes_full arg7.view _ inb_S512x1024_S512x1024_0_0 _ []).trans ?_
    rw [View.readAt_rep_full arg3.view x0 inb_S512x1024_S512x1024_0_0,
      View.readAt_rep_full arg4.view x1 inb_S1x1024x512_S1x1024x512_0_0_0,
      View.readAt_rep_full arg5.view x2 inb_S1x1024x512_S1x1024x512_0_0_0,
      View.readAt_rep_full arg6.view x3 inb_S1x512x1024_S1x512x1024_0_0_0]

set_option backward.proofsInPublic true in
set_option maxHeartbeats 8000000 in
/-- A tile beyond those in use: zeros. -/
theorem run_rest (h1 : ¬ k0_cond1 i (nuW a) = 1#1) (h2 : k0_cond2 i (nuW a) = 1#1) (K : PUnit → sProp (RM F)) :
    iprop(ins a c arg3 arg4 arg5 arg6 x0 x1 x2 x3 ∗ (∃ d, owns (c : Thread nD τ) arg7 fullShare d)
        ∗ (iprop(ins a c arg3 arg4 arg5 arg6 x0 x1 x2 x3 ∗ owns (c : Thread nD τ) arg7 fullShare (k0_pay2 (F := F))) -∗ K ⟨⟩))
      ⊢ wp frame (wpE (defs₀ (F := F)) Variants.none c none) Set.univ
        (cc0_moe_experts i tab0 (Memref.isWhole_whole _) tab1 (Memref.isWhole_whole _) arg3 harg3 arg4 harg4 arg5 harg5 arg6 harg6 arg7 harg7) K := by
  unfold ins owns
  rw [cc0_moe_experts_eq_skeleton]; unfold cc0_moe_experts_skel
  iintro ⟨⟨H0, H1, H2, H3, HT0, HT1⟩, ⟨%d4, %f4, -, HO4⟩, Hk⟩
  have hT0 : tab0.IsWhole := Memref.isWhole_whole _
  have hT1 : tab1.IsWhole := Memref.isWhole_whole _
  sl_exec! (disch := first | (guard_target = ¬(k0_cond1 _ _ = _); exact h1) | (guard_target = k0_cond2 _ _ = _; exact h2))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  iexists _; isplitr; swap
  · iexact HO4
  · ipureintro
    exact View.read_writes_full arg7.view _ inb_S512x1024_S512x1024_0_0 _ []
end

/-! ### The body obligation -/

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (RM F))
      = iprop((((c : Thread nD τ).loc main_v19) ↦{q 0} v 0) ∗ (((c : Thread nD τ).loc main_v21) ↦{q 1} v 1)) := by
  unfold Pipeline.prefHeld
  rw [show (Finset.univ : Finset (Fin 2)) = insert (0 : Fin 2) {(1 : Fin 2)} from by decide,
    bigSep_insert (by decide), bigSep_singleton]
  rfl

/-- Each window's staging buffer at a point. -/
abbrev st0_0 (t : Fin (cfg0 a).N) : Memref sig .tc .vmem S512x1024 .f32 := spec0_0.stage ((cfg0 a).slots t (0 : Fin 5))
abbrev st0_1 (t : Fin (cfg0 a).N) : Memref sig .tc .vmem S1x1024x512 .bf16 := spec0_1.stage ((cfg0 a).slots t (1 : Fin 5))
abbrev st0_2 (t : Fin (cfg0 a).N) : Memref sig .tc .vmem S1x1024x512 .bf16 := spec0_2.stage ((cfg0 a).slots t (2 : Fin 5))
abbrev st0_3 (t : Fin (cfg0 a).N) : Memref sig .tc .vmem S1x512x1024 .bf16 := spec0_3.stage ((cfg0 a).slots t (3 : Fin 5))
abbrev st0_4 (t : Fin (cfg0 a).N) : Memref sig .tc .vmem S512x1024 .f32 := spec0_4.stage ((cfg0 a).slots t (4 : Fin 5))

/-- The body at point `t` on its staging buffers, as the pipeline calls it. -/
abbrev bodyAt0 (t : Fin (cfg0 a).N) : Prog (TpuEff nD τ sig (Elt F) Λ₀ .tc) PUnit :=
  cc0_moe_experts ((cfg0 a).grid.coords t) (Memref.whole main_v19) (Memref.isWhole_whole _) (Memref.whole main_v21) (Memref.isWhole_whole _)
    (st0_0 a t) (hstage0_0 (((cfg0 a).slots t (0 : Fin 5)).cast nbuf0_0)) (st0_1 a t) (hstage0_1 (((cfg0 a).slots t (1 : Fin 5)).cast nbuf0_1))
    (st0_2 a t) (hstage0_2 (((cfg0 a).slots t (2 : Fin 5)).cast nbuf0_2)) (st0_3 a t) (hstage0_3 (((cfg0 a).slots t (3 : Fin 5)).cast nbuf0_3))
    (st0_4 a t) (hstage0_4 (((cfg0 a).slots t (4 : Fin 5)).cast nbuf0_4))

/-- The body at a point, either way. -/
theorem run_at (c : Dev nD) (t : Fin (cfg0 a).N) (K : PUnit → sProp (RM F)) :
    iprop(ins a c (st0_0 a t) (st0_1 a t) (st0_2 a t) (st0_3 a t) (iblk m a c 0 t) (iblk m a c 1 t) (iblk m a c 2 t) (iblk m a c 3 t)
        ∗ (∃ d, owns (c : Thread nD τ) (st0_4 a t) fullShare d)
        ∗ (iprop(ins a c (st0_0 a t) (st0_1 a t) (st0_2 a t) (st0_3 a t) (iblk m a c 0 t) (iblk m a c 1 t) (iblk m a c 2 t) (iblk m a c 3 t)
            ∗ owns (c : Thread nD τ) (st0_4 a t) fullShare (outBlk m a c t)) -∗ K ⟨⟩))
      ⊢ wp frame (wpE (defs₀ (F := F)) Variants.none c none) Set.univ (bodyAt0 a t) K := by
  by_cases h1 : k0_cond1 ((cfg0 a).grid.coords t) (nuW a) = 1#1
  · rw [show outBlk m a c t = k0_pay1 (iblk m a c 0 t) (iblk m a c 1 t) (iblk m a c 2 t) (iblk m a c 3 t) from if_pos h1]
    exact run_used a c _ _ _ _ _ _ _ _ _ _ _ _ _ _ _ h1 (fun h2 => (cond2_iff _ _).mp h2 h1) K
  · rw [show outBlk m a c t = k0_pay2 from if_neg h1]
    exact run_rest a c _ _ _ _ _ _ _ _ _ _ _ _ _ _ _ h1 ((cond2_iff _ _).mpr h1) K

set_option maxHeartbeats 4000000 in
theorem body_obligation (c : Dev nD) :
    BodyObligation (dats m a 0 c) (defs₀ (F := F)) Variants.none () Set.univ := fun t => by
  rw [bigSep_W0, bigSep_W0]
  rewrite [idle_false a]
  have e0 : (dats m a 0 c).after (0 : Fin 5) t = iblk m a c 0 t := rfl
  have e1 : (dats m a 0 c).after (1 : Fin 5) t = iblk m a c 1 t := rfl
  have e2 : (dats m a 0 c).after (2 : Fin 5) t = iblk m a c 2 t := rfl
  have e3 : (dats m a 0 c).after (3 : Fin 5) t = iblk m a c 3 t := rfl
  have e4 : (dats m a 0 c).after (4 : Fin 5) t = outBlk m a c t := rfl
  simp only [before0_0, before0_1, before0_2, before0_3, e0, e1, e2, e3, e4]
  rw [show (dats m a 0 c).Φ t.succ = (dats m a 0 c).Φ t.castSucc from rfl,
    show (dats m a 0 c).owesAt () t.succ = (dats m a 0 c).owesAt () t.castSucc from rfl,
    show (dats m a 0 c).Φ t.castSucc = iprop(Pipeline.ΦA spec0 c ∗ Pipeline.ΦT pre0 a.1 c) from rfl]
  unfold Pipeline.ΦT
  rw [prefHeld_eq]
  iintro ⟨⟨HA, HT0, HT1⟩, Ho, ⟨%d0, H0⟩, ⟨%d1, H1⟩, ⟨%d2, H2⟩, ⟨%d3, H3⟩, ⟨%d4, H4⟩⟩
  iapply (run_at m a c t _)
  unfold ins
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  iintro ⟨⟨H0, H1, H2, H3, HT0, HT1⟩, H4⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

/-! ### The run -/

set_option backward.isDefEq.respectTransparency.types false in
/-- Every execution ends, with the windows' arrays as the proof data says, every other buffer as the host
    operations left it, and every counter at zero. -/
theorem run_main (hok : ok0 (tabs m)) :
    θ_run defs (onTc (τ := τ) (main (F := F))) (s₀ m ρ)
      (fun r => Pipeline.FramePost (Pipeline.pin pcfgs fun _ => (⟨tabs m, hok⟩ : (pcfg0 (F := F)).Adm)) (dats m ⟨tabs m, hok⟩) 0 (V m) r
        ∧ r.2.sem = fun _ => 0) :=
  Pipeline.θ_run_frameP pcfgs (fun _ => (⟨tabs m, hok⟩ : (pcfg0 (F := F)).Adm)) (dats m ⟨tabs m, hok⟩) (0 : Fin 1) launch0 defs₀ Variants.none m ρ main
    (hbody := fun c => (body_obligation m ⟨tabs m, hok⟩ c).loose) (hshare := fun c => (dats m ⟨tabs m, hok⟩ 0 c).share_full fun _ => rfl)
    (howed := fun _ _ => rfl) (V := V m) (hmain := hmain m Variants.none) (hA := fun _ _ => rfl)
    (hpf := fun c k => by rw [Subsingleton.elim c 0]; rfl) (hΦ := fun _ _ => rfl)
    (Q' := _) (hQ' := fun _ h => h)

/-- The arguments end unchanged and every counter ends at zero. -/
theorem frame_main (hok : ok0 (tabs m)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Pipeline.mem_restRefs_of (win := spec0) main_arg0 (by decide) (by decide))).trans (V_main_arg0 m c),
      (((h.1 c).1 (0 : Fin 5)).trans ((dats m ⟨tabs m, hok⟩ 0 c).arrAt_in (0 : Fin 5) rfl _)).trans (V_main_arg1 m c),
      ((h.1 c).2 main_arg2 (Pipeline.mem_restRefs_of (win := spec0) main_arg2 (by decide) (by decide))).trans (V_main_arg2 m c),
      ((h.1 c).2 main_arg3 (Pipeline.mem_restRefs_of (win := spec0) main_arg3 (by decide) (by decide))).trans (V_main_arg3 m c),
      ((h.1 c).2 main_arg4 (Pipeline.mem_restRefs_of (win := spec0) main_arg4 (by decide) (by decide))).trans (V_main_arg4 m c)⟩,
    h.2⟩) (run_main m ρ hok)

end Cert.Kernel2Ideal

end
-- ==== Proof.MoePlan.lean ====
/-
  The tiles' plan: from the experts' counts, each expert's rows rounded up to whole tiles, where they end, each
  tile's expert, and the number of tiles in use; as the programs compute them on words, and as natural numbers.
-/
module

public import proofs.«01_k».proof.Proof.Gen.Kernel2Ideal
public import proofs.«01_k».proof.Proof.Gen.Pre_routed_counts
public import Idealize.ShloMosaic.Lib.ReduceAll
public import Idealize.ShloMosaic.Lib.Routing.Ops
public import Idealize.ShloMosaic.Lib.Routing.Words
public import Idealize.ShloMosaic.Lib.Routing.Model
public import Idealize.ShloMosaic.Lib.PlanTiles.Rows
public import Idealize.ShloMosaic.Lib.WordCmp

@[expose] public section

set_option maxRecDepth 16384

noncomputable section

namespace Cert.Kernel2Ideal

open Idealize.ShloMosaic Idealize.ShloMosaic.Routing Idealize.ShloMosaic.ValueIdx
open Cert.Kernel2Ideal.Gen

/-! ### On words -/

/-- Each expert's rows, rounded up to whole tiles. -/
def padW (cnt : IVec S16 32) : IVec S16 32 :=
  muli (pyDiv bcast_S_S16 (subi (addi cnt (broadcastInDim S16 ![] bcast_S_S16 (constantI S_ 32 512#32)))
      (broadcastInDim S16 ![] bcast_S_S16 (constantI S_ 32 1#32))) (constantI S_ 32 512#32))
    (broadcastInDim S16 ![] bcast_S_S16 (constantI S_ 32 512#32))

/-- Where each expert's rows end. -/
def endsW (cnt : IVec S16 32) : IVec S16 32 :=
  Host.reduceWindow IntOp.addi ![16] ![1] ![15] ![0] (padW cnt) (broadcastInDim S_ ![] bcast_S_S_ (constantI S_ 32 0#32))
    reduceWindows_S16_S16_w16s1p15_0 h_S_

/-- Which experts' rows end at or before a tile's first row. -/
def maskW (cnt : IVec S16 32) : IVec S144x16 1 :=
  cmpi .sge
    (broadcastInDim S144x16 ![0, 1] bcast_S144x1_S144x16_0_1 (broadcastInDim S144x1 ![0] bcast_S144_S144x1_0
      (muli (iotaInDim S144 32 0) (broadcastInDim S144 ![] bcast_S_S144 (constantI S_ 32 512#32)))))
    (broadcastInDim S144x16 ![0, 1] bcast_S1x16_S144x16_0_1 (broadcastInDim S1x16 ![1] bcast_S16_S1x16_1 (endsW cnt)))

/-- Each tile's expert. -/
def teW (cnt : IVec S16 32) : IVec S144 32 :=
  minsi (Host.reduce IntOp.addi (extui 32 (maskW cnt) natLt_1_32) (constantI S_ 32 0#32) reducesTo_S144x16_S144_d1 h_S_)
    (broadcastInDim S144 ![] bcast_S_S144 (constantI S_ 32 15#32))

/-- The number of tiles in use. -/
def nuVW (cnt : IVec S16 32) : IVec S1 32 :=
  pyDiv bcast_S_S1 (extractStridedSlice S1 ![15] (endsW cnt) slices_S16_S1_15) (constantI S_ 32 512#32)

/-! ### On natural numbers -/

/-- An expert's count. -/
def cN (cnt : IVec S16 32) (e : ℕ) : ℕ := if h : e < 16 then (cnt (ix1 (⟨e, h⟩ : Fin 16))).toNat else 0

/-- An expert's rows, in whole tiles. -/
def pN (cnt : IVec S16 32) (e : ℕ) : ℕ := (cN cnt e + 512 - 1) / 512 * 512

/-- Where the first `k` experts' rows end. -/
def sN (cnt : IVec S16 32) (k : ℕ) : ℕ := ((List.range k).map (pN cnt)).sum

/-- A tile's expert. -/
def teN (cnt : IVec S16 32) (i : ℕ) : ℕ := min 15 (Nat.count (fun e => sN cnt (e + 1) ≤ 512 * i) 16)

/-- The number of tiles in use. -/
def nuN (cnt : IVec S16 32) : ℕ := sN cnt 16 / 512

/-- The range of the counts: none above the number of rows, and together as many as the rows. -/
def Good (cnt : IVec S16 32) : Prop :=
  (∀ e, cN cnt e ≤ 65536) ∧ ((List.range 16).map (cN cnt)).sum = 65536

variable {cnt : IVec S16 32}

theorem sN_succ (k : ℕ) : sN cnt (k + 1) = sN cnt k + pN cnt k := by
  unfold sN
  rw [List.range_succ, List.map_append, List.sum_append]
  simp

theorem sN_mono {a b : ℕ} (h : a ≤ b) : sN cnt a ≤ sN cnt b := by
  induction h with
  | refl => exact le_rfl
  | step _ ih => exact ih.trans (by rw [sN_succ]; omega)

theorem sN_dvd (k : ℕ) : 512 ∣ sN cnt k := by
  induction k with
  | zero => exact ⟨0, rfl⟩
  | succ k ih => rw [sN_succ]; exact Nat.dvd_add ih ⟨_, Nat.mul_comm _ _⟩

theorem sum_bounds (n : ℕ) : ((List.range n).map (cN cnt)).sum ≤ sN cnt n
    ∧ sN cnt n ≤ ((List.range n).map (cN cnt)).sum + 511 * n := by
  induction n with
  | zero => exact ⟨le_rfl, le_rfl⟩
  | succ n ih =>
    rw [sN_succ, List.range_succ, List.map_append, List.sum_append]
    have h : cN cnt n ≤ pN cnt n ∧ pN cnt n ≤ cN cnt n + 511 := by unfold pN; omega
    simp only [List.map_cons, List.map_nil, List.sum_cons, List.sum_nil]
    omega

theorem sN_le (hg : Good cnt) {k : ℕ} (hk : k ≤ 16) : sN cnt k ≤ 73728 := by
  have h1 := sN_mono (cnt := cnt) hk
  have h2 := (sum_bounds (cnt := cnt) 16).2
  rw [hg.2] at h2
  omega

theorem nuN_pos (hg : Good cnt) : 0 < nuN cnt := by
  have h2 := (sum_bounds (cnt := cnt) 16).1
  rw [hg.2] at h2
  unfold nuN; omega

theorem nuN_le (hg : Good cnt) : nuN cnt ≤ 144 := by
  have := sN_le hg (le_refl 16)
  unfold nuN; omega

/-- Counting a property that ends once: it holds exactly below its count. -/
theorem count_iff {Q : ℕ → Prop} [DecidablePred Q] (hQ : ∀ a b, a ≤ b → Q b → Q a) :
    ∀ n e, e < n → (Q e ↔ e < Nat.count Q n) := by
  intro n
  induction n with
  | zero => intro e h; omega
  | succ n ih =>
    intro e he
    rw [Nat.count_succ]
    by_cases hn : Q n
    · have hall : Nat.count Q n = n := Nat.count_iff_forall.mpr fun k hk => hQ k n hk.le hn
      rw [hall, if_pos hn]
      exact ⟨fun _ => he, fun _ => hQ e n (by omega) hn⟩
    · rw [if_neg hn, Nat.add_zero]
      rcases Nat.lt_succ_iff_lt_or_eq.mp he with h | h
      · exact ih e h
      · subst h
        exact ⟨fun q => absurd q hn, fun q => absurd (Nat.count_le Q (n := e)) (by omega)⟩

/-- A row is among an expert's exactly when its tile is in use and that expert's. -/
theorem mem_iff (hg : Good cnt) {e r : ℕ} (he : e < 16) :
    (sN cnt e ≤ r ∧ r < sN cnt (e + 1)) ↔ (e = teN cnt (r / 512) ∧ r / 512 < nuN cnt) := by
  have hQ := count_iff (Q := fun e => sN cnt (e + 1) ≤ 512 * (r / 512))
    (fun a b hab hb => (sN_mono (by omega)).trans hb) 16
  have d0 := sN_dvd (cnt := cnt) e
  have d1 := sN_dvd (cnt := cnt) (e + 1)
  have d16 := sN_dvd (cnt := cnt) 16
  have m16 := sN_mono (cnt := cnt) (a := e + 1) (b := 16) (by omega)
  unfold teN nuN
  generalize hc : Nat.count (fun e => sN cnt (e + 1) ≤ 512 * (r / 512)) 16 = c at hQ ⊢
  constructor
  · rintro ⟨h0, h1⟩
    have ne : ¬ sN cnt (e + 1) ≤ 512 * (r / 512) := by omega
    have le1 : ¬ e < c := fun h => ne ((hQ e he).mpr h)
    have le2 : e ≤ c := by
      rcases Nat.eq_zero_or_pos e with z | z
      · omega
      · obtain ⟨k, rfl⟩ : ∃ k, e = k + 1 := ⟨e - 1, by omega⟩
        have := (hQ k (by omega)).mp (by omega)
        omega
    omega
  · rintro ⟨rfl, hu⟩
    have n15 : ¬ (15 < c) := fun h => by
      have := (hQ 15 (by omega)).mpr h
      simp only [Nat.reduceAdd] at this
      omega
    have hm : min 15 c = c := by omega
    rw [hm] at he d0 d1 m16 ⊢
    have nc : ¬ sN cnt (c + 1) ≤ 512 * (r / 512) := fun h => absurd ((hQ c he).mp h) (lt_irrefl c)
    have lc : sN cnt c ≤ 512 * (r / 512) := by
      rcases Nat.eq_zero_or_pos c with z | z
      · rw [z]; exact Nat.zero_le _
      · obtain ⟨k, hk⟩ : ∃ k, c = k + 1 := ⟨c - 1, by omega⟩
        rw [hk]
        exact (hQ k (by omega)).mpr (by omega)
    omega

/-! ### The words are those numbers -/

theorem cnt_word (e : Fin 16) : cnt (ix1 e) = BitVec.ofNat 32 (cN cnt e.val) := by
  unfold cN
  rw [dif_pos e.isLt]
  exact (BitVec.ofNat_toNat 32 _).symm ▸ (BitVec.setWidth_eq _).symm

theorem padW_at (hg : Good cnt) (e : Fin 16) : padW cnt (ix1 e) = BitVec.ofNat 32 (pN cnt e.val) := by
  have hc := hg.1 e.val
  have hx : (subi (addi cnt (broadcastInDim S16 ![] bcast_S_S16 (constantI S_ 32 512#32)))
      (broadcastInDim S16 ![] bcast_S_S16 (constantI S_ 32 1#32))) (ix1 e) = BitVec.ofNat 32 (cN cnt e.val + 512 - 1) := by
    show cnt (ix1 e) + 512#32 - 1#32 = _
    rw [cnt_word (cnt := cnt) e]
    apply BitVec.eq_of_toNat_eq
    simp only [BitVec.toNat_sub, BitVec.toNat_add, BitVec.toNat_ofNat]
    omega
  have hd := pyDiv_ap (hb := bcast_S_S16) _ (constantI S_ 32 512#32) (ix1 e) hx (b := 512) rfl (by omega) (by omega) (by omega)
  show pyDiv bcast_S_S16 _ (constantI S_ 32 512#32) (ix1 e) * 512#32 = _
  rw [hd]
  exact (BitVec.ofNat_mul ..).symm

theorem endsW_at (hg : Good cnt) (e : Fin 16) : endsW cnt (ix1 e) = BitVec.ofNat 32 (sN cnt (e.val + 1)) :=
  cumsum1 (Nm1 := 15) (N := 16) rfl (padW cnt) (pN cnt) (padW_at hg) _ rfl _ _ e

theorem maskW_at (hg : Good cnt) (i : Fin 144) (e : Fin 16) :
    maskW cnt (ix2 i e) = 1#1 ↔ sN cnt (e.val + 1) ≤ 512 * i.val := by
  have h1 := sN_le hg (k := e.val + 1) (by omega)
  have hi := i.isLt
  have ha : maskW cnt (ix2 i e) = IntOp.cmpi .sge (BitVec.ofNat 32 (i.val * 512)) (BitVec.ofNat 32 (sN cnt (e.val + 1))) := by
    unfold maskW
    rw [WordCmp.cmpi_at]
    refine congrArg₂ (IntOp.cmpi .sge) ?_ ?_
    · refine (bcRows _ _ _ i e).trans ?_
      show BitVec.ofNat 32 i.val * 512#32 = _
      exact (BitVec.ofNat_mul ..).symm
    · exact (bcCols _ _ _ i e).trans (endsW_at hg e)
  rw [ha, WordCmp.cmpi_sge_ofNat_eq_one_iff (by omega) (by omega)]
  omega

theorem teW_at (hg : Good cnt) (i : Fin 144) : teW cnt (ix1 i) = BitVec.ofNat 32 (teN cnt i.val) := by
  have h := reduce_count (by omega) (maskW cnt) natLt_1_32 reducesTo_S144x16_S144_d1 h_S_ i
    (fun e => sN cnt (e + 1) ≤ 512 * i.val) (fun e => maskW_at hg i e)
  show IntOp.minsi (Host.reduce IntOp.addi (extui 32 (maskW cnt) natLt_1_32) (constantI S_ 32 0#32) reducesTo_S144x16_S144_d1 h_S_ (ix1 i)) (15#32) = _
  rw [h]
  have hc : Nat.count (fun e => sN cnt (e + 1) ≤ 512 * i.val) 16 ≤ 16 := Nat.count_le _
  exact PlanTiles.minsi_word (by omega) (by omega)

theorem nuVW_at (hg : Good cnt) : nuVW cnt (ix1 (0 : Fin 1)) = BitVec.ofNat 32 (nuN cnt) := by
  have h := sN_le hg (le_refl 16)
  refine pyDiv_ap (hb := bcast_S_S1) _ _ _ (a := sN cnt 16) (b := 512) ?_ rfl (by omega) (by omega) (by omega)
  exact (slice1 15 (endsW cnt) slices_S16_S1_15 (0 : Fin 1) (by decide)).trans (endsW_at hg 15)

theorem teN_le (i : ℕ) : teN cnt i ≤ 15 := Nat.min_le_left _ _

end Cert.Kernel2Ideal

namespace Cert.Pre_routed_counts

open Idealize.ShloMosaic Idealize.ShloMosaic.Routing Idealize.ShloMosaic.ValueIdx
open Cert.Pre_routed_counts.Gen

instance : Subsingleton S_.Idx := ⟨fun a b => funext fun i => i.elim0⟩

/-- The precondition gives the counts' range. -/
theorem good {F : FTy → Type} [FloatOps F] {a0 : IVec S16 32} {a1 : FVec F S73728x1024 .f32} {a2 a3 : FVec F S16x1024x512 .f32}
    {a4 : FVec F S16x512x1024 .f32} (h : fn (F := F) a0 a1 a2 a3 a4 ix0 = 1#1) : Cert.Kernel2Ideal.Good a0 := by
  obtain ⟨h, h2⟩ := IntOp.andi_eq_one.1 h
  obtain ⟨h0, h1⟩ := IntOp.andi_eq_one.1 h
  have hc : ∀ e, Cert.Kernel2Ideal.cN a0 e ≤ 65536 := fun e => by
    unfold Cert.Kernel2Ideal.cN
    split
    · rename_i he
      have g0 : IntOp.cmpi .sge (a0 (ix1 (⟨e, he⟩ : Fin 16))) 0#32 = 1#1 := Host.reduce_andi_all _ _ _ _ _ h0 (ix1 (⟨e, he⟩ : Fin 16))
      have g1 : IntOp.cmpi .sle (a0 (ix1 (⟨e, he⟩ : Fin 16))) 65536#32 = 1#1 := Host.reduce_andi_all _ _ _ _ _ h1 (ix1 (⟨e, he⟩ : Fin 16))
      generalize a0 (ix1 (⟨e, he⟩ : Fin 16)) = x at g0 g1 ⊢
      rw [IntOp.cmpi_sge] at g0
      rw [IntOp.cmpi_sle] at g1
      have z0 : (0#32 : BitVec 32).toInt = 0 := by decide
      have z1 : (65536#32 : BitVec 32).toInt = 65536 := by decide
      rw [z0] at g0
      rw [z1] at g1
      rw [BitVec.toInt_eq_toNat_cond] at g0 g1
      split at g0 <;> omega
    · omega
  refine ⟨hc, ?_⟩
  have hs := reduce_sum a0 (Cert.Kernel2Ideal.cN a0) Cert.Kernel2Ideal.cnt_word reducesTo_S16_S_d0 h_S_
  have he : IntOp.cmpi .eq (Host.reduce IntOp.addi a0 (constantI S_ 32 0#32) reducesTo_S16_S_d0 h_S_ ix0) 65536#32 = 1#1 := h2
  rw [show Host.reduce IntOp.addi a0 (constantI S_ 32 0#32) reducesTo_S16_S_d0 h_S_ ix0 = _ from hs] at he
  have hb : ((List.range 16).map (Cert.Kernel2Ideal.cN a0)).sum ≤ 16 * 65536 := by
    have : ∀ n, ((List.range n).map (Cert.Kernel2Ideal.cN a0)).sum ≤ n * 65536 := fun n => by
      induction n with
      | zero => exact le_rfl
      | succ n ih =>
        rw [List.range_succ, List.map_append, List.sum_append]
        have := hc n
        simp only [List.map_cons, List.map_nil, List.sum_cons, List.sum_nil]
        omega
    exact this 16
  exact (WordCmp.cmpi_eq_ofNat_eq_one_iff (w := 32) (b := 65536) (by omega) (by omega)).mp he

end Cert.Pre_routed_counts

end
-- ==== Proof.MoeTables.lean ====
/-
  The experts' host operations, stretch by stretch: what each leaves in the buffers that the next ones read.
-/
module

public import proofs.«01_k».proof.Proof.MoeRun
public import proofs.«01_k».proof.Proof.MoePlan

@[expose] public section

set_option maxRecDepth 16384

noncomputable section

namespace Cert.Kernel2Ideal

open Idealize.ShloMosaic Idealize.ShloMosaic.TcCoe Idealize.ShloMosaic.Routing Idealize.ShloMosaic.StableHlo
open Cert.Kernel2Ideal.Gen

variable {F : FTy → Type} [FloatOps F]
variable (W : Valuation τ sig (Elt F))

set_option maxHeartbeats 2000000

theorem st0_v3 : after (hostOps0 (F := F)) W (Proc.devRef .tc main_v3)
    = (subi (addi (W (Proc.devRef .tc main_arg0) : IVec S16 32) (broadcastInDim S16 ![] bcast_S_S16 (constantI S_ 32 512#32)))
      (broadcastInDim S16 ![] bcast_S_S16 (constantI S_ 32 1#32)) : IVec S16 32) := by
  simp only [hostOps0, TRef.binary, TRef.nullary, TRef.ternary, TRef.unary, TRef.toBuf, TRef.ofBuf, cast_eq]
  after_results_simp
  all_goals rfl

theorem st0_c1 : after (hostOps0 (F := F)) W (Proc.devRef .tc main_c_1) = (constantI S_ 32 512#32 : IVec S_ 32) := by
  simp only [hostOps0, TRef.binary, TRef.nullary, TRef.ternary, TRef.unary, TRef.toBuf, TRef.ofBuf, cast_eq]
  after_results_simp
  all_goals rfl

theorem st1_v4 : after (hostOps0_1 (F := F)) W (Proc.devRef .tc main_v4)
    = (pyDiv bcast_S_S16 (W (Proc.devRef .tc main_v3) : IVec S16 32) (W (Proc.devRef .tc main_c_1) : IVec S_ 32) : IVec S16 32) := by
  simp only [hostOps0_1, TRef.binary, TRef.nullary, TRef.ternary, TRef.unary, TRef.toBuf, TRef.ofBuf, cast_eq]
  after_results_simp
  all_goals rfl

theorem st2_v6 : after (hostOps0_2 (F := F)) W (Proc.devRef .tc main_v6)
    = (muli (W (Proc.devRef .tc main_v4) : IVec S16 32) (broadcastInDim S16 ![] bcast_S_S16 (constantI S_ 32 512#32)) : IVec S16 32) := by
  simp only [hostOps0_2, TRef.binary, TRef.nullary, TRef.ternary, TRef.unary, TRef.toBuf, TRef.ofBuf, cast_eq]
  after_results_simp
  all_goals rfl

theorem st3_v7 : after (hostOps0_3 (F := F)) W (Proc.devRef .tc main_v7)
    = (Host.reduceWindow IntOp.addi ![16] ![1] ![15] ![0] (W (Proc.devRef .tc main_v6) : IVec S16 32)
        (broadcastInDim S_ ![] bcast_S_S_ (constantI S_ 32 0#32)) reduceWindows_S16_S16_w16s1p15_0 h_S_ : IVec S16 32) := by
  simp only [hostOps0_3, TRef.binary, TRef.nullary, TRef.ternary, TRef.unary, TRef.toBuf, TRef.ofBuf, cast_eq]
  after_results_simp
  all_goals rfl

/-- The mask of the experts that end at or before a tile's first row, of where they end. -/
def maskOf (e : IVec S16 32) : IVec S144x16 1 :=
  cmpi .sge
    (broadcastInDim S144x16 ![0, 1] bcast_S144x1_S144x16_0_1 (broadcastInDim S144x1 ![0] bcast_S144_S144x1_0
      (muli (iotaInDim S144 32 0) (broadcastInDim S144 ![] bcast_S_S144 (constantI S_ 32 512#32)))))
    (broadcastInDim S144x16 ![0, 1] bcast_S1x16_S144x16_0_1 (broadcastInDim S1x16 ![1] bcast_S16_S1x16_1 e))

/-- Each tile's expert, of where the experts end. -/
def teOf (e : IVec S16 32) : IVec S144 32 :=
  minsi (Host.reduce IntOp.addi (extui 32 (maskOf e) natLt_1_32) (constantI S_ 32 0#32) reducesTo_S144x16_S144_d1 h_S_)
    (broadcastInDim S144 ![] bcast_S_S144 (constantI S_ 32 15#32))

theorem st4_v19 : after (hostOps0_4 (F := F)) W (Proc.devRef .tc main_v19) = (teOf (W (Proc.devRef .tc main_v7)) : IVec S144 32) := by
  simp only [hostOps0_4, TRef.binary, TRef.nullary, TRef.ternary, TRef.unary, TRef.toBuf, TRef.ofBuf, cast_eq]
  after_results_simp
  all_goals rfl

theorem st4_v20 : after (hostOps0_4 (F := F)) W (Proc.devRef .tc main_v20)
    = (extractStridedSlice S1 ![15] (W (Proc.devRef .tc main_v7) : IVec S16 32) slices_S16_S1_15 : IVec S1 32) := by
  simp only [hostOps0_4, TRef.binary, TRef.nullary, TRef.ternary, TRef.unary, TRef.toBuf, TRef.ofBuf, cast_eq]
  after_results_simp
  all_goals rfl

theorem st4_c6 : after (hostOps0_4 (F := F)) W (Proc.devRef .tc main_c_6) = (constantI S_ 32 512#32 : IVec S_ 32) := by
  simp only [hostOps0_4, TRef.binary, TRef.nullary, TRef.ternary, TRef.unary, TRef.toBuf, TRef.ofBuf, cast_eq]
  after_results_simp
  all_goals rfl

theorem st5_v21 : after (hostOps0_5 (F := F)) W (Proc.devRef .tc main_v21)
    = (pyDiv bcast_S_S1 (W (Proc.devRef .tc main_v20) : IVec S1 32) (W (Proc.devRef .tc main_c_6) : IVec S_ 32) : IVec S1 32) := by
  simp only [hostOps0_5, TRef.binary, TRef.nullary, TRef.ternary, TRef.unary, TRef.toBuf, TRef.ofBuf, cast_eq]
  after_results_simp
  all_goals rfl

theorem st5_v19 : after (hostOps0_5 (F := F)) W (Proc.devRef .tc main_v19) = W (Proc.devRef .tc main_v19) := by
  simp only [hostOps0_5, TRef.binary, TRef.nullary, TRef.ternary, TRef.unary, TRef.toBuf, TRef.ofBuf, cast_eq]
  after_results_simp

theorem st6_v19 : after (hostOps0_6 (F := F)) W (Proc.devRef .tc main_v19) = W (Proc.devRef .tc main_v19) := by
  simp only [hostOps0_6, TRef.binary, TRef.nullary, TRef.ternary, TRef.unary, TRef.toBuf, TRef.ofBuf, cast_eq]
  after_results_simp

theorem st6_v21 : after (hostOps0_6 (F := F)) W (Proc.devRef .tc main_v21) = W (Proc.devRef .tc main_v21) := by
  simp only [hostOps0_6, TRef.binary, TRef.nullary, TRef.ternary, TRef.unary, TRef.toBuf, TRef.ofBuf, cast_eq]
  after_results_simp

variable (m : (ℓ : Loc nD τ sig) → Buf (Elt F) ℓ) (c : Dev nD)

/-- The stretches, one after another. -/
theorem V_eq (b : Ref sig .tc) : V m c b = after (hostOps0_6 (F := F)) (after hostOps0_5 (after hostOps0_4 (after hostOps0_3
    (after hostOps0_2 (after hostOps0_1 (after hostOps0 (fun b => m (c, b)))))))) (Proc.devRef .tc b) := by
  show after (opss (F := F)).flatten (fun b => m (c, b)) (Proc.devRef .tc b) = _
  simp only [opss, List.flatten_cons, List.flatten_nil, List.append_nil, after_append]

theorem ends_eq : after (hostOps0_3 (F := F)) (after hostOps0_2 (after hostOps0_1 (after hostOps0 (fun b => m (c, b))))) (Proc.devRef .tc main_v7)
    = (endsW (m ((c : Thread nD τ).loc main_arg0)) : IVec S16 32) := by
  rw [st3_v7, st2_v6, st1_v4, st0_v3, st0_c1]
  rfl

theorem V_te : V m c main_v19 = teW (m ((c : Thread nD τ).loc main_arg0)) := by
  rw [V_eq, st6_v19, st5_v19, st4_v19, ends_eq]
  rfl

theorem V_nu : V m c main_v21 = nuVW (m ((c : Thread nD τ).loc main_arg0)) := by
  rw [V_eq, st6_v21, st5_v21, st4_v20, st4_c6, ends_eq]
  rfl

end Cert.Kernel2Ideal

end
-- ==== Proof.MoeHost.lean ====
/-
  The experts' call: its tables and its operands, of the arguments, and that every block its index maps name lies
  inside its array.
-/
module

public import proofs.«01_k».proof.Proof.MoeRun
public import proofs.«01_k».proof.Proof.MoeTables
public import Idealize.ShloMosaic.Lib.Affine

@[expose] public section

set_option maxRecDepth 16384

noncomputable section

namespace Cert.Kernel2Ideal

open Idealize.ShloMosaic Idealize.ShloMosaic.TcCoe Idealize.ShloMosaic.Routing Idealize.ShloMosaic.ValueIdx
open Cert.Kernel2Ideal.Gen

variable {F : FTy → Type} [FloatOps F]
variable (m : (ℓ : Loc nD τ sig) → Buf (Elt F) ℓ) (c : Dev nD)

theorem V_gate : V m c main_v22 = truncf (F := F) .bf16 (m ((c : Thread nD τ).loc main_arg2) : FVec F S16x1024x512 .f32) bitsLt_bf16_f32 := by
  rfl

theorem V_up : V m c main_v23 = truncf (F := F) .bf16 (m ((c : Thread nD τ).loc main_arg3) : FVec F S16x1024x512 .f32) bitsLt_bf16_f32 := by
  rfl

theorem V_down : V m c main_v24 = truncf (F := F) .bf16 (m ((c : Thread nD τ).loc main_arg4) : FVec F S16x512x1024 .f32) bitsLt_bf16_f32 := by
  rfl

/-- The counts the program is given. -/
abbrev cnts : IVec S16 32 := m (((0 : Dev nD) : Thread nD τ).loc main_arg0)

variable {m} (hg : Good (cnts m))

theorem tab_nu : (tabs m).at 1 (Rect.unit (s := S1) ![0] S1.size inb_S1_S1_0) numel1_S1 = nuVW (cnts m) (ix1 (0 : Fin 1)) := by
  show V m 0 main_v21 _ = _
  rw [V_nu]
  exact congrArg (nuVW (cnts m)) (funext fun a => Fin.ext (by match a with | ⟨0, _⟩ => rfl))

theorem tab_te (i : grid0.Coords) :
    (tabs m).at 0 (Rect.unit (s := S144) ![(Scalar.indexCast (BitVec.ofNat 32 (i 0).val)).toNat] S1.size (k0_off1_inb i)) numel1_S1
      = teW (cnts m) (ix1 (⟨(i 0).val, (i 0).isLt⟩ : Fin 144)) := by
  show V m 0 main_v19 _ = _
  rw [V_te]
  refine congrArg (teW (cnts m)) (funext fun a => Fin.ext ?_)
  have hi : (i 0).val < 144 := (i 0).isLt
  match a with
  | ⟨0, _⟩ =>
    show (BitVec.ofNat 32 (i 0).val).toNat + 0 = (i 0).val
    rw [BitVec.toNat_ofNat]
    omega

include hg

theorem index_0 (i : grid0.Coords) : cc0_transform_0 inb_S1_S1_0 numel1_S1 (tabs m) i = ![min (nuN (cnts m) - 1) (i 0).val, 0] := by
  have hi : (i 0).val < 144 := (i 0).isLt
  have h0 := nuN_pos hg
  have h1 := nuN_le hg
  unfold cc0_transform_0
  rw [tab_nu, nuVW_at hg]
  have e1 : BitVec.ofNat 32 (nuN (cnts m)) - 1#32 = BitVec.ofNat 32 (nuN (cnts m) - 1) := by
    apply BitVec.eq_of_toNat_eq
    simp only [BitVec.toNat_sub, BitVec.toNat_ofNat]
    omega
  have e2 : (IntOp.minsi (BitVec.ofNat 32 (i 0).val) (BitVec.ofNat 32 (nuN (cnts m)) - 1#32)).toNat = min (nuN (cnts m) - 1) (i 0).val := by
    rw [e1, PlanTiles.minsi_word (by omega) (by omega), BitVec.toNat_ofNat]
    omega
  exact congrArg (fun z => ![z, 0]) e2

theorem index_w (i : grid0.Coords) : ((tabs m).at 0 (Rect.unit (s := S144) ![(Scalar.indexCast (BitVec.ofNat 32 (i 0).val)).toNat] S1.size (k0_off1_inb i)) numel1_S1 : BitVec 32).toNat
    = teN (cnts m) (i 0).val := by
  rw [tab_te, teW_at hg ⟨(i 0).val, (i 0).isLt⟩, BitVec.toNat_ofNat]
  have := teN_le (cnt := cnts m) (i 0).val
  show teN (cnts m) (i 0).val % 2 ^ 32 = _
  omega

theorem index_1 (i : grid0.Coords) : cc0_transform_1 k0_off1_inb numel1_S1 (tabs m) i = ![teN (cnts m) (i 0).val, 0, 0] :=
  congrArg (fun z => ![z, 0, 0]) (index_w hg i)

theorem index_2 (i : grid0.Coords) : cc0_transform_2 k0_off1_inb numel1_S1 (tabs m) i = ![teN (cnts m) (i 0).val, 0, 0] :=
  congrArg (fun z => ![z, 0, 0]) (index_w hg i)

theorem index_3 (i : grid0.Coords) : cc0_transform_3 k0_off1_inb numel1_S1 (tabs m) i = ![teN (cnts m) (i 0).val, 0, 0] :=
  congrArg (fun z => ![z, 0, 0]) (index_w hg i)

/-- Every block the index maps name lies inside its array. -/
theorem ok : ok0 (tabs m) := by
  have ht : ∀ i, teN (cnts m) i ≤ 15 := teN_le
  refine ⟨fun i => ⟨?_, .inl rfl⟩, fun i => ⟨?_, .inr (Affine.block_words_dvd (s := S16x1024x512) (p := EltTy.packing .bf16) (by decide) (by decide))⟩,
    fun i => ⟨?_, .inr (Affine.block_words_dvd (s := S16x1024x512) (p := EltTy.packing .bf16) (by decide) (by decide))⟩,
    fun i => ⟨?_, .inr (Affine.block_words_dvd (s := S16x512x1024) (p := EltTy.packing .bf16) (by decide) (by decide))⟩⟩
  · rw [index_0 hg i]
    have hi : (i 0).val < 144 := (i 0).isLt
    intro a
    match a with
    | ⟨0, _⟩ => show (min (nuN (cnts m) - 1) (i 0).val + 1) * 512 ≤ 73728; omega
    | ⟨1, _⟩ => show (0 + 1) * 1024 ≤ 1024; omega
  · rw [index_1 hg i]
    have := ht (i 0).val
    intro a
    match a with
    | ⟨0, _⟩ => show (teN (cnts m) (i 0).val + 1) * 1 ≤ 16; omega
    | ⟨1, _⟩ => show (0 + 1) * 1024 ≤ 1024; omega
    | ⟨2, _⟩ => show (0 + 1) * 512 ≤ 512; omega
  · rw [index_2 hg i]
    have := ht (i 0).val
    intro a
    match a with
    | ⟨0, _⟩ => show (teN (cnts m) (i 0).val + 1) * 1 ≤ 16; omega
    | ⟨1, _⟩ => show (0 + 1) * 1024 ≤ 1024; omega
    | ⟨2, _⟩ => show (0 + 1) * 512 ≤ 512; omega
  · rw [index_3 hg i]
    have := ht (i 0).val
    intro a
    match a with
    | ⟨0, _⟩ => show (teN (cnts m) (i 0).val + 1) * 1 ≤ 16; omega
    | ⟨1, _⟩ => show (0 + 1) * 512 ≤ 512; omega
    | ⟨2, _⟩ => show (0 + 1) * 1024 ≤ 1024; omega

end Cert.Kernel2Ideal

end
-- ==== Proof.MoeFrame.lean ====
/-
  The experts' printed program's run, read off the idealized text's: the two texts are the same program.
-/
module

public import proofs.«01_k».proof.Proof.MoeHost
public import proofs.«01_k».proof.Defs
public import proofs.«01_k».proof.Proof.Gen.Kernel2
public import proofs.«01_k».proof.Proof.Gen.Pre_routed_counts

@[expose] public section

set_option maxRecDepth 16384

noncomputable section

namespace Cert.Proof

open Idealize.ShloMosaic Idealize.SL.Sem

/-- The frame of the idealized text, read at bit patterns. -/
def FrameBits2 [hPre_routed_counts : Cert.Pre_routed_counts.Facts] : Prop :=
  ∀ (m : (ℓ : Loc Cert.Kernel2Ideal.nD Cert.Kernel2Ideal.τ Cert.Kernel2Ideal.sig) → Buf (Elt Bits) ℓ) (g : Dev Cert.Kernel2Ideal.nD → PrngReg), (∀ c : Dev Cert.Kernel2Ideal.nD,
    (Cert.Pre_routed_counts.fn (F := Bits) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)) →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

theorem frame_bits2 : FrameBits2 (hPre_routed_counts := Cert.Pre_routed_counts.Gen.facts) := fun m g hpre =>
  Cert.Kernel2Ideal.frame_main (F := Bits) m g (Cert.Kernel2Ideal.ok (Cert.Pre_routed_counts.good (congrFun (hpre 0) _)))

theorem same_text2 : Cert.quiescent_Kernel2 (hKernel2 := Cert.Kernel2.Gen.facts) (hPre_routed_counts := Cert.Pre_routed_counts.Gen.facts)
    = FrameBits2 (hPre_routed_counts := Cert.Pre_routed_counts.Gen.facts) := by
  sl_kernel_rfl

theorem quiescent_Kernel2 : Cert.quiescent_Kernel2 (hKernel2 := Cert.Kernel2.Gen.facts) (hPre_routed_counts := Cert.Pre_routed_counts.Gen.facts) :=
  same_text2.mpr frame_bits2

end Cert.Proof

end
-- ==== Proof.MoePay.lean ====
/-
  The experts' body at an entry: a row through its expert.
-/
module

public import proofs.«01_k».proof.Proof.Gen.Kernel2Ideal.Skeleton
public import Idealize.ShloMosaic.Lib.Pointwise

@[expose] public section

set_option maxRecDepth 16384

noncomputable section

namespace Cert.Moe

open Idealize.ShloMosaic Finset

/-- A row through one expert: the gated hidden row, then the product down. -/
def row (x : Fin 1024 → EReal) (wg wu : Fin 1024 → Fin 512 → EReal) (wd : Fin 512 → Fin 1024 → EReal) (d : Fin 1024) : EReal :=
  ∑ f : Fin 512, ((∑ k : Fin 1024, x k * wg k f) * Ideal.logistic (∑ k : Fin 1024, x k * wg k f) * (∑ k : Fin 1024, x k * wu k f)) * wd f d

open Cert.Kernel2Ideal Cert.Kernel2Ideal.Gen in
theorem pay1_at (x : Vec Ideal S512x1024 .f32) (g u : Vec Ideal S1x1024x512 .bf16) (w : Vec Ideal S1x512x1024 .bf16) (r : Fin 512) (d : Fin 1024) :
    k0_pay1 (F := Ideal) x g u w (ix2 r d) = row (fun k => x (ix2 r k)) (fun k f => g (ix3 0 k f)) (fun k f => u (ix3 0 k f)) (fun f d => w (ix3 0 f d)) d := by
  unfold row
  pointwise [k0_pay1]

open Cert.Kernel2Ideal Cert.Kernel2Ideal.Gen in
theorem pay2_at (r : Fin 512) (d : Fin 1024) : k0_pay2 (F := Ideal) (ix2 r d) = 0 := by
  pointwise [k0_pay2]

end Cert.Moe

end
-- ==== Proof.MoeValue.lean ====
/-
  The experts' result: a row of a tile in use through the tile's expert, zeros in the tiles beyond.
-/
module

public import proofs.«01_k».proof.Proof.MoeHost
public import proofs.«01_k».proof.Proof.MoePay
public import Idealize.ShloMosaic.Lib.Pipeline.Covers
public import Idealize.ShloMosaic.Lib.Pipeline.ValueKit

@[expose] public section

set_option maxRecDepth 16384

noncomputable section

namespace Cert.Kernel2Ideal

open Idealize.ShloMosaic Idealize.ShloMosaic.TcCoe Cert.Moe Finset
open Cert.Kernel2Ideal.Gen
open Idealize.ShloMosaic.Pipeline (Dat)

variable {m : (ℓ : Loc nD τ sig) → Buf (Elt Ideal) ℓ} (hg : Good (cnts m)) (c : Dev nD)

/-- The array, where every block's placed values are known. -/
theorem final_of (m : (ℓ : Loc nD τ sig) → Buf (Elt Ideal) ℓ) (c : Dev nD) (a : (pcfg0 (F := Ideal)).Adm) (G : FVec Ideal S73728x1024 .f32)
    (hcov : ((cfg0 a).win (4 : Fin 5)).Covers)
    (hG : ∀ (t : Fin (cfg0 a).N) (y : S512x1024.Idx), outBlk m a c t y = G ((((cfg0 a).win (4 : Fin 5)).blk t).view.emb y)) :
    (dats m a 0 c).arrAt (4 : Fin 5) (cfg0 a).N = G := by
  refine (dats m a 0 c).arrAt_eq_of_covers (4 : Fin 5) G hcov fun t hf y => ?_
  exact hG t y

/-- The tables, with their blocks inside. -/
abbrev adm : (pcfg0 (F := Ideal)).Adm := ⟨tabs m, ok hg⟩

/-- A tile's expert. -/
def exOf (i : ℕ) : Fin 16 := ⟨teN (cnts m) i, by have := teN_le (cnt := cnts m) i; omega⟩

/-- The grid point's tile. -/
def iOf (t : Fin (cfg0 (adm hg)).N) : Fin 144 := ⟨((grid0.coords t) 0).val, ((grid0.coords t) 0).isLt⟩

theorem widx_0 (t : Fin (cfg0 (adm hg)).N) : ((cfg0 (adm hg)).win (0 : Fin 5)).index t = ![min (nuN (cnts m) - 1) (iOf hg t).val, 0] :=
  index_0 hg (grid0.coords t)

theorem widx_1 (t : Fin (cfg0 (adm hg)).N) : ((cfg0 (adm hg)).win (1 : Fin 5)).index t = ![teN (cnts m) (iOf hg t).val, 0, 0] :=
  index_1 hg (grid0.coords t)

theorem widx_2 (t : Fin (cfg0 (adm hg)).N) : ((cfg0 (adm hg)).win (2 : Fin 5)).index t = ![teN (cnts m) (iOf hg t).val, 0, 0] :=
  index_2 hg (grid0.coords t)

theorem widx_3 (t : Fin (cfg0 (adm hg)).N) : ((cfg0 (adm hg)).win (3 : Fin 5)).index t = ![teN (cnts m) (iOf hg t).val, 0, 0] :=
  index_3 hg (grid0.coords t)

theorem widx_4 (t : Fin (cfg0 (adm hg)).N) : ((cfg0 (adm hg)).win (4 : Fin 5)).index t = ![(iOf hg t).val, 0] := by
  have hi := (iOf hg t).isLt
  have e : (BitVec.ofNat 32 (iOf hg t).val).toNat = (iOf hg t).val := by rw [BitVec.toNat_ofNat]; omega
  exact congrArg (fun z => ![z, 0]) e

theorem x_at (t : Fin (cfg0 (adm hg)).N) (hu : (iOf hg t).val < nuN (cnts m)) (r : Fin 512) (k : Fin 1024) :
    (iblk m (adm hg) c 0 t : Vec Ideal S512x1024 .f32) (ix2 r k)
      = (m ((c : Thread nD τ).loc main_arg1) : FVec Ideal S73728x1024 .f32)
        (ix2 ⟨(iOf hg t).val * 512 + r.val, by have := (iOf hg t).isLt; omega⟩ k) := by
  have hw := widx_0 hg t
  show (V m c main_arg1) ((((cfg0 (adm hg)).win (0 : Fin 5)).blk t).view.emb (ix2 r k)) = _
  rw [V_main_arg1]
  refine congrArg (m ((c : Thread nD τ).loc main_arg1) : FVec Ideal S73728x1024 .f32) (funext fun a => Fin.ext ?_)
  fin_cases a
  · show ((cfg0 (adm hg)).win (0 : Fin 5)).index t 0 * 512 + 1 * r.val = _
    rw [hw]
    show min (nuN (cnts m) - 1) (iOf hg t).val * 512 + 1 * r.val = (iOf hg t).val * 512 + r.val
    rw [Nat.min_eq_right (by omega)]
    omega
  · show ((cfg0 (adm hg)).win (0 : Fin 5)).index t 1 * 1024 + 1 * k.val = _
    rw [hw]
    show 0 * 1024 + 1 * k.val = k.val
    omega

theorem g_at (t : Fin (cfg0 (adm hg)).N) (k : Fin 1024) (f : Fin 512) :
    (iblk m (adm hg) c 1 t : Vec Ideal S1x1024x512 .bf16) (ix3 0 k f)
      = (m ((c : Thread nD τ).loc main_arg2) : FVec Ideal S16x1024x512 .f32) (ix3 (exOf (m := m) (iOf hg t).val) k f) := by
  have hw := widx_1 hg t
  show (V m c main_v22) ((((cfg0 (adm hg)).win (1 : Fin 5)).blk t).view.emb (ix3 0 k f)) = _
  rw [V_gate]
  refine congrArg (m ((c : Thread nD τ).loc main_arg2) : FVec Ideal S16x1024x512 .f32) (funext fun a => Fin.ext ?_)
  fin_cases a
  · show ((cfg0 (adm hg)).win (1 : Fin 5)).index t 0 * 1 + 1 * 0 = _
    rw [hw]
    show teN (cnts m) (iOf hg t).val * 1 + 1 * 0 = teN (cnts m) (iOf hg t).val
    omega
  · show ((cfg0 (adm hg)).win (1 : Fin 5)).index t 1 * 1024 + 1 * k.val = _
    rw [hw]
    show 0 * 1024 + 1 * k.val = k.val
    omega
  · show ((cfg0 (adm hg)).win (1 : Fin 5)).index t 2 * 512 + 1 * f.val = _
    rw [hw]
    show 0 * 512 + 1 * f.val = f.val
    omega

theorem u_at (t : Fin (cfg0 (adm hg)).N) (k : Fin 1024) (f : Fin 512) :
    (iblk m (adm hg) c 2 t : Vec Ideal S1x1024x512 .bf16) (ix3 0 k f)
      = (m ((c : Thread nD τ).loc main_arg3) : FVec Ideal S16x1024x512 .f32) (ix3 (exOf (m := m) (iOf hg t).val) k f) := by
  have hw := widx_2 hg t
  show (V m c main_v23) ((((cfg0 (adm hg)).win (2 : Fin 5)).blk t).view.emb (ix3 0 k f)) = _
  rw [V_up]
  refine congrArg (m ((c : Thread nD τ).loc main_arg3) : FVec Ideal S16x1024x512 .f32) (funext fun a => Fin.ext ?_)
  fin_cases a
  · show ((cfg0 (adm hg)).win (2 : Fin 5)).index t 0 * 1 + 1 * 0 = _
    rw [hw]
    show teN (cnts m) (iOf hg t).val * 1 + 1 * 0 = teN (cnts m) (iOf hg t).val
    omega
  · show ((cfg0 (adm hg)).win (2 : Fin 5)).index t 1 * 1024 + 1 * k.val = _
    rw [hw]
    show 0 * 1024 + 1 * k.val = k.val
    omega
  · show ((cfg0 (adm hg)).win (2 : Fin 5)).index t 2 * 512 + 1 * f.val = _
    rw [hw]
    show 0 * 512 + 1 * f.val = f.val
    omega

theorem d_at (t : Fin (cfg0 (adm hg)).N) (f : Fin 512) (d : Fin 1024) :
    (iblk m (adm hg) c 3 t : Vec Ideal S1x512x1024 .bf16) (ix3 0 f d)
      = (m ((c : Thread nD τ).loc main_arg4) : FVec Ideal S16x512x1024 .f32) (ix3 (exOf (m := m) (iOf hg t).val) f d) := by
  have hw := widx_3 hg t
  show (V m c main_v24) ((((cfg0 (adm hg)).win (3 : Fin 5)).blk t).view.emb (ix3 0 f d)) = _
  rw [V_down]
  refine congrArg (m ((c : Thread nD τ).loc main_arg4) : FVec Ideal S16x512x1024 .f32) (funext fun a => Fin.ext ?_)
  fin_cases a
  · show ((cfg0 (adm hg)).win (3 : Fin 5)).index t 0 * 1 + 1 * 0 = _
    rw [hw]
    show teN (cnts m) (iOf hg t).val * 1 + 1 * 0 = teN (cnts m) (iOf hg t).val
    omega
  · show ((cfg0 (adm hg)).win (3 : Fin 5)).index t 1 * 512 + 1 * f.val = _
    rw [hw]
    show 0 * 512 + 1 * f.val = f.val
    omega
  · show ((cfg0 (adm hg)).win (3 : Fin 5)).index t 2 * 1024 + 1 * d.val = _
    rw [hw]
    show 0 * 1024 + 1 * d.val = d.val
    omega

theorem nu_word : nuW (adm hg) = BitVec.ofNat 32 (nuN (cnts m)) := by
  show V m 0 main_v21 _ = _
  rw [V_nu, ← nuVW_at hg]
  exact congrArg (nuVW (cnts m)) (funext fun a => Fin.ext (by match a with | ⟨0, _⟩ => rfl))

/-- A tile is in use where the body's first condition holds. -/
theorem cond_iff (t : Fin (cfg0 (adm hg)).N) : k0_cond1 (grid0.coords t) (nuW (adm hg)) = 1#1 ↔ (iOf hg t).val < nuN (cnts m) := by
  have hi := (iOf hg t).isLt
  have h1 := nuN_le hg
  have e : nuW (adm hg) = BitVec.ofNat 32 (nuN (cnts m)) := nu_word hg
  rw [e]
  have hc := WordCmp.cmpi_slt_ofNat_eq_one_iff (w := 32) (a := (iOf hg t).val) (b := nuN (cnts m)) (by omega) (by omega)
  rw [← hc]
  unfold k0_cond1
  show IntOp.cmpi .ne (BitVec.setWidth 32 (IntOp.cmpi .slt (BitVec.ofNat 32 (iOf hg t).val) (BitVec.ofNat 32 (nuN (cnts m))))) 0#32 = 1#1 ↔ _
  generalize IntOp.cmpi .slt (BitVec.ofNat 32 (iOf hg t).val) (BitVec.ofNat 32 (nuN (cnts m))) = b
  revert b
  decide

/-- A row through an expert, of the program's arguments. -/
def rowOf (e : Fin 16) (r : Fin 73728) (d : Fin 1024) : EReal :=
  row (fun k => (m ((c : Thread nD τ).loc main_arg1) : FVec Ideal S73728x1024 .f32) (ix2 r k))
    (fun k f => (m ((c : Thread nD τ).loc main_arg2) : FVec Ideal S16x1024x512 .f32) (ix3 e k f))
    (fun k f => (m ((c : Thread nD τ).loc main_arg3) : FVec Ideal S16x1024x512 .f32) (ix3 e k f))
    (fun f d => (m ((c : Thread nD τ).loc main_arg4) : FVec Ideal S16x512x1024 .f32) (ix3 e f d)) d

/-- The whole result. -/
def result (m : (ℓ : Loc nD τ sig) → Buf (Elt Ideal) ℓ) (c : Dev nD) : FVec Ideal S73728x1024 .f32 := fun i =>
  if (i 0).val / 512 < nuN (cnts m) then rowOf (m := m) c (exOf (m := m) ((i 0).val / 512)) (i 0) (i 1) else 0

theorem outBlk_at (t : Fin (cfg0 (adm hg)).N) (r : Fin 512) (d : Fin 1024) :
    outBlk m (adm hg) c t (ix2 r d) = result m c (ix2 ⟨(iOf hg t).val * 512 + r.val, by have := (iOf hg t).isLt; omega⟩ d) := by
  unfold outBlk result
  have hq : ((iOf hg t).val * 512 + r.val) / 512 = (iOf hg t).val := by omega
  show _ = if ((iOf hg t).val * 512 + r.val) / 512 < nuN (cnts m) then rowOf c (exOf (m := m) (((iOf hg t).val * 512 + r.val) / 512)) _ _ else 0
  rw [hq]
  by_cases hu : (iOf hg t).val < nuN (cnts m)
  · rw [if_pos ((cond_iff hg t).mpr hu), if_pos hu]
    refine (pay1_at _ _ _ _ r d).trans ?_
    unfold rowOf
    congr 1
    · funext k; exact x_at hg c t hu r k
    · funext k f; exact g_at hg c t k f
    · funext k f; exact u_at hg c t k f
    · funext f d; exact d_at hg c t f d
  · rw [if_neg (fun h => hu ((cond_iff hg t).mp h)), if_neg hu]
    exact pay2_at r d

theorem covers : ((cfg0 (adm hg)).win (4 : Fin 5)).Covers :=
  ((cfg0 (adm hg)).win (4 : Fin 5)).covers_of_indexMap_surj rfl (by show ∀ a, 0 < S512x1024.size a; decide) fun β => by
    have h0 : (β 0).val < (73728 + 512 - 1) / 512 := (β 0).isLt
    have h1 : (β 1).val < (1024 + 1024 - 1) / 1024 := (β 1).isLt
    refine ⟨fun a => ⟨(β 0).val, by fin_cases a; show (β 0).val < 144; omega⟩, fun a => ?_⟩
    fin_cases a
    · show (BitVec.ofNat 32 (β 0).val).toNat = (β 0).val
      rw [BitVec.toNat_ofNat]; omega
    · show 0 = (β 1).val
      omega

/-- A point's block, placed in the array. -/
theorem placed (t : Fin (cfg0 (adm hg)).N) (y : S512x1024.Idx) :
    outBlk m (adm hg) c t y = result m c ((((cfg0 (adm hg)).win (4 : Fin 5)).blk t).view.emb y) := by
  obtain ⟨r, d, rfl⟩ : ∃ (r : Fin 512) (d : Fin 1024), y = ix2 r d := ⟨y 0, y 1, by funext a; fin_cases a <;> rfl⟩
  rw [outBlk_at]
  refine congrArg (result m c) (funext fun a => Fin.ext ?_)
  have hw := widx_4 hg t
  fin_cases a
  · show _ = ((cfg0 (adm hg)).win (4 : Fin 5)).index t 0 * 512 + 1 * r.val
    rw [hw]
    show (iOf hg t).val * 512 + r.val = (iOf hg t).val * 512 + 1 * r.val
    omega
  · show _ = ((cfg0 (adm hg)).win (4 : Fin 5)).index t 1 * 1024 + 1 * d.val
    rw [hw]
    show d.val = 0 * 1024 + 1 * d.val
    omega

theorem final_value : (dats m (adm hg) 0 c).arrAt (4 : Fin 5) (cfg0 (adm hg)).N = result m c :=
  final_of m c (adm hg) (result m c) (covers hg) (placed hg c)

end Cert.Kernel2Ideal

end
-- ==== Proof.MoeRef.lean ====
/-
  The experts' plain mathematics at an entry: every expert over every row, the rows of other experts weighted by zero.
-/
module

public import proofs.«01_k».proof.Proof.Gen.Reference2Ideal.Run
public import proofs.«01_k».proof.Proof.MoePlan
public import proofs.«01_k».proof.Proof.MoePay
public import Idealize.ShloMosaic.Lib.Pointwise
public import Idealize.ShloMosaic.Lib.IdealHost

@[expose] public section

set_option maxRecDepth 16384

noncomputable section

namespace Cert.Reference2Ideal.Read

open Idealize.ShloMosaic Idealize.ShloMosaic.TcCoe Finset Cert.Moe
open Cert.Reference2Ideal Cert.Reference2Ideal.Gen Cert.Reference2Ideal.Value
open Cert.Kernel2Ideal (Good padW endsW padW_at endsW_at sN pN teN nuN sN_succ sN_le teN_le mem_iff)

variable {F : FTy → Type} [FloatOps F]

/-- One expert's addend: its rows' share, every row's weighted by whether the row is the expert's. -/
def addend (mem : FVec F S73728x16 .f32) (x : FVec F S73728x1024 .bf16) (wg wu : FVec F S16x1024x512 .f32) (wd : FVec F S16x512x1024 .f32)
    (e : ℕ) (h1 : S73728x16.Slices ![0, e] S73728x1) (h2 : S16x1024x512.Slices ![e, 0, 0] S1x1024x512)
    (h3 : S16x512x1024.Slices ![e, 0, 0] S1x512x1024) : FVec F S73728x1024 .f32 :=
  let g : FVec F S73728x512 .f32 := Host.dotGeneral dot_S73728x1024_S1024x512_S73728x512_1_0_0_1_n_n none x
    (truncf .bf16 (shapeCast _ (extractStridedSlice S1x1024x512 ![e, 0, 0] wg h2) shapeCasts_S1x1024x512_S1024x512) bitsLt_bf16_f32)
  mulf (broadcastInDim S73728x1024 ![0, 1] bcast_S73728x1_S73728x1024_0_1 (extractStridedSlice S73728x1 ![0, e] mem h1))
    (Host.dotGeneral dot_S73728x512_S512x1024_S73728x1024_1_0_0_1_n_n none
      (truncf .bf16 (mulf (mulf g (Host.divf (broadcastInDim S73728x512 ![] bcast_S_S73728x512 (constant S_ .f32 0x3F800000#32))
          (addf (broadcastInDim S73728x512 ![] bcast_S_S73728x512 (constant S_ .f32 0x3F800000#32)) (Host.exp (Host.negf g)))))
        (Host.dotGeneral dot_S73728x1024_S1024x512_S73728x512_1_0_0_1_n_n none x
          (truncf .bf16 (shapeCast _ (extractStridedSlice S1x1024x512 ![e, 0, 0] wu h2) shapeCasts_S1x1024x512_S1024x512) bitsLt_bf16_f32))) bitsLt_bf16_f32)
      (truncf .bf16 (shapeCast _ (extractStridedSlice S1x512x1024 ![e, 0, 0] wd h3) shapeCasts_S1x512x1024_S512x1024) bitsLt_bf16_f32))

/-- The addends of a launch's arguments. -/
abbrev addendOf (V0 : Valuation τ sig (Elt F)) (e : ℕ) (h1 : S73728x16.Slices ![0, e] S73728x1) (h2 : S16x1024x512.Slices ![e, 0, 0] S1x1024x512)
    (h3 : S16x512x1024.Slices ![e, 0, 0] S1x512x1024) : FVec F S73728x1024 .f32 :=
  addend (res_main_v21 V0) (res_main_v22 V0) (V0 (Proc.devRef .tc main_arg2)) (V0 (Proc.devRef .tc main_arg3)) (V0 (Proc.devRef .tc main_arg4)) e h1 h2 h3

theorem sum_99 (V0 : Valuation τ sig (Elt F)) : res_main_v99 V0
    = (addf (addf (addf (addf (broadcastInDim S73728x1024 ![] bcast_S_S73728x1024 (constant S_ .f32 0x00000000#32))
      (addendOf V0 0 slices_S73728x16_S73728x1_0_0 slices_S16x1024x512_S1x1024x512_0_0_0 slices_S16x512x1024_S1x512x1024_0_0_0))
      (addendOf V0 1 slices_S73728x16_S73728x1_0_1 slices_S16x1024x512_S1x1024x512_1_0_0 slices_S16x512x1024_S1x512x1024_1_0_0))
      (addendOf V0 2 slices_S73728x16_S73728x1_0_2 slices_S16x1024x512_S1x1024x512_2_0_0 slices_S16x512x1024_S1x512x1024_2_0_0))
      (addendOf V0 3 slices_S73728x16_S73728x1_0_3 slices_S16x1024x512_S1x1024x512_3_0_0 slices_S16x512x1024_S1x512x1024_3_0_0)) := rfl

theorem sum_175 (V0 : Valuation τ sig (Elt F)) : res_main_v175 V0
    = (addf (addf (addf (addf (res_main_v99 V0)
      (addendOf V0 4 slices_S73728x16_S73728x1_0_4 slices_S16x1024x512_S1x1024x512_4_0_0 slices_S16x512x1024_S1x512x1024_4_0_0))
      (addendOf V0 5 slices_S73728x16_S73728x1_0_5 slices_S16x1024x512_S1x1024x512_5_0_0 slices_S16x512x1024_S1x512x1024_5_0_0))
      (addendOf V0 6 slices_S73728x16_S73728x1_0_6 slices_S16x1024x512_S1x1024x512_6_0_0 slices_S16x512x1024_S1x512x1024_6_0_0))
      (addendOf V0 7 slices_S73728x16_S73728x1_0_7 slices_S16x1024x512_S1x1024x512_7_0_0 slices_S16x512x1024_S1x512x1024_7_0_0)) := rfl

theorem sum_251 (V0 : Valuation τ sig (Elt F)) : res_main_v251 V0
    = (addf (addf (addf (addf (res_main_v175 V0)
      (addendOf V0 8 slices_S73728x16_S73728x1_0_8 slices_S16x1024x512_S1x1024x512_8_0_0 slices_S16x512x1024_S1x512x1024_8_0_0))
      (addendOf V0 9 slices_S73728x16_S73728x1_0_9 slices_S16x1024x512_S1x1024x512_9_0_0 slices_S16x512x1024_S1x512x1024_9_0_0))
      (addendOf V0 10 slices_S73728x16_S73728x1_0_10 slices_S16x1024x512_S1x1024x512_10_0_0 slices_S16x512x1024_S1x512x1024_10_0_0))
      (addendOf V0 11 slices_S73728x16_S73728x1_0_11 slices_S16x1024x512_S1x1024x512_11_0_0 slices_S16x512x1024_S1x512x1024_11_0_0)) := rfl

theorem sum_327 (V0 : Valuation τ sig (Elt F)) : res_main_v327 V0
    = (addf (addf (addf (addf (res_main_v251 V0)
      (addendOf V0 12 slices_S73728x16_S73728x1_0_12 slices_S16x1024x512_S1x1024x512_12_0_0 slices_S16x512x1024_S1x512x1024_12_0_0))
      (addendOf V0 13 slices_S73728x16_S73728x1_0_13 slices_S16x1024x512_S1x1024x512_13_0_0 slices_S16x512x1024_S1x512x1024_13_0_0))
      (addendOf V0 14 slices_S73728x16_S73728x1_0_14 slices_S16x1024x512_S1x1024x512_14_0_0 slices_S16x512x1024_S1x512x1024_14_0_0))
      (addendOf V0 15 slices_S73728x16_S73728x1_0_15 slices_S16x1024x512_S1x1024x512_15_0_0 slices_S16x512x1024_S1x512x1024_15_0_0)) := rfl

theorem addend_at (mem : FVec Ideal S73728x16 .f32) (x : FVec Ideal S73728x1024 .bf16) (wg wu : FVec Ideal S16x1024x512 .f32)
    (wd : FVec Ideal S16x512x1024 .f32) (e : Fin 16) (h1 : S73728x16.Slices ![0, e.val] S73728x1) (h2 : S16x1024x512.Slices ![e.val, 0, 0] S1x1024x512)
    (h3 : S16x512x1024.Slices ![e.val, 0, 0] S1x512x1024) (r : Fin 73728) (d : Fin 1024) :
    addend (F := Ideal) mem x wg wu wd e.val h1 h2 h3 (ix2 r d)
      = mem (ix2 r e) * row (fun k => x (ix2 r k)) (fun k f => wg (ix3 e k f)) (fun k f => wu (ix3 e k f)) (fun f d => wd (ix3 e f d)) d := by
  unfold row
  pointwise [addend]
  rfl

variable {V0 : Valuation τ sig (Elt Ideal)}

/-- The counts of the launch. -/
abbrev cntOf (V0 : Valuation τ sig (Elt Ideal)) : IVec S16 32 := V0 (Proc.devRef .tc main_arg0)

theorem pad_eq : res_main_v7 V0 = padW (cntOf V0) := rfl

theorem ends_eq : res_main_v8 V0 = endsW (cntOf V0) := rfl

theorem endsW_at' (hg : Good (cntOf V0)) (e : Fin 16) : endsW (cntOf V0) (ix1 e) = BitVec.ofNat 32 (sN (cntOf V0) (e.val + 1)) := endsW_at hg e

theorem padW_at' (hg : Good (cntOf V0)) (e : Fin 16) : padW (cntOf V0) (ix1 e) = BitVec.ofNat 32 (pN (cntOf V0) e.val) := padW_at hg e

theorem start_at (hg : Good (cntOf V0)) (e : Fin 16) : subi (endsW (cntOf V0)) (padW (cntOf V0)) (ix1 e) = BitVec.ofNat 32 (sN (cntOf V0) e.val) := by
  show endsW (cntOf V0) (ix1 e) - padW (cntOf V0) (ix1 e) = _
  rw [endsW_at' hg, padW_at' hg, sN_succ]
  have h := sN_le hg (k := e.val + 1) (by omega)
  rw [sN_succ] at h
  apply BitVec.eq_of_toNat_eq
  simp only [BitVec.toNat_sub, BitVec.toNat_ofNat]
  omega

/-- Whether a row is an expert's, as a bit. -/
theorem bit_at (hg : Good (cntOf V0)) (r : Fin 73728) (e : Fin 16) :
    (andi (cmpi .sge (broadcastInDim S73728x16 ![0, 1] bcast_S73728x1_S73728x16_0_1 (broadcastInDim S73728x1 ![0] bcast_S73728_S73728x1_0 (res_main_v0 V0))) (broadcastInDim S73728x16 ![0, 1] bcast_S1x16_S73728x16_0_1 (broadcastInDim S1x16 ![1] bcast_S16_S1x16_1 (subi (res_main_v8 V0) (res_main_v7 V0))))) (cmpi .slt (broadcastInDim S73728x16 ![0, 1] bcast_S73728x1_S73728x16_0_1 (broadcastInDim S73728x1 ![0] bcast_S73728_S73728x1_0 (res_main_v0 V0))) (broadcastInDim S73728x16 ![0, 1] bcast_S1x16_S73728x16_0_1 (broadcastInDim S1x16 ![1] bcast_S16_S1x16_1 (res_main_v8 V0)))) : IVec S73728x16 1) (ix2 r e)
      = if e.val = teN (cntOf V0) (r.val / 512) ∧ r.val / 512 < nuN (cntOf V0) then 1#1 else 0#1 := by
  have hl : ∀ a : IVec S16 32, broadcastInDim S73728x16 ![0, 1] bcast_S1x16_S73728x16_0_1 (broadcastInDim S1x16 ![1] bcast_S16_S1x16_1 a) (ix2 r e) = a (ix1 e) := fun a => by pointwise
  have hr : broadcastInDim S73728x16 ![0, 1] bcast_S73728x1_S73728x16_0_1 (broadcastInDim S73728x1 ![0] bcast_S73728_S73728x1_0 (res_main_v0 V0)) (ix2 r e) = BitVec.ofNat 32 r.val := by
    pointwise [res_main_v0]
  show IntOp.andi (IntOp.cmpi .sge _ _) (IntOp.cmpi .slt _ _) = _
  rw [hr, hl, hl, pad_eq, ends_eq, start_at hg, endsW_at' hg]
  have hrl := r.isLt
  have h0 := sN_le hg (k := e.val) (by omega)
  have h1 := sN_le hg (k := e.val + 1) (by omega)
  have ge := WordCmp.cmpi_sge_ofNat_eq_one_iff (w := 32) (a := r.val) (b := sN (cntOf V0) e.val) (by omega) (by omega)
  have lt := WordCmp.cmpi_slt_ofNat_eq_one_iff (w := 32) (a := r.val) (b := sN (cntOf V0) (e.val + 1)) (by omega) (by omega)
  have hm := mem_iff hg (e := e.val) (r := r.val) e.isLt
  have key : ∀ a b : BitVec 1, IntOp.andi a b = if a = 1#1 ∧ b = 1#1 then 1#1 else 0#1 := by decide
  rw [key]
  exact if_congr ((and_congr ge lt).trans hm) rfl rfl

/-- The table of whether a row is an expert's. -/
def memOf (V0 : Valuation τ sig (Elt Ideal)) : FVec Ideal S73728x16 .f32 := res_main_v21 V0

/-- An entry of an array of rows. -/
def valAt (x : FVec Ideal S73728x1024 .f32) (r : Fin 73728) (d : Fin 1024) : EReal := x (ix2 r d)

theorem member_at (hg : Good (cntOf V0)) (r : Fin 73728) (e : Fin 16) :
    memOf V0 (ix2 r e)
      = if e.val = teN (cntOf V0) (r.val / 512) ∧ r.val / 512 < nuN (cntOf V0) then 1 else 0 := by
  show (((_ : BitVec 1).toNat : ℝ) : EReal) = _
  rw [bit_at hg]
  split <;> simp

/-- A row through an expert, of the launch's arguments. -/
def rowOf (V0 : Valuation τ sig (Elt Ideal)) (e : Fin 16) (r : Fin 73728) (d : Fin 1024) : EReal :=
  row (fun k => (V0 (Proc.devRef .tc main_arg1) : FVec Ideal S73728x1024 .f32) (ix2 r k))
    (fun k f => (V0 (Proc.devRef .tc main_arg2) : FVec Ideal S16x1024x512 .f32) (ix3 e k f))
    (fun k f => (V0 (Proc.devRef .tc main_arg3) : FVec Ideal S16x1024x512 .f32) (ix3 e k f))
    (fun f d => (V0 (Proc.devRef .tc main_arg4) : FVec Ideal S16x512x1024 .f32) (ix3 e f d)) d

theorem addendOf_at (hg : Good (cntOf V0)) (e : Fin 16) (h1 : S73728x16.Slices ![0, e.val] S73728x1) (h2 : S16x1024x512.Slices ![e.val, 0, 0] S1x1024x512)
    (h3 : S16x512x1024.Slices ![e.val, 0, 0] S1x512x1024) (r : Fin 73728) (d : Fin 1024) :
    addendOf V0 e.val h1 h2 h3 (ix2 r d)
      = if e.val = teN (cntOf V0) (r.val / 512) ∧ r.val / 512 < nuN (cntOf V0) then rowOf V0 e r d else 0 := by
  refine (addend_at _ _ _ _ _ e h1 h2 h3 r d).trans ?_
  refine (congrArg (· * _) (member_at hg r e)).trans ?_
  show (if _ then (1 : EReal) else 0) * _ = _
  split
  · exact one_mul _
  · exact zero_mul _

theorem acc_99 (hg : Good (cntOf V0)) (r : Fin 73728) (d : Fin 1024) : valAt (res_main_v99 V0) r d
    = 0
      + (if 0 = teN (cntOf V0) (r.val / 512) ∧ r.val / 512 < nuN (cntOf V0) then rowOf V0 0 r d else 0)
      + (if 1 = teN (cntOf V0) (r.val / 512) ∧ r.val / 512 < nuN (cntOf V0) then rowOf V0 1 r d else 0)
      + (if 2 = teN (cntOf V0) (r.val / 512) ∧ r.val / 512 < nuN (cntOf V0) then rowOf V0 2 r d else 0)
      + (if 3 = teN (cntOf V0) (r.val / 512) ∧ r.val / 512 < nuN (cntOf V0) then rowOf V0 3 r d else 0) := by
  rw [sum_99]
  refine congrArg₂ (· + ·) (congrArg₂ (· + ·) (congrArg₂ (· + ·) (congrArg₂ (· + ·) ?_ (addendOf_at hg 0 _ _ _ r d)) (addendOf_at hg 1 _ _ _ r d))
    (addendOf_at hg 2 _ _ _ r d)) (addendOf_at hg 3 _ _ _ r d)
  pointwise

theorem acc_175 (hg : Good (cntOf V0)) (r : Fin 73728) (d : Fin 1024) : valAt (res_main_v175 V0) r d
    = valAt (res_main_v99 V0) r d
      + (if 4 = teN (cntOf V0) (r.val / 512) ∧ r.val / 512 < nuN (cntOf V0) then rowOf V0 4 r d else 0)
      + (if 5 = teN (cntOf V0) (r.val / 512) ∧ r.val / 512 < nuN (cntOf V0) then rowOf V0 5 r d else 0)
      + (if 6 = teN (cntOf V0) (r.val / 512) ∧ r.val / 512 < nuN (cntOf V0) then rowOf V0 6 r d else 0)
      + (if 7 = teN (cntOf V0) (r.val / 512) ∧ r.val / 512 < nuN (cntOf V0) then rowOf V0 7 r d else 0) := by
  rw [sum_175]
  refine congrArg₂ (· + ·) (congrArg₂ (· + ·) (congrArg₂ (· + ·) (congrArg₂ (· + ·) ?_ (addendOf_at hg 4 _ _ _ r d)) (addendOf_at hg 5 _ _ _ r d))
    (addendOf_at hg 6 _ _ _ r d)) (addendOf_at hg 7 _ _ _ r d)
  rfl

theorem acc_251 (hg : Good (cntOf V0)) (r : Fin 73728) (d : Fin 1024) : valAt (res_main_v251 V0) r d
    = valAt (res_main_v175 V0) r d
      + (if 8 = teN (cntOf V0) (r.val / 512) ∧ r.val / 512 < nuN (cntOf V0) then rowOf V0 8 r d else 0)
      + (if 9 = teN (cntOf V0) (r.val / 512) ∧ r.val / 512 < nuN (cntOf V0) then rowOf V0 9 r d else 0)
      + (if 10 = teN (cntOf V0) (r.val / 512) ∧ r.val / 512 < nuN (cntOf V0) then rowOf V0 10 r d else 0)
      + (if 11 = teN (cntOf V0) (r.val / 512) ∧ r.val / 512 < nuN (cntOf V0) then rowOf V0 11 r d else 0) := by
  rw [sum_251]
  refine congrArg₂ (· + ·) (congrArg₂ (· + ·) (congrArg₂ (· + ·) (congrArg₂ (· + ·) ?_ (addendOf_at hg 8 _ _ _ r d)) (addendOf_at hg 9 _ _ _ r d))
    (addendOf_at hg 10 _ _ _ r d)) (addendOf_at hg 11 _ _ _ r d)
  rfl

theorem acc_327 (hg : Good (cntOf V0)) (r : Fin 73728) (d : Fin 1024) : valAt (res_main_v327 V0) r d
    = valAt (res_main_v251 V0) r d
      + (if 12 = teN (cntOf V0) (r.val / 512) ∧ r.val / 512 < nuN (cntOf V0) then rowOf V0 12 r d else 0)
      + (if 13 = teN (cntOf V0) (r.val / 512) ∧ r.val / 512 < nuN (cntOf V0) then rowOf V0 13 r d else 0)
      + (if 14 = teN (cntOf V0) (r.val / 512) ∧ r.val / 512 < nuN (cntOf V0) then rowOf V0 14 r d else 0)
      + (if 15 = teN (cntOf V0) (r.val / 512) ∧ r.val / 512 < nuN (cntOf V0) then rowOf V0 15 r d else 0) := by
  rw [sum_327]
  refine congrArg₂ (· + ·) (congrArg₂ (· + ·) (congrArg₂ (· + ·) (congrArg₂ (· + ·) ?_ (addendOf_at hg 12 _ _ _ r d)) (addendOf_at hg 13 _ _ _ r d))
    (addendOf_at hg 14 _ _ _ r d)) (addendOf_at hg 15 _ _ _ r d)
  rfl

/-- The whole: a row of a tile in use through the tile's expert, and zero beyond. -/
theorem res_at (hg : Good (cntOf V0)) (r : Fin 73728) (d : Fin 1024) : valAt (res_main_v327 V0) r d
    = if r.val / 512 < nuN (cntOf V0) then rowOf V0 ⟨teN (cntOf V0) (r.val / 512), by have := teN_le (cnt := cntOf V0) (r.val / 512); omega⟩ r d else 0 := by
  rw [acc_327 hg, acc_251 hg, acc_175 hg, acc_99 hg]
  by_cases hu : r.val / 512 < nuN (cntOf V0)
  · simp only [hu, and_true, if_true]
    obtain ⟨n, hn⟩ : ∃ n : Fin 16, (⟨teN (cntOf V0) (r.val / 512), by have := teN_le (cnt := cntOf V0) (r.val / 512); omega⟩ : Fin 16) = n := ⟨_, rfl⟩
    have hv : teN (cntOf V0) (r.val / 512) = n.val := congrArg Fin.val hn
    rw [hn, hv]
    fin_cases n <;> simp
  · simp [hu]

end Cert.Reference2Ideal.Read

end
-- ==== Proof.Moe.lean ====
/-
  The experts: the frames, and on the extended reals, with counts in the routing's range, one result.
-/
module

public import proofs.«01_k».proof.Proof.MoeFrame
public import proofs.«01_k».proof.Proof.MoeValue
public import proofs.«01_k».proof.Proof.MoeRef
public import Idealize.ShloMosaic.Lib.Claim

@[expose] public section

set_option maxRecDepth 16384

noncomputable section

namespace Cert.Proof

open Idealize.ShloMosaic Idealize.ShloMosaic.TcCoe Idealize.SL.Sem

theorem quiescent_Kernel2Ideal : Cert.quiescent_Kernel2Ideal (hKernel2Ideal := Cert.Kernel2Ideal.Gen.facts)
    (hPre_routed_counts := Cert.Pre_routed_counts.Gen.facts) := fun m g hpre =>
  Cert.Kernel2Ideal.frame_main (F := Ideal) m g (Cert.Kernel2Ideal.ok (Cert.Pre_routed_counts.good (congrFun (hpre 0) _)))

theorem quiescent_Reference2Ideal : Cert.quiescent_Reference2Ideal (hReference2Ideal := Cert.Reference2Ideal.Gen.facts)
    (hPre_routed_counts := Cert.Pre_routed_counts.Gen.facts) := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

/-- The idealized text names nothing and leaves nothing out. -/
theorem preserves2 : Cert.preserves_Kernel2_Kernel2Ideal := trivial

theorem algebraic2 : Cert.algebraic_Kernel2Ideal_Reference2Ideal (hKernel2Ideal := Cert.Kernel2Ideal.Gen.facts)
    (hReference2Ideal := Cert.Reference2Ideal.Gen.facts) (hPre_routed_counts := Cert.Pre_routed_counts.Gen.facts) := by
  intro m g m' g' hpre hagree
  have hg : Cert.Kernel2Ideal.Good (Cert.Kernel2Ideal.cnts m) := Cert.Pre_routed_counts.good (congrFun (hpre 0) _)
  refine ⟨fun c => Cert.Kernel2Ideal.result m c, ?_, ?_⟩
  · refine (θ_run Cert.Kernel2Ideal.defs _ _).mono (fun r h c => ⟨?_, ?_⟩)
      (θ_run_and (Cert.Kernel2Ideal.run_main (F := Ideal) m g (Cert.Kernel2Ideal.ok hg))
        (Cert.Kernel2Ideal.frame_main (F := Ideal) m g (Cert.Kernel2Ideal.ok hg)))
    · exact ((h.1.1 c).1 (4 : Fin 5)).trans (Cert.Kernel2Ideal.final_value hg c)
    · exact h.2.1 c
  · refine (θ_run Cert.Reference2Ideal.defs _ _).mono (fun _ h c => ⟨(h c).1.trans ?_, (h c).2⟩)
      (Cert.Reference2Ideal.Value.run (F := Ideal) m' g')
    obtain rfl : c = 0 := Subsingleton.elim _ _
    obtain ⟨e0, e1, e2, e3, e4⟩ := hagree 0
    funext i
    obtain ⟨r, d, rfl⟩ : ∃ (r : Fin 73728) (d : Fin 1024), i = ix2 r d := ⟨i 0, i 1, by funext a; fin_cases a <;> rfl⟩
    have f0 : Cert.Reference2Ideal.Read.cntOf (StableHlo.launchContents m' 0) = Cert.Kernel2Ideal.cnts m := e0
    have hg' : Cert.Kernel2Ideal.Good (Cert.Reference2Ideal.Read.cntOf (StableHlo.launchContents m' 0)) := f0.symm ▸ hg
    have hrow : ∀ e, Cert.Reference2Ideal.Read.rowOf (StableHlo.launchContents m' 0) e r d = Cert.Kernel2Ideal.rowOf (m := m) 0 e r d := fun e => by
      unfold Cert.Reference2Ideal.Read.rowOf Cert.Kernel2Ideal.rowOf
      show Cert.Moe.row _ _ _ _ _ = Cert.Moe.row _ _ _ _ _
      exact congr (congr (congr (congr (congrArg Cert.Moe.row (funext fun k => congrFun e1 (ix2 r k)))
        (funext fun k => funext fun f => congrFun e2 (ix3 e k f))) (funext fun k => funext fun f => congrFun e3 (ix3 e k f)))
        (funext fun f => funext fun d => congrFun e4 (ix3 e f d))) rfl
    refine (Cert.Reference2Ideal.Read.res_at hg' r d).trans ?_
    show _ = if r.val / 512 < Cert.Kernel2Ideal.nuN (Cert.Kernel2Ideal.cnts m)
      then Cert.Kernel2Ideal.rowOf (m := m) 0 (Cert.Kernel2Ideal.exOf (m := m) (r.val / 512)) r d else 0
    have ht : (⟨Cert.Kernel2Ideal.teN (Cert.Reference2Ideal.Read.cntOf (StableHlo.launchContents m' 0)) (r.val / 512), by
        have := Cert.Kernel2Ideal.teN_le (cnt := Cert.Reference2Ideal.Read.cntOf (StableHlo.launchContents m' 0)) (r.val / 512); omega⟩ : Fin 16)
        = Cert.Kernel2Ideal.exOf (m := m) (r.val / 512) :=
      Fin.ext (congrArg (fun n => Cert.Kernel2Ideal.teN n (r.val / 512)) f0)
    rw [hrow, ht]
    exact if_congr (iff_of_eq (congrArg (fun n => r.val / 512 < Cert.Kernel2Ideal.nuN n) f0)) rfl rfl

end Cert.Proof

end
-- ==== Proof.OutPay.lean ====
/-
  The output projection's body at an entry: a row of the mix, the residual, the layer norm.
-/
module

public import proofs.«01_k».proof.Proof.Gen.Kernel3Ideal.Skeleton
public import Idealize.ShloMosaic.Lib.Pointwise

@[expose] public section

set_option maxRecDepth 16384

noncomputable section

namespace Cert.Out

open Idealize.ShloMosaic Finset

/-- A row's mean. -/
def mean (y : Fin 1024 → EReal) : EReal := Ideal.div (∑ k : Fin 1024, y k) (Ideal.ofBits .f32 0x44800000#32)

/-- A row, normalized: its mean taken off, over the root of its variance, with a gain and a bias. -/
def norm (y : Fin 1024 → EReal) (g b : Fin 1024 → EReal) (d : Fin 1024) : EReal :=
  (y d - mean y) * Ideal.rsqrt (mean (fun k => (y k - mean y) * (y k - mean y)) + Ideal.ofBits .f32 0x3727C5AC#32) * g d + b d

/-- A residual row, scaled, with the projection of a row of the three attentions, part by part. -/
def mix (a : Fin 512 → EReal) (b c : Fin 256 → EReal) (h : Fin 1024 → EReal) (w : Fin 1024 → Fin 1024 → EReal) (d : Fin 1024) : EReal :=
  Ideal.ofBits .f32 0x3FB504F3#32 * h d
    + (∑ k : Fin 512, a k * w ⟨k.val, by omega⟩ d + ∑ k : Fin 256, b k * w ⟨512 + k.val, by omega⟩ d
      + ∑ k : Fin 256, c k * w ⟨768 + k.val, by omega⟩ d)

open Cert.Kernel3Ideal Cert.Kernel3Ideal.Gen

theorem pay2_at (a : Vec Ideal S512x512 .bf16) (wa : Vec Ideal S512x1024 .bf16) (b : Vec Ideal S512x256 .bf16) (wb : Vec Ideal S256x1024 .bf16)
    (c : Vec Ideal S512x256 .bf16) (wc : Vec Ideal S256x1024 .bf16) (h : Vec Ideal S512x1024 .f32) (r : Fin 512) (d : Fin 1024) :
    k0_pay2 (F := Ideal) a wa b wb c wc h (ix2 r d) = Ideal.ofBits .f32 0x3FB504F3#32 * h (ix2 r d)
      + (∑ k : Fin 512, a (ix2 r k) * wa (ix2 k d) + ∑ k : Fin 256, b (ix2 r k) * wb (ix2 k d) + ∑ k : Fin 256, c (ix2 r k) * wc (ix2 k d)) := by
  pointwise [k0_pay2]

theorem pay5_at (a : Vec Ideal S512x512 .bf16) (wa : Vec Ideal S512x1024 .bf16) (b : Vec Ideal S512x256 .bf16) (wb : Vec Ideal S256x1024 .bf16)
    (c : Vec Ideal S512x256 .bf16) (wc : Vec Ideal S256x1024 .bf16) (h : Vec Ideal S512x1024 .f32) (r : Fin 512) :
    k0_pay5 (F := Ideal) a wa b wb c wc h (ix2 r (0 : Fin 1)) = mean (fun k => k0_pay2 (F := Ideal) a wa b wb c wc h (ix2 r k)) := by
  unfold mean k0_pay5
  generalize k0_pay2 (F := Ideal) a wa b wb c wc h = y
  pointwise []

theorem pay6_at (y : FVec Ideal S512x1024 .f32) (g b : FVec Ideal S1x1024 .f32) (mu : FVec Ideal S512x1 .f32)
    (r : Fin 512) (d : Fin 1024) (hm : mu (ix2 r (0 : Fin 1)) = mean (fun k => y (ix2 r k))) :
    k0_pay6 (F := Ideal) y g b mu (ix2 r d) = norm (fun k => y (ix2 r k)) (fun k => g (ix2 0 k)) (fun k => b (ix2 0 k)) d := by
  unfold norm
  rw [← hm]
  unfold mean
  pointwise [k0_pay6]

end Cert.Out

end
-- ==== Proof.OutBlock.lean ====
/-
  What the output projection's body leaves in its first result's block: one store of the normalized rows.
-/
module

public import proofs.«01_k».proof.Proof.Gen.Kernel3Ideal.Frame
public import proofs.«01_k».proof.Proof.OutPay
public import Idealize.ShloMosaic.Lib.Pipeline.Value

@[expose] public section

set_option maxRecDepth 16384

noncomputable section

namespace Cert.Kernel3Ideal.Block

open Idealize.ShloMosaic Idealize.ShloMosaic.TcCoe Finset
open Cert.Kernel3Ideal Cert.Kernel3Ideal.Gen

variable {F : FTy → Type} [FloatOps F]

theorem hz : (![0, 0] : Fin 2 → Nat) = fun _ => 0 := by
  funext a; fin_cases a <;> rfl

/-- The first 512 rows of the projection's weights. -/
def wa (w : Vec F S1024x1024 .bf16) : Vec F S512x1024 .bf16 :=
  View.ld w (Rect.unit (s := S1024x1024) ![0, 0] S512x1024.size inb_S1024x1024_S512x1024_0_0)

/-- The next 256. -/
def wb (w : Vec F S1024x1024 .bf16) : Vec F S256x1024 .bf16 :=
  View.ld w (Rect.unit (s := S1024x1024) ![512, 0] S256x1024.size inb_S1024x1024_S256x1024_512_0)

/-- The last 256. -/
def wc (w : Vec F S1024x1024 .bf16) : Vec F S256x1024 .bf16 :=
  View.ld w (Rect.unit (s := S1024x1024) ![768, 0] S256x1024.size inb_S1024x1024_S256x1024_768_0)

/-- The block the body stores. -/
def body (x0 : Vec F S512x512 .bf16) (x1 : Vec F S512x256 .bf16) (x2 : Vec F S512x256 .bf16) (x3 : Vec F S512x1024 .f32)
    (x4 : Vec F S1024x1024 .bf16) (x5 : Vec F S1x1024 .f32) (x6 : Vec F S1x1024 .f32) : Vec F S512x1024 .f32 :=
  k0_pay6 (k0_pay2 x0 (wa x4) x1 (wb x4) x2 (wc x4) x3) (k0_pay3 x5) (k0_pay4 x6) (k0_pay5 x0 (wa x4) x1 (wb x4) x2 (wc x4) x3)

theorem out_A (c : Dev nD) (i : grid0.Coords) (arg1 : Memref sig .tc .vmem S512x512 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S16x1024 .bf16) (harg8 : arg8.IsWhole) (arg9 : Memref sig .tc .vmem S16x1024 .bf16) (harg9 : arg9.IsWhole) (arg10 : Memref sig .tc .vmem S16x1 .f32) (harg10 : arg10.IsWhole) (arg11 : Memref sig .tc .vmem S512x1024 .f32) (harg11 : arg11.IsWhole) (arg12 : Memref sig .tc .vmem S8x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x512 .f32) (harg15 : arg15.IsWhole) (hc0 : cond0_0 i)
    (x0 : Vec F S512x512 .bf16) (x1 : Vec F S512x256 .bf16) (x2 : Vec F S512x256 .bf16) (x3 : Vec F S512x1024 .f32) (x4 : Vec F S1024x1024 .bf16) (x5 : Vec F S1x1024 .f32) (x6 : Vec F S1x1024 .f32) (x7 : Vec F S16x1024 .bf16) (x8 : Vec F S16x1024 .bf16) (x9 : Vec F S16x1 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = body x0 x1 x2 x3 x4 x5 x6 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread,
    View.ld_unit_zero (S := S512x512) hz, View.ld_unit_zero (S := S512x256) hz, View.ld_unit_zero (S := S512x1024) hz, View.ld_unit_zero (S := S1x1024) hz]
  rfl

theorem out_B (c : Dev nD) (i : grid0.Coords) (arg1 : Memref sig .tc .vmem S512x512 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S16x1024 .bf16) (harg8 : arg8.IsWhole) (arg9 : Memref sig .tc .vmem S16x1024 .bf16) (harg9 : arg9.IsWhole) (arg10 : Memref sig .tc .vmem S16x1 .f32) (harg10 : arg10.IsWhole) (arg11 : Memref sig .tc .vmem S512x1024 .f32) (harg11 : arg11.IsWhole) (arg12 : Memref sig .tc .vmem S8x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x512 .f32) (harg15 : arg15.IsWhole) (hc0 : ¬cond0_0 i)
    (x0 : Vec F S512x512 .bf16) (x1 : Vec F S512x256 .bf16) (x2 : Vec F S512x256 .bf16) (x3 : Vec F S512x1024 .f32) (x4 : Vec F S1024x1024 .bf16) (x5 : Vec F S1x1024 .f32) (x6 : Vec F S1x1024 .f32) (x7 : Vec F S16x1024 .bf16) (x8 : Vec F S16x1024 .bf16) (x9 : Vec F S16x1 .f32) (xs0 : Vec F S16x128 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = body x0 x1 x2 x3 x4 x5 x6 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread,
    View.ld_unit_zero (S := S512x512) hz, View.ld_unit_zero (S := S512x256) hz, View.ld_unit_zero (S := S512x1024) hz, View.ld_unit_zero (S := S1x1024) hz]
  rfl

/-- The block at an entry. -/
theorem body_at (x0 : Vec Ideal S512x512 .bf16) (x1 : Vec Ideal S512x256 .bf16) (x2 : Vec Ideal S512x256 .bf16) (x3 : Vec Ideal S512x1024 .f32)
    (x4 : Vec Ideal S1024x1024 .bf16) (x5 : Vec Ideal S1x1024 .f32) (x6 : Vec Ideal S1x1024 .f32) (r : Fin 512) (d : Fin 1024) :
    body (F := Ideal) x0 x1 x2 x3 x4 x5 x6 (ix2 r d)
      = Out.norm (Out.mix (fun k => x0 (ix2 r k)) (fun k => x1 (ix2 r k)) (fun k => x2 (ix2 r k)) (fun k => x3 (ix2 r k)) (fun k d => x4 (ix2 k d)))
        (fun k => x5 (ix2 0 k)) (fun k => x6 (ix2 0 k)) d := by
  unfold body
  rw [Out.pay6_at _ _ _ _ r d (Out.pay5_at _ _ _ _ _ _ _ r)]
  have e5 : k0_pay3 (F := Ideal) x5 = x5 := by unfold k0_pay3; exact shapeCast_self _ _
  have e6 : k0_pay4 (F := Ideal) x6 = x6 := by unfold k0_pay4; exact shapeCast_self _ _
  rw [e5, e6]
  refine congrArg (fun y => Out.norm y (fun k => x5 (ix2 0 k)) (fun k => x6 (ix2 0 k)) d) (funext fun k => ?_)
  rw [Out.pay2_at]
  unfold Out.mix
  have ea : ∀ j : Fin 512, wa (F := Ideal) x4 (ix2 j k) = x4 (ix2 ⟨j.val, by omega⟩ k) := fun j =>
    congrArg x4 (funext fun a => Fin.ext (by
      fin_cases a
      · show 0 + 1 * j.val = j.val; omega
      · show 0 + 1 * k.val = k.val; omega))
  have eb : ∀ j : Fin 256, wb (F := Ideal) x4 (ix2 j k) = x4 (ix2 ⟨512 + j.val, by omega⟩ k) := fun j =>
    congrArg x4 (funext fun a => Fin.ext (by
      fin_cases a
      · show 512 + 1 * j.val = 512 + j.val; omega
      · show 0 + 1 * k.val = k.val; omega))
  have ec : ∀ j : Fin 256, wc (F := Ideal) x4 (ix2 j k) = x4 (ix2 ⟨768 + j.val, by omega⟩ k) := fun j =>
    congrArg x4 (funext fun a => Fin.ext (by
      fin_cases a
      · show 768 + 1 * j.val = 768 + j.val; omega
      · show 0 + 1 * k.val = k.val; omega))
  simp only [ea, eb, ec]

end Cert.Kernel3Ideal.Block

end
-- ==== Proof.OutValue.lean ====
/-
  The output projection's first result: every row's mix, normalized.
-/
module

public import proofs.«01_k».proof.Proof.Gen.Kernel3Ideal.Value
public import proofs.«01_k».proof.Proof.OutBlock
public import Idealize.ShloMosaic.Lib.Pointwise
public import Idealize.ShloMosaic.Lib.Pipeline.ValueKit

@[expose] public section

set_option maxRecDepth 16384

noncomputable section

namespace Cert.Kernel3Ideal.Block

open Idealize.ShloMosaic Idealize.ShloMosaic.TcCoe Finset
open Cert.Kernel3Ideal Cert.Kernel3Ideal.Gen

variable (m : (ℓ : Loc nD τ sig) → Buf (Elt Ideal) ℓ) (c : Dev nD)

theorem V_v2 : V m c main_v2 = truncf (F := Ideal) .bf16 (m ((c : Thread nD τ).loc main_arg0) : FVec Ideal S32768x512 .f32) bitsLt_bf16_f32 := by
  rfl

theorem V_v3 : V m c main_v3 = truncf (F := Ideal) .bf16 (m ((c : Thread nD τ).loc main_arg1) : FVec Ideal S32768x256 .f32) bitsLt_bf16_f32 := by
  rfl

theorem V_v4 : V m c main_v4 = truncf (F := Ideal) .bf16 (m ((c : Thread nD τ).loc main_arg2) : FVec Ideal S32768x256 .f32) bitsLt_bf16_f32 := by
  rfl

theorem V_v5 : V m c main_v5 = truncf (F := Ideal) .bf16 (m ((c : Thread nD τ).loc main_arg4) : FVec Ideal S1024x1024 .f32) bitsLt_bf16_f32 := by
  rfl

theorem V_v6 (k : Fin 1024) : (V m c main_v6 : FVec Ideal S1x1024 .f32) (ix2 0 k) = (m ((c : Thread nD τ).loc main_arg5) : FVec Ideal S1024 .f32) (ix1 k) := by
  have e : (V m c main_v6 : FVec Ideal S1x1024 .f32) = shapeCast S1x1024 (m ((c : Thread nD τ).loc main_arg5) : FVec Ideal S1024 .f32) shapeCasts_S1024_S1x1024 := by rfl
  rw [e]
  pointwise []

theorem V_v7 (k : Fin 1024) : (V m c main_v7 : FVec Ideal S1x1024 .f32) (ix2 0 k) = (m ((c : Thread nD τ).loc main_arg6) : FVec Ideal S1024 .f32) (ix1 k) := by
  have e : (V m c main_v7 : FVec Ideal S1x1024 .f32) = shapeCast S1x1024 (m ((c : Thread nD τ).loc main_arg6) : FVec Ideal S1024 .f32) shapeCasts_S1024_S1x1024 := by rfl
  rw [e]
  pointwise []

/-- The grid point's block of rows. -/
def tOf (t : Fin cfg0.N) : Fin 64 := ⟨t.val, lt_of_lt_of_eq t.isLt N_0⟩

/-- A block's row in the array. -/
def rowAt (t : Fin cfg0.N) (r : Fin 512) : Fin 32768 := ⟨(tOf t).val * 512 + r.val, by have := (tOf t).isLt; omega⟩

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 2) = t.val ∧ win0_1.index t (1 : Fin 2) = 0 :=
  (by decide +kernel : ∀ t : Fin grid0.N, _)

theorem idx_2 : ∀ t : Fin cfg0.N, win0_2.index t (0 : Fin 2) = t.val ∧ win0_2.index t (1 : Fin 2) = 0 :=
  (by decide +kernel : ∀ t : Fin grid0.N, _)

theorem idx_3 : ∀ t : Fin cfg0.N, win0_3.index t (0 : Fin 2) = t.val ∧ win0_3.index t (1 : Fin 2) = 0 :=
  (by decide +kernel : ∀ t : Fin grid0.N, _)

theorem idx_10 : ∀ t : Fin cfg0.N, win0_10.index t (0 : Fin 2) = t.val ∧ win0_10.index t (1 : Fin 2) = 0 :=
  (by decide +kernel : ∀ t : Fin grid0.N, _)

theorem idx_4 : ∀ t : Fin cfg0.N, win0_4.index t (0 : Fin 2) = 0 ∧ win0_4.index t (1 : Fin 2) = 0 :=
  (by decide +kernel : ∀ t : Fin grid0.N, _)

theorem idx_5 : ∀ t : Fin cfg0.N, win0_5.index t (0 : Fin 2) = 0 ∧ win0_5.index t (1 : Fin 2) = 0 :=
  (by decide +kernel : ∀ t : Fin grid0.N, _)

theorem idx_6 : ∀ t : Fin cfg0.N, win0_6.index t (0 : Fin 2) = 0 ∧ win0_6.index t (1 : Fin 2) = 0 :=
  (by decide +kernel : ∀ t : Fin grid0.N, _)

theorem a_at (t : Fin cfg0.N) (r : Fin 512) (k : Fin 512) :
    (iblk m c 0 t : Vec Ideal S512x512 .bf16) (ix2 r k) = (m ((c : Thread nD τ).loc main_arg0) : FVec Ideal S32768x512 .f32) (ix2 (rowAt t r) k) := by
  show (V m c main_v2) (((cfg0.win 0).blk t).view.emb (ix2 r k)) = _
  rw [V_v2]
  refine congrArg (m ((c : Thread nD τ).loc main_arg0) : FVec Ideal S32768x512 .f32) (funext fun a => Fin.ext ?_)
  fin_cases a
  · show win0_0.index t (0 : Fin 2) * 512 + 1 * r.val = t.val * 512 + r.val
    rw [(idx_0 t).1]
    omega
  · show win0_0.index t (1 : Fin 2) * 512 + 1 * k.val = k.val
    rw [(idx_0 t).2]
    omega

theorem b_at (t : Fin cfg0.N) (r : Fin 512) (k : Fin 256) :
    (iblk m c 1 t : Vec Ideal S512x256 .bf16) (ix2 r k) = (m ((c : Thread nD τ).loc main_arg1) : FVec Ideal S32768x256 .f32) (ix2 (rowAt t r) k) := by
  show (V m c main_v3) (((cfg0.win 1).blk t).view.emb (ix2 r k)) = _
  rw [V_v3]
  refine congrArg (m ((c : Thread nD τ).loc main_arg1) : FVec Ideal S32768x256 .f32) (funext fun a => Fin.ext ?_)
  fin_cases a
  · show win0_1.index t (0 : Fin 2) * 512 + 1 * r.val = t.val * 512 + r.val
    rw [(idx_1 t).1]
    omega
  · show win0_1.index t (1 : Fin 2) * 256 + 1 * k.val = k.val
    rw [(idx_1 t).2]
    omega

theorem c_at (t : Fin cfg0.N) (r : Fin 512) (k : Fin 256) :
    (iblk m c 2 t : Vec Ideal S512x256 .bf16) (ix2 r k) = (m ((c : Thread nD τ).loc main_arg2) : FVec Ideal S32768x256 .f32) (ix2 (rowAt t r) k) := by
  show (V m c main_v4) (((cfg0.win 2).blk t).view.emb (ix2 r k)) = _
  rw [V_v4]
  refine congrArg (m ((c : Thread nD τ).loc main_arg2) : FVec Ideal S32768x256 .f32) (funext fun a => Fin.ext ?_)
  fin_cases a
  · show win0_2.index t (0 : Fin 2) * 512 + 1 * r.val = t.val * 512 + r.val
    rw [(idx_2 t).1]
    omega
  · show win0_2.index t (1 : Fin 2) * 256 + 1 * k.val = k.val
    rw [(idx_2 t).2]
    omega

theorem h_at (t : Fin cfg0.N) (r : Fin 512) (k : Fin 1024) :
    (iblk m c 3 t : Vec Ideal S512x1024 .f32) (ix2 r k) = (m ((c : Thread nD τ).loc main_arg3) : FVec Ideal S32768x1024 .f32) (ix2 (rowAt t r) k) := by
  show (V m c main_arg3) (((cfg0.win 3).blk t).view.emb (ix2 r k)) = _
  rw [V_main_arg3]
  refine congrArg (m ((c : Thread nD τ).loc main_arg3) : FVec Ideal S32768x1024 .f32) (funext fun a => Fin.ext ?_)
  fin_cases a
  · show win0_3.index t (0 : Fin 2) * 512 + 1 * r.val = t.val * 512 + r.val
    rw [(idx_3 t).1]
    omega
  · show win0_3.index t (1 : Fin 2) * 1024 + 1 * k.val = k.val
    rw [(idx_3 t).2]
    omega

theorem w_at (t : Fin cfg0.N) (k d : Fin 1024) :
    (iblk m c 4 t : Vec Ideal S1024x1024 .bf16) (ix2 k d) = (m ((c : Thread nD τ).loc main_arg4) : FVec Ideal S1024x1024 .f32) (ix2 k d) := by
  show (V m c main_v5) (((cfg0.win 4).blk t).view.emb (ix2 k d)) = _
  rw [V_v5]
  refine congrArg (m ((c : Thread nD τ).loc main_arg4) : FVec Ideal S1024x1024 .f32) (funext fun a => Fin.ext ?_)
  fin_cases a
  · show win0_4.index t (0 : Fin 2) * 1024 + 1 * k.val = k.val
    rw [(idx_4 t).1]
    omega
  · show win0_4.index t (1 : Fin 2) * 1024 + 1 * d.val = d.val
    rw [(idx_4 t).2]
    omega

theorem g_at (t : Fin cfg0.N) (k : Fin 1024) :
    (iblk m c 5 t : Vec Ideal S1x1024 .f32) (ix2 0 k) = (m ((c : Thread nD τ).loc main_arg5) : FVec Ideal S1024 .f32) (ix1 k) := by
  rw [← V_v6 m c]
  show (V m c main_v6) (((cfg0.win 5).blk t).view.emb (ix2 0 k)) = _
  refine congrArg (V m c main_v6 : FVec Ideal S1x1024 .f32) (funext fun a => Fin.ext ?_)
  fin_cases a
  · show win0_5.index t (0 : Fin 2) * 1 + 1 * 0 = 0
    rw [(idx_5 t).1]
  · show win0_5.index t (1 : Fin 2) * 1024 + 1 * k.val = k.val
    rw [(idx_5 t).2]
    omega

theorem o_at (t : Fin cfg0.N) (k : Fin 1024) :
    (iblk m c 6 t : Vec Ideal S1x1024 .f32) (ix2 0 k) = (m ((c : Thread nD τ).loc main_arg6) : FVec Ideal S1024 .f32) (ix1 k) := by
  rw [← V_v7 m c]
  show (V m c main_v7) (((cfg0.win 6).blk t).view.emb (ix2 0 k)) = _
  refine congrArg (V m c main_v7 : FVec Ideal S1x1024 .f32) (funext fun a => Fin.ext ?_)
  fin_cases a
  · show win0_6.index t (0 : Fin 2) * 1 + 1 * 0 = 0
    rw [(idx_6 t).1]
  · show win0_6.index t (1 : Fin 2) * 1024 + 1 * k.val = k.val
    rw [(idx_6 t).2]
    omega

/-- The whole result. -/
def result (m : (ℓ : Loc nD τ sig) → Buf (Elt Ideal) ℓ) (c : Dev nD) : FVec Ideal S32768x1024 .f32 := fun i =>
  Out.norm (Out.mix (fun k => (m ((c : Thread nD τ).loc main_arg0) : FVec Ideal S32768x512 .f32) (ix2 (i 0) k))
      (fun k => (m ((c : Thread nD τ).loc main_arg1) : FVec Ideal S32768x256 .f32) (ix2 (i 0) k))
      (fun k => (m ((c : Thread nD τ).loc main_arg2) : FVec Ideal S32768x256 .f32) (ix2 (i 0) k))
      (fun k => (m ((c : Thread nD τ).loc main_arg3) : FVec Ideal S32768x1024 .f32) (ix2 (i 0) k))
      (fun k d => (m ((c : Thread nD τ).loc main_arg4) : FVec Ideal S1024x1024 .f32) (ix2 k d)))
    (fun k => (m ((c : Thread nD τ).loc main_arg5) : FVec Ideal S1024 .f32) (ix1 k))
    (fun k => (m ((c : Thread nD τ).loc main_arg6) : FVec Ideal S1024 .f32) (ix1 k)) (i 1)

/-- The grid point's block. -/
def outBlk (t : Fin cfg0.N) : Vec Ideal S512x1024 .f32 :=
  body (F := Ideal) (iblk m c 0 t) (iblk m c 1 t) (iblk m c 2 t) (iblk m c 3 t) (iblk m c 4 t) (iblk m c 5 t) (iblk m c 6 t)

theorem outBlk_at (t : Fin cfg0.N) (r : Fin 512) (d : Fin 1024) : outBlk m c t (ix2 r d) = result m c (ix2 (rowAt t r) d) := by
  refine (body_at _ _ _ _ _ _ _ r d).trans ?_
  simp only [a_at, b_at, c_at, h_at, w_at, g_at, o_at]
  rfl

theorem flushed_eq (t : Fin cfg0.N) : (dats m 0 c).flushed 10 t = (cfg0.win 10).cut (grid0.coords t) (outBlk m c t) := by
  by_cases h0 : t.val % 64 = 0
  · rw [Value.flushed10_A m c t h0, out_A]; rfl
  · rw [Value.flushed10_B m c t h0, out_B]; rfl

theorem final_value : (dats m 0 c).arrAt 10 cfg0.N = result m c := by
  refine (dats m 0 c).arrAt_eq_of_cover 10 _ (fun t _ => ?_) (fun i => (Value.covered_iff10 i).2 (by
    have h0 : (i 0).val < 32768 := (i 0).isLt; have h1 : (i 1).val < 1024 := (i 1).isLt; omega))
  rw [flushed_eq]
  funext y
  have hy0 : (y 0).val < 512 := (y 0).isLt
  have hy1 : (y 1).val < 1024 := (y 1).isLt
  have hx : (cfg0.win 10).xinj (grid0.coords t) y = (ix2 (⟨(y 0).val, hy0⟩ : Fin 512) (⟨(y 1).val, hy1⟩ : Fin 1024) : S512x1024.Idx) := by
    funext a; apply Fin.ext
    match a with
    | ⟨0, _⟩ => rfl
    | ⟨1, _⟩ => rfl
  show outBlk m c t ((cfg0.win 10).xinj (grid0.coords t) y) = result m c (((cfg0.win 10).blk t).view.emb y)
  rw [hx, outBlk_at]
  refine congrArg (result m c) (funext fun a => Fin.ext ?_)
  match a with
  | ⟨0, _⟩ =>
    show t.val * 512 + (y 0).val = win0_10.index t (0 : Fin 2) * 512 + 1 * (y 0).val
    rw [(idx_10 t).1]; omega
  | ⟨1, _⟩ =>
    show (y 1).val = win0_10.index t (1 : Fin 2) * 1024 + 1 * (y 1).val
    rw [(idx_10 t).2]; omega

end Cert.Kernel3Ideal.Block

end
-- ==== Proof.OutRef.lean ====
/-
  The plain mathematics of the output projection at an entry.
-/
module

public import proofs.«01_k».proof.Proof.Gen.Reference3Ideal.Run
public import proofs.«01_k».proof.Proof.OutPay
public import Idealize.ShloMosaic.Lib.Pointwise
public import Idealize.ShloMosaic.Lib.IdealHost

@[expose] public section

set_option maxRecDepth 16384

noncomputable section

namespace Cert.Reference3Ideal.Read

open Idealize.ShloMosaic Idealize.ShloMosaic.TcCoe Finset Cert.Out
open Cert.Reference3Ideal Cert.Reference3Ideal.Gen Cert.Reference3Ideal.Value

variable {F : FTy → Type} [FloatOps F]

/-- The residual with the projection of the three attentions side by side. -/
def mixed (a : FVec F S32768x512 .f32) (b c : FVec F S32768x256 .f32) (h : FVec F S32768x1024 .f32) (w : FVec F S1024x1024 .f32) :
    FVec F S32768x1024 .f32 :=
  addf (mulf (broadcastInDim S32768x1024 ![] bcast_S_S32768x1024 (constant S_ .f32 0x3FB504F3#32)) h)
    (Host.dotGeneral dot_S32768x1024_S1024x1024_S32768x1024_1_0_0_1_n_n none (truncf .bf16 ((concatenate S32768x1024 1 [⟨S32768x512, (a : (⟨S32768x512, .f32⟩ : BufTy).Contents (Elt F))⟩, ⟨S32768x256, (b : (⟨S32768x256, .f32⟩ : BufTy).Contents (Elt F))⟩, ⟨S32768x256, (c : (⟨S32768x256, .f32⟩ : BufTy).Contents (Elt F))⟩] concatenates_S32768x512_S32768x256_S32768x256_S32768x1024_d1 : (⟨S32768x1024, .f32⟩ : BufTy).Contents (Elt F))) bitsLt_bf16_f32) (truncf .bf16 w bitsLt_bf16_f32))

/-- Every row's mean. -/
def means (y : FVec F S32768x1024 .f32) : FVec F S32768x1 .f32 :=
  Host.divf (broadcastInDim S32768x1 ![0] bcast_S32768_S32768x1_0 (Host.reduceAdd y (constant S_ .f32 0x00000000#32) reducesTo_S32768x1024_S32768_d1 h_S_))
    (broadcastInDim S32768x1 ![] bcast_S_S32768x1 (constant S_ .f32 0x44800000#32))

/-- Every row without its mean. -/
def centred (y : FVec F S32768x1024 .f32) : FVec F S32768x1024 .f32 :=
  subf y (broadcastInDim S32768x1024 ![0, 1] bcast_S32768x1_S32768x1024_0_1 (means y))

/-- Every row, normalized. -/
def normed (y : FVec F S32768x1024 .f32) (g b : FVec F S1024 .f32) : FVec F S32768x1024 .f32 :=
  addf (mulf (mulf (centred y) (broadcastInDim S32768x1024 ![0, 1] bcast_S32768x1_S32768x1024_0_1 (Host.rsqrt (addf (means (mulf (centred y) (centred y)))
      (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

theorem res_eq (m : (ℓ : Loc nD τ sig) → Buf (Elt F) ℓ) (c : Dev nD) :
    res_out0 m c = normed (mixed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5)) (m ((c.tc : Thread nD τ).loc main_arg6)) := by
  rfl

theorem means_at (y : FVec Ideal S32768x1024 .f32) (r : Fin 32768) : means y (ix2 r (0 : Fin 1)) = mean (fun k => y (ix2 r k)) := by
  unfold mean
  pointwise [means]

theorem centred_at (y : FVec Ideal S32768x1024 .f32) (r : Fin 32768) (d : Fin 1024) :
    centred y (ix2 r d) = y (ix2 r d) - mean (fun k => y (ix2 r k)) := by
  unfold centred
  rw [← means_at]
  generalize means y = z
  pointwise []

theorem normed_at (y : FVec Ideal S32768x1024 .f32) (g b : FVec Ideal S1024 .f32) (r : Fin 32768) (d : Fin 1024) :
    normed y g b (ix2 r d) = Out.norm (fun k => y (ix2 r k)) (fun k => g (ix1 k)) (fun k => b (ix1 k)) d := by
  have h : means (mulf (centred y) (centred y)) (ix2 r (0 : Fin 1))
      = mean (fun k => (y (ix2 r k) - mean (fun k => y (ix2 r k))) * (y (ix2 r k) - mean (fun k => y (ix2 r k)))) := by
    rw [means_at]
    refine congrArg mean (funext fun k => ?_)
    show centred y (ix2 r k) * centred y (ix2 r k) = _
    rw [centred_at]
  unfold Out.norm normed
  rw [← h, ← centred_at]
  generalize centred y = z
  generalize means (mulf z z) = v
  pointwise []

/-- A sum over the lanes, part by part. -/
theorem sum_parts (f : Fin 1024 → EReal) :
    ∑ k : Fin 1024, f k = ∑ k : Fin 512, f ⟨k.val, by omega⟩ + ∑ k : Fin 256, f ⟨512 + k.val, by omega⟩ + ∑ k : Fin 256, f ⟨768 + k.val, by omega⟩ := by
  have h1 : ∑ k : Fin 1024, f k = ∑ k : Fin (512 + 256 + 256), f k := rfl
  rw [h1, Fin.sum_univ_add, Fin.sum_univ_add]
  rfl

theorem mixed_at (a : FVec Ideal S32768x512 .f32) (b c : FVec Ideal S32768x256 .f32) (h : FVec Ideal S32768x1024 .f32) (w : FVec Ideal S1024x1024 .f32)
    (r : Fin 32768) (d : Fin 1024) :
    mixed a b c h w (ix2 r d) = mix (fun k => a (ix2 r k)) (fun k => b (ix2 r k)) (fun k => c (ix2 r k)) (fun k => h (ix2 r k)) (fun k d => w (ix2 k d)) d := by
  have hm : mixed a b c h w (ix2 r d) = Ideal.ofBits .f32 0x3FB504F3#32 * h (ix2 r d)
      + ∑ k : Fin 1024, (if h1 : k.val < 512 then a (ix2 r ⟨k.val, h1⟩) else if h2 : k.val - 512 < 256 then b (ix2 r ⟨k.val - 512, h2⟩)
        else c (ix2 r ⟨k.val - 512 - 256, by omega⟩)) * w (ix2 k d) := by
    pointwise [mixed]
  rw [hm, sum_parts]
  unfold mix
  refine congrArg₂ (· + ·) rfl (congrArg₂ (· + ·) (congrArg₂ (· + ·) ?_ ?_) ?_)
  · refine Finset.sum_congr rfl fun k _ => ?_
    rw [dif_pos (show (⟨k.val, by omega⟩ : Fin 1024).val < 512 from k.isLt)]
  · refine Finset.sum_congr rfl fun k _ => ?_
    rw [dif_neg (show ¬ (⟨512 + k.val, by omega⟩ : Fin 1024).val < 512 from by show ¬ 512 + k.val < 512; omega),
      dif_pos (show (⟨512 + k.val, by omega⟩ : Fin 1024).val - 512 < 256 from by show 512 + k.val - 512 < 256; omega)]
    refine congrArg (fun z => b (ix2 r z) * _) (Fin.ext ?_)
    show 512 + k.val - 512 = k.val
    omega
  · refine Finset.sum_congr rfl fun k _ => ?_
    rw [dif_neg (show ¬ (⟨768 + k.val, by omega⟩ : Fin 1024).val < 512 from by show ¬ 768 + k.val < 512; omega),
      dif_neg (show ¬ (⟨768 + k.val, by omega⟩ : Fin 1024).val - 512 < 256 from by show ¬ 768 + k.val - 512 < 256; omega)]
    refine congrArg (fun z => c (ix2 r z) * _) (Fin.ext ?_)
    show 768 + k.val - 512 - 256 = k.val
    omega

end Cert.Reference3Ideal.Read

end
-- ==== Proof.Out.lean ====
/-
  The output projection: the frames, and on the extended reals one first result, on every input.
-/
module

public import proofs.«01_k».proof.Defs
public import proofs.«01_k».proof.Proof.OutValue
public import proofs.«01_k».proof.Proof.OutRef
public import proofs.«01_k».proof.Proof.Gen.Kernel3
public import Idealize.ShloMosaic.Lib.Claim

@[expose] public section

set_option maxRecDepth 16384

noncomputable section

namespace Cert.Proof

open Idealize.ShloMosaic Idealize.ShloMosaic.TcCoe Idealize.SL.Sem

/-- The frame of the idealized text, read at bit patterns. -/
def FrameBits3 : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

theorem frame_bits3 : FrameBits3 := fun m g _ => Cert.Kernel3Ideal.Gen.frame (F := Bits) m g

theorem same_text3 : Cert.quiescent_Kernel3 (hKernel3 := Cert.Kernel3.Gen.facts) = FrameBits3 := by
  sl_kernel_rfl

theorem quiescent_Kernel3 : Cert.quiescent_Kernel3 (hKernel3 := Cert.Kernel3.Gen.facts) :=
  same_text3.mpr frame_bits3

theorem quiescent_Kernel3Ideal : Cert.quiescent_Kernel3Ideal (hKernel3Ideal := Cert.Kernel3Ideal.Gen.facts) := fun m g _ =>
  Cert.Kernel3Ideal.Gen.frame (F := Ideal) m g

theorem quiescent_Reference3Ideal : Cert.quiescent_Reference3Ideal (hReference3Ideal := Cert.Reference3Ideal.Gen.facts) := fun m g _ =>
  (θ_run Cert.Reference3Ideal.defs _ _).mono (fun r h => ⟨fun c => (h c).2,
      Idealize.ShloMosaic.sem_eq_zero_of_no_sems (by decide) r.2⟩)
    (Cert.Reference3Ideal.Value.run (F := Ideal) m g)

/-- The idealized text names nothing and leaves nothing out. -/
theorem preserves3 : Cert.preserves_Kernel3_Kernel3Ideal := trivial

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Block.result m c, ?_, ?_⟩
  · refine (θ_run Cert.Kernel3Ideal.defs _ _).mono (fun r h c => ⟨?_, ?_⟩) (Cert.Kernel3Ideal.Value.run_blocks (F := Ideal) m g)
    · exact (h c).1.trans (Cert.Kernel3Ideal.Block.final_value m c)
    · exact (h c).2.2.2
  · refine (θ_run Cert.Reference3Ideal.defs _ _).mono (fun _ h c => ⟨(h c).1.trans ?_, (h c).2⟩)
      (Cert.Reference3Ideal.Value.run (F := Ideal) m' g')
    obtain ⟨e0, e1, e2, e3, e4, e5, e6, -, -⟩ := hagree c
    funext i
    obtain ⟨r, d, rfl⟩ : ∃ (r : Fin 32768) (d : Fin 1024), i = ix2 r d := ⟨i 0, i 1, by funext a; fin_cases a <;> rfl⟩
    refine (congrFun (Cert.Reference3Ideal.Read.res_eq m' c) (ix2 r d)).trans ?_
    rw [Cert.Reference3Ideal.Read.normed_at]
    simp only [Cert.Reference3Ideal.Read.mixed_at]
    show Cert.Out.norm _ _ _ d = Cert.Out.norm _ _ _ d
    refine congrFun (congr (congr (congrArg Cert.Out.norm (funext fun k => ?_)) (funext fun k => congrFun e5 (ix1 k))) (funext fun k => congrFun e6 (ix1 k))) d
    exact congrFun (congr (congr (congr (congr (congrArg Cert.Out.mix (funext fun k => congrFun e0 (ix2 r k))) (funext fun k => congrFun e1 (ix2 r k)))
      (funext fun k => congrFun e2 (ix2 r k))) (funext fun k => congrFun e3 (ix2 r k))) (funext fun k => funext fun d => congrFun e4 (ix2 k d))) k

end Cert.Proof

end
-- ==== Proof.Struct.lean ====
/-
  The kernel's body, written once as a composition of a few fragments, and its equality with the
  printed function. A fragment takes what follows it as an argument, so a proof about the body is
  a composition of one lemma for each fragment.
-/
module

public import proofs.«01_k».proof.KernelIdeal
public import Idealize.ShloMosaic.Lib.Tactic

@[expose] public section

set_option maxRecDepth 16384
set_option synthInstance.maxHeartbeats 200000
set_option synthInstance.maxSize 4096

noncomputable section

namespace Cert.KernelIdeal

open Idealize.ShloMosaic Idealize.SL.Sem
open Facts₀ Facts

variable {F : FTy → Type} [FloatOps F] [Named F] [Facts]

/-- The body's programs. -/
abbrev BodyQ (F : FTy → Type) [FloatOps F] [Named F] [Facts] (α : Type) : Type _ :=
  Prog (TpuEff nD τ sig (Elt F) Λ₀ .tc) α

abbrev BodyP (F : FTy → Type) [FloatOps F] [Named F] [Facts] : Type _ := BodyQ F PUnit

/-- The eight buffers the body works on: the four windows and the four scratch buffers. -/
structure Refs where
  q : Memref sig .tc .vmem S1x8x256x128 .bf16
  k : Memref sig .tc .vmem S1x8x8192x128 .bf16
  v : Memref sig .tc .vmem S1x4x32x128x256 .bf16
  o : Memref sig .tc .vmem S256x512 .bf16
  m : Memref sig .tc .vmem S8x1x256 .f32
  a : Memref sig .tc .vmem S8x80x256 .f32
  s : Memref sig .tc .vmem S2x8x256x256 .f32
  b : Memref sig .tc .vmem S2x8x1x256 .f32
  ho : o.IsWhole

/-! ### The accesses -/

theorem inb_q {m : ℕ} (h : m < 8) :
    ∀ a, (![0, m, 0, 0] : Fin 4 → ℕ) a + S1x1x256x128.size a ≤ S1x8x256x128.size a := by
  intro a; fin_cases a <;> simp <;> omega

theorem inb_k {m n : ℕ} (h : m < 8) (hn : n + 256 ≤ 8192) :
    ∀ a, (![0, m, n, 0] : Fin 4 → ℕ) a + S1x1x256x128.size a ≤ S1x8x8192x128.size a := by
  intro a; fin_cases a <;> simp <;> omega

theorem inb_v {p j d : ℕ} (h : p < 4) (hj : j < 32) (hd : d + 64 ≤ 128) :
    ∀ a, (![0, p, j, d, 0] : Fin 5 → ℕ) a + S1x1x1x64x256.size a ≤ S1x4x32x128x256.size a := by
  intro a; fin_cases a <;> simp <;> omega

theorem inb_s {l m : ℕ} (hl : l < 2) (h : m < 8) :
    ∀ a, (![l, m, 0, 0] : Fin 4 → ℕ) a + S1x1x256x256.size a ≤ S2x8x256x256.size a := by
  intro a; fin_cases a <;> simp <;> omega

theorem inb_b {l m : ℕ} (hl : l < 2) (h : m < 8) :
    ∀ a, (![l, m, 0, 0] : Fin 4 → ℕ) a + S1x1x1x256.size a ≤ S2x8x1x256.size a := by
  intro a; fin_cases a <;> simp <;> omega

theorem inb_m {m : ℕ} (h : m < 8) :
    ∀ a, (![m, 0, 0] : Fin 3 → ℕ) a + S1x1x256.size a ≤ S8x1x256.size a := by
  intro a; fin_cases a <;> simp; omega

theorem inb_a {m : ℕ} (h : m < 8) :
    ∀ a, (![m, 0, 0] : Fin 3 → ℕ) a + S1x80x256.size a ≤ S8x80x256.size a := by
  intro a; fin_cases a <;> simp; omega

theorem inb_an {m : ℕ} (h : m < 8) :
    ∀ a, (![m, 0, 0] : Fin 3 → ℕ) a + S1x64x256.size a ≤ S8x80x256.size a := by
  intro a; fin_cases a <;> simp; omega

theorem inb_ad {m : ℕ} (h : m < 8) :
    ∀ a, (![m, 64, 0] : Fin 3 → ℕ) a + S1x1x256.size a ≤ S8x80x256.size a := by
  intro a; fin_cases a <;> simp; omega

theorem inb_m0 : ∀ a, (![0, 0, 0] : Fin 3 → ℕ) a + S8x1x256.size a ≤ S8x1x256.size a := by
  intro a; fin_cases a <;> simp

theorem inb_a0 : ∀ a, (![0, 0, 0] : Fin 3 → ℕ) a + S8x80x256.size a ≤ S8x80x256.size a := by
  intro a; fin_cases a <;> simp

def ldQ (R : Refs) (m : ℕ) (h : m < 8) (K : Vec F S1x1x256x128 .bf16 → BodyP F) : BodyP F :=
  .op (.load R.q (Rect.unit (s := S1x8x256x128) ![0, m, 0, 0] S1x1x256x128.size (inb_q h)).toLoadRect
    (View.loadsAt_vmem h_S1x1x256x128)) K

def ldK (R : Refs) (m n : ℕ) (h : m < 8) (hn : n + 256 ≤ 8192)
    (K : Vec F S1x1x256x128 .bf16 → BodyP F) : BodyP F :=
  .op (.load R.k (Rect.unit (s := S1x8x8192x128) ![0, m, n, 0] S1x1x256x128.size (inb_k h hn)).toLoadRect
    (View.loadsAt_vmem h_S1x1x256x128)) K

def ldV (R : Refs) (p j d : ℕ) (h : p < 4) (hj : j < 32) (hd : d + 64 ≤ 128)
    (K : Vec F S1x1x1x64x256 .bf16 → BodyP F) : BodyP F :=
  .op (.load R.v (Rect.unit (s := S1x4x32x128x256) ![0, p, j, d, 0] S1x1x1x64x256.size
    (inb_v h hj hd)).toLoadRect (View.loadsAt_vmem h_S1x1x1x64x256)) K

def ldS (R : Refs) (l m : ℕ) (hl : l < 2) (h : m < 8) (K : Vec F S1x1x256x256 .f32 → BodyP F) :
    BodyP F :=
  .op (.load R.s (Rect.unit (s := S2x8x256x256) ![l, m, 0, 0] S1x1x256x256.size (inb_s hl h)).toLoadRect
    (View.loadsAt_vmem h_S1x1x256x256)) K

def stS (R : Refs) (l m : ℕ) (hl : l < 2) (h : m < 8) (w : Vec F S1x1x256x256 .f32)
    (K : BodyP F) : BodyP F :=
  .op (.store R.s (Rect.unit (s := S2x8x256x256) ![l, m, 0, 0] S1x1x256x256.size (inb_s hl h)) w
    Finset.univ (View.stores_vmem_bits_univ h_S1x1x256x256 rfl) (.inl rfl)) fun _ => K

def ldB (R : Refs) (l m : ℕ) (hl : l < 2) (h : m < 8) (K : Vec F S1x1x1x256 .f32 → BodyP F) :
    BodyP F :=
  .op (.load R.b (Rect.unit (s := S2x8x1x256) ![l, m, 0, 0] S1x1x1x256.size (inb_b hl h)).toLoadRect
    (View.loadsAt_vmem h_S1x1x1x256)) K

def stB (R : Refs) (l m : ℕ) (hl : l < 2) (h : m < 8) (w : Vec F S1x1x1x256 .f32)
    (K : BodyP F) : BodyP F :=
  .op (.store R.b (Rect.unit (s := S2x8x1x256) ![l, m, 0, 0] S1x1x1x256.size (inb_b hl h)) w
    Finset.univ (View.stores_vmem_bits_univ h_S1x1x1x256 rfl) (.inl rfl)) fun _ => K

def ldM (R : Refs) (m : ℕ) (h : m < 8) (K : Vec F S1x1x256 .f32 → BodyP F) : BodyP F :=
  .op (.load R.m (Rect.unit (s := S8x1x256) ![m, 0, 0] S1x1x256.size (inb_m h)).toLoadRect
    (View.loadsAt_vmem h_S1x1x256)) K

def stM (R : Refs) (m : ℕ) (h : m < 8) (w : Vec F S1x1x256 .f32) (K : BodyP F) : BodyP F :=
  .op (.store R.m (Rect.unit (s := S8x1x256) ![m, 0, 0] S1x1x256.size (inb_m h)) w
    Finset.univ (View.stores_vmem_bits_univ h_S1x1x256 rfl) (.inl rfl)) fun _ => K

def ldA (R : Refs) (m : ℕ) (h : m < 8) (K : Vec F S1x80x256 .f32 → BodyP F) : BodyP F :=
  .op (.load R.a (Rect.unit (s := S8x80x256) ![m, 0, 0] S1x80x256.size (inb_a h)).toLoadRect
    (View.loadsAt_vmem h_S1x80x256)) K

def stA (R : Refs) (m : ℕ) (h : m < 8) (w : Vec F S1x80x256 .f32) (K : BodyP F) : BodyP F :=
  .op (.store R.a (Rect.unit (s := S8x80x256) ![m, 0, 0] S1x80x256.size (inb_a h)) w
    Finset.univ (View.stores_vmem_bits_univ h_S1x80x256 rfl) (.inl rfl)) fun _ => K

def ldAn {α : Type} (R : Refs) (m : ℕ) (h : m < 8) (K : Vec F S1x64x256 .f32 → BodyQ F α) : BodyQ F α :=
  .op (.load R.a (Rect.unit (s := S8x80x256) ![m, 0, 0] S1x64x256.size (inb_an h)).toLoadRect
    (View.loadsAt_vmem h_S1x64x256)) K

def ldAd {α : Type} (R : Refs) (m : ℕ) (h : m < 8) (K : Vec F S1x1x256 .f32 → BodyQ F α) : BodyQ F α :=
  .op (.load R.a (Rect.unit (s := S8x80x256) ![m, 64, 0] S1x1x256.size (inb_ad h)).toLoadRect
    (View.loadsAt_vmem h_S1x1x256)) K

def ldO {α : Type} (R : Refs) (c : ℕ) (h : ∀ a, (![0, c] : Fin 2 → ℕ) a + S256x128.size a ≤ S256x512.size a)
    (K : Vec F S256x128 .bf16 → BodyQ F α) : BodyQ F α :=
  .op (.load R.o (Rect.unit (s := S256x512) ![0, c] S256x128.size h).toLoadRect
    (View.loadsAt_vmem h_S256x128)) K

def stO {α : Type} (R : Refs) (c : ℕ) (h : ∀ a, (![0, c] : Fin 2 → ℕ) a + S256x128.size a ≤ S256x512.size a)
    (hp : (Rect.unit (s := S256x512) ![0, c] S256x128.size h).PackedRows (EltTy.packing .bf16))
    (w : Vec F S256x128 .bf16) (K : BodyQ F α) : BodyQ F α :=
  .op (.store R.o (Rect.unit (s := S256x512) ![0, c] S256x128.size h) w
    Finset.univ (View.stores_vmem h_S256x128 (R.ho.storeExact_slice rfl _ hp) (fun _ => rfl))
    (.inl rfl)) fun _ => K

/-! ### The arithmetic -/

/-- The scores of one key tile, keys by queries. -/
def sMat (k : Vec F S1x1x256x128 .bf16) (q : FVec F S256x128 .bf16) : FVec F S256x256 .f32 :=
  matmul (F := F) dot_S256x128_S256x128_S256x256_1_1_0_0_n_n none
    (shapeCast (α := F .bf16) S256x128 k shapeCasts_S1x1x256x128_S256x128) q
    (constant (F := F) S256x256 .f32 0x00000000#32)

/-- The greatest score of each query. -/
def colMax (s : FVec F S256x256 .f32) : FVec F S1x256 .f32 :=
  shapeCast (α := F .f32) S1x256 (multiReduction (F := F) .maximumf [0] S256 s 0xFF800000#32 reduces_S256x256_S256
    (.inl rfl) rfl) shapeCasts_S256_S1x256

def sCast (s : Vec F S1x1x256x256 .f32) : FVec F S256x256 .f32 :=
  shapeCast (α := F .f32) S256x256 s shapeCasts_S1x1x256x256_S256x256

def mCast (x : Vec F S1x1x256 .f32) : FVec F S1x256 .f32 :=
  shapeCast (α := F .f32) S1x256 x shapeCasts_S1x1x256_S1x256

def alphaOf (mo mn : FVec F S1x256 .f32) : FVec F S1x256 .f32 := exp2 (F := F) (subf mo mn)

def pOf (s : FVec F S256x256 .f32) (mn : FVec F S1x256 .f32) : FVec F S256x256 .bf16 :=
  truncf (F := F) .bf16 (exp2 (F := F) (subf s (broadcastTo S256x256 mn broadcasts_S1x256_S256x256)))
    bitsLt_bf16_f32

def ones16 : FVec F S16x256 .bf16 := broadcast S16x256 (Scalar.ofBits (F := F) .bf16 0x3F80#16)

/-- One update of the running sums: the old ones scaled, the tile's own added. -/
def accOf (v : Vec F S1x1x1x64x256 .bf16) (al : FVec F S1x256 .f32) (p : FVec F S256x256 .bf16)
    (a : Vec F S1x80x256 .f32) : Vec F S1x80x256 .f32 :=
  shapeCast (α := F .f32) S1x80x256
    (addf (F := F)
      (mulf (F := F) (broadcastTo S80x256 al broadcasts_S1x256_S80x256)
        (shapeCast (α := F .f32) S80x256 a shapeCasts_S1x80x256_S80x256))
      (matmul (F := F) dot_S80x256_S256x256_S80x256_1_0_0_1_n_n none
        (concatenate S80x256 0
          [⟨S64x256, shapeCast (α := F .bf16) S64x256 v shapeCasts_S1x1x1x64x256_S64x256⟩, ⟨S16x256, ones16 (F := F)⟩]
          concatenates_S64x256_S16x256_S80x256_d0)
        p (constant (F := F) S80x256 .f32 0x00000000#32)))
    shapeCasts_S80x256_S1x80x256

/-- A position divided by 64, rounded down. -/
def chunkOf (x : IVec S256x256 32) : IVec S256x256 32 :=
  select
    (andi
      (cmpi .ne
        (subi (extui 32 (cmpi .sgt x (broadcast S256x256 0#32)) natLt_1_32)
          (extui 32 (cmpi .slt x (broadcast S256x256 0#32)) natLt_1_32))
        (broadcast S256x256
          (Scalar.subi (Scalar.extui (Scalar.cmpi .sgt 64#32 0#32)) (Scalar.extui (Scalar.cmpi .slt 64#32 0#32)))))
      (cmpi .ne (remsi x (broadcast S256x256 64#32)) (broadcast S256x256 0#32)))
    (subi (divsi x (broadcast S256x256 64#32)) (broadcast S256x256 1#32))
    (divsi x (broadcast S256x256 64#32))

/-- Which keys of the diagonal tile each query attends to. -/
def maskOf : IVec S256x256 1 :=
  cmpi .sle (chunkOf (iota .tc S256x256 32 [0] iota_S256x256_d0_w32))
    (chunkOf (iota .tc S256x256 32 [1] iota_S256x256_d1_w32))

def sMask (s : Vec F S1x1x256x256 .f32) : FVec F S256x256 .f32 :=
  select maskOf (sCast s) (broadcast S256x256 (Named.named (F := F) κ "mask" 0xF149F2CA#32))

def qCast (x : Vec F S1x1x256x128 .bf16) : FVec F S256x128 .bf16 :=
  shapeCast (α := F .bf16) S256x128 x shapeCasts_S1x1x256x128_S256x128

def quot (x : Vec F S1x64x256 .f32) (y : Vec F S1x1x256 .f32) : FVec F S64x256 .f32 :=
  divf (F := F) (shapeCast (α := F .f32) S64x256 x shapeCasts_S1x64x256_S64x256)
    (broadcastTo S64x256 (mCast y) broadcasts_S1x256_S64x256)

def outOf (x0 x1 : FVec F S64x256 .f32) : Vec F S256x128 .bf16 :=
  truncf (F := F) .bf16
    (transpose S256x128 [1, 0]
      (concatenate S128x256 0 [⟨S64x256, x0⟩, ⟨S64x256, x1⟩] concatenates_S64x256_S64x256_S128x256_d0)
      transposes_S128x256_p1_0_S256x128)
    bitsLt_bf16_f32

def initM : Vec F S8x1x256 .f32 :=
  shapeCast (α := F .f32) S8x1x256 (broadcast S8x1x256 (Named.named (F := F) κ "mask" 0xF149F2CA#32))
    shapeCasts_S8x1x256_S8x1x256

def initA : Vec F S8x80x256 .f32 :=
  shapeCast (α := F .f32) S8x80x256 (broadcast S8x80x256 (Scalar.ofBits (F := F) .f32 0x00000000#32))
    shapeCasts_S8x80x256_S8x80x256

/-! ### The fragments -/

/-- The two running buffers are set to their starting values. -/
def initK (R : Refs) (K : BodyP F) : BodyP F :=
  .op (.load R.m (Rect.unit (s := S8x1x256) ![0, 0, 0] S8x1x256.size inb_m0).toLoadRect
    (View.loadsAt_vmem h_S8x1x256)) fun _ =>
  .op (.store R.m (Rect.unit (s := S8x1x256) ![0, 0, 0] S8x1x256.size inb_m0) initM
    Finset.univ (View.stores_vmem_bits_univ h_S8x1x256 rfl) (.inl rfl)) fun _ =>
  .op (.load R.a (Rect.unit (s := S8x80x256) ![0, 0, 0] S8x80x256.size inb_a0).toLoadRect
    (View.loadsAt_vmem h_S8x80x256)) fun _ =>
  .op (.store R.a (Rect.unit (s := S8x80x256) ![0, 0, 0] S8x80x256.size inb_a0) initA
    Finset.univ (View.stores_vmem_bits_univ h_S8x80x256 rfl) (.inl rfl)) fun _ => K

/-- Head `m`'s scores against the key tile at row `n`, and their greatest, into slot `l`. -/
def scoreK (R : Refs) (l m n : ℕ) (hl : l < 2) (h : m < 8) (hn : n + 256 ≤ 8192)
    (q : FVec F S256x128 .bf16) (K : BodyP F) : BodyP F :=
  ldK R m n h hn fun k =>
  ldS R l m hl h fun _ =>
  stS R l m hl h (shapeCast (α := F .f32) S1x1x256x256 (sMat k q) shapeCasts_S256x256_S1x1x256x256) <|
  ldB R l m hl h fun _ =>
  stB R l m hl h (shapeCast (α := F .f32) S1x1x1x256 (colMax (sMat k q)) shapeCasts_S1x256_S1x1x1x256) K

/-- The new greatest score of an unmasked tile. -/
def mNew (mo : Vec F S1x1x256 .f32) (b : Vec F S1x1x1x256 .f32) : FVec F S1x256 .f32 :=
  maximumf (F := F) (mCast mo) (shapeCast (α := F .f32) S1x256 b shapeCasts_S1x1x1x256_S1x256)

/-- The new greatest score of the masked tile. -/
def mNewM (mo : Vec F S1x1x256 .f32) (s : FVec F S256x256 .f32) : FVec F S1x256 .f32 :=
  maximumf (F := F) (mCast mo) (colMax s)

def mBack (mn : FVec F S1x256 .f32) : Vec F S1x1x256 .f32 :=
  shapeCast (α := F .f32) S1x1x256 mn shapeCasts_S1x256_S1x1x256

/-- Head `m`'s running sums take in value tile `j`, weighted by `p`. -/
def accK (R : Refs) (m j : ℕ) (h : m < 8) (hj : j < 32) (al : FVec F S1x256 .f32)
    (p : FVec F S256x256 .bf16) (K : BodyP F) : BodyP F :=
  ldV R (m / 2) j (64 * (m % 2)) (by omega) hj (by omega) fun v =>
  ldA R m h fun a =>
  ldA R m h fun _ =>
  stA R m h (accOf v al p a) K

/-- Head `m` takes in value tile `j` by the scores in slot `l`. -/
def softK (R : Refs) (l m j : ℕ) (hl : l < 2) (h : m < 8) (hj : j < 32) (K : BodyP F) : BodyP F :=
  ldS R l m hl h fun s =>
  ldM R m h fun mo =>
  ldB R l m hl h fun b =>
  ldM R m h fun _ =>
  stM R m h (mBack (mNew mo b)) <|
  accK R m j h hj (alphaOf (mCast mo) (mNew mo b)) (pOf (sCast s) (mNew mo b)) K

/-- Head `m`'s weights on the diagonal tile. -/
def maskK (R : Refs) (l m : ℕ) (hl : l < 2) (h : m < 8)
    (K : FVec F S1x256 .f32 → FVec F S256x256 .bf16 → BodyP F) : BodyP F :=
  ldS R l m hl h fun s =>
  ldM R m h fun mo =>
  ldM R m h fun _ =>
  stM R m h (mBack (mNewM mo (sMask s))) <|
  K (alphaOf (mCast mo) (mNewM mo (sMask s))) (pOf (sMask s) (mNewM mo (sMask s)))

/-- Two heads' quotients into columns `c` to `c + 127` of the result. -/
def outK {α : Type} (R : Refs) (m0 m1 c : ℕ) (h0 : m0 < 8) (h1 : m1 < 8)
    (h : ∀ a, (![0, c] : Fin 2 → ℕ) a + S256x128.size a ≤ S256x512.size a)
    (hp : (Rect.unit (s := S256x512) ![0, c] S256x128.size h).PackedRows (EltTy.packing .bf16))
    (K : BodyQ F α) : BodyQ F α :=
  ldAn R m0 h0 fun x0 =>
  ldAd R m0 h0 fun y0 =>
  ldAn R m1 h1 fun x1 =>
  ldAd R m1 h1 fun y1 =>
  ldO R c h fun _ =>
  stO R c h hp (outOf (quot x0 y0) (quot x1 y1)) K

/-! ### The regions -/

/-- The queries of the eight heads. -/
abbrev Qs (F : FTy → Type) : Type := Fin 8 → FVec F S256x128 .bf16

/-- All heads' scores against the tile at row `n`, into slot `l`. -/
def scoresK (R : Refs) (l n : ℕ) (hl : l < 2) (hn : n + 256 ≤ 8192) (q : Qs F) (K : BodyP F) : BodyP F :=
  scoreK R l 0 n hl (by decide) hn (q 0) <|
  scoreK R l 1 n hl (by decide) hn (q 1) <|
  scoreK R l 2 n hl (by decide) hn (q 2) <|
  scoreK R l 3 n hl (by decide) hn (q 3) <|
  scoreK R l 4 n hl (by decide) hn (q 4) <|
  scoreK R l 5 n hl (by decide) hn (q 5) <|
  scoreK R l 6 n hl (by decide) hn (q 6) <|
  scoreK R l 7 n hl (by decide) hn (q 7) <|
  K

/-- One unmasked tile: head by head, the next tile's scores, then this tile taken in. -/
def tileK (R : Refs) (l l' n j : ℕ) (hl : l < 2) (hl' : l' < 2) (hn : n + 256 ≤ 8192) (hj : j < 32)
    (q : Qs F) (K : BodyP F) : BodyP F :=
  scoreK R l' 0 n hl' (by decide) hn (q 0) <|
  softK R l 0 j hl (by decide) hj <|
  scoreK R l' 1 n hl' (by decide) hn (q 1) <|
  softK R l 1 j hl (by decide) hj <|
  scoreK R l' 2 n hl' (by decide) hn (q 2) <|
  softK R l 2 j hl (by decide) hj <|
  scoreK R l' 3 n hl' (by decide) hn (q 3) <|
  softK R l 3 j hl (by decide) hj <|
  scoreK R l' 4 n hl' (by decide) hn (q 4) <|
  softK R l 4 j hl (by decide) hj <|
  scoreK R l' 5 n hl' (by decide) hn (q 5) <|
  softK R l 5 j hl (by decide) hj <|
  scoreK R l' 6 n hl' (by decide) hn (q 6) <|
  softK R l 6 j hl (by decide) hj <|
  scoreK R l' 7 n hl' (by decide) hn (q 7) <|
  softK R l 7 j hl (by decide) hj <|
  K

/-- The diagonal tile, by the scores in slot `l`. -/
def diagK (R : Refs) (l j : ℕ) (hl : l < 2) (hj : j < 32) (K : BodyP F) : BodyP F :=
  maskK R l 0 hl (by decide) fun al0 p0 =>
  maskK R l 1 hl (by decide) fun al1 p1 =>
  maskK R l 2 hl (by decide) fun al2 p2 =>
  maskK R l 3 hl (by decide) fun al3 p3 =>
  maskK R l 4 hl (by decide) fun al4 p4 =>
  maskK R l 5 hl (by decide) fun al5 p5 =>
  maskK R l 6 hl (by decide) fun al6 p6 =>
  maskK R l 7 hl (by decide) fun al7 p7 =>
  accK R 0 j (by decide) hj al0 p0 <|
  accK R 1 j (by decide) hj al1 p1 <|
  accK R 2 j (by decide) hj al2 p2 <|
  accK R 3 j (by decide) hj al3 p3 <|
  accK R 4 j (by decide) hj al4 p4 <|
  accK R 5 j (by decide) hj al5 p5 <|
  accK R 6 j (by decide) hj al6 p6 <|
  accK R 7 j (by decide) hj al7 p7 <|
  K

/-- The row a tile's keys start at, and the tile's number, of the machine's counter `j`. -/
def rowOf (j : BitVec 32) : ℕ := (Scalar.indexCast (Scalar.muli (Scalar.addi j 1#32) 256#32)).toNat
def tileOf (j : BitVec 32) : ℕ := (Scalar.indexCast j).toNat

/-- The body of either loop: four tiles from counter `4 * iv`. -/
def tripK (R : Refs) (iv : BitVec 32) (q : Qs F)
    (hn : ∀ u : Fin 4, rowOf (Scalar.addi (Scalar.muli 4#32 iv) (BitVec.ofNat 32 u.val)) + 256 ≤ 8192)
    (hj : ∀ u : Fin 4, tileOf (Scalar.addi (Scalar.muli 4#32 iv) (BitVec.ofNat 32 u.val)) < 32) :
    BodyP F :=
  tileK R 0 1 (rowOf (Scalar.addi (Scalar.muli 4#32 iv) 0#32)) (tileOf (Scalar.addi (Scalar.muli 4#32 iv) 0#32)) (by decide) (by decide)
    (hn 0) (hj 0) q <|
  tileK R 1 0 (rowOf (Scalar.addi (Scalar.muli 4#32 iv) 1#32)) (tileOf (Scalar.addi (Scalar.muli 4#32 iv) 1#32)) (by decide) (by decide)
    (hn 1) (hj 1) q <|
  tileK R 0 1 (rowOf (Scalar.addi (Scalar.muli 4#32 iv) 2#32)) (tileOf (Scalar.addi (Scalar.muli 4#32 iv) 2#32)) (by decide) (by decide)
    (hn 2) (hj 2) q <|
  tileK R 1 0 (rowOf (Scalar.addi (Scalar.muli 4#32 iv) 3#32)) (tileOf (Scalar.addi (Scalar.muli 4#32 iv) 3#32)) (by decide) (by decide)
    (hn 3) (hj 3) q <|
  .ret ⟨⟩

theorem t1_row (i : grid0.Coords) (t : Fin (k0_t1_loop i).trips) (u : Fin 4) :
    rowOf (Scalar.addi (Scalar.muli 4#32 (Scf.iv 0#32 1#32 t)) (BitVec.ofNat 32 u.val)) + 256 ≤ 8192 :=
  k0_off1_inb i t u 2

theorem t1_tile (i : grid0.Coords) (t : Fin (k0_t1_loop i).trips) (u : Fin 4) :
    tileOf (Scalar.addi (Scalar.muli 4#32 (Scf.iv 0#32 1#32 t)) (BitVec.ofNat 32 u.val)) < 32 :=
  k0_off2_inb i t u 2

theorem t2_row (i : grid0.Coords) (t : Fin (k0_t2_loop i).trips) (u : Fin 4) :
    rowOf (Scalar.addi (Scalar.muli 4#32 (Scf.iv (k0_t2_loop i).lb 1#32 t)) (BitVec.ofNat 32 u.val)) + 256
      ≤ 8192 :=
  k0_off17_inb i t u 2

theorem t2_tile (i : grid0.Coords) (t : Fin (k0_t2_loop i).trips) (u : Fin 4) :
    tileOf (Scalar.addi (Scalar.muli 4#32 (Scf.iv (k0_t2_loop i).lb 1#32 t)) (BitVec.ofNat 32 u.val)) < 32 :=
  k0_off18_inb i t u 2

/-- The first tile after the loops, as the machine computes it. -/
def remBase (i : grid0.Coords) : BitVec 32 :=
  let d : BitVec 32 := Scalar.select (Scalar.cmpi .eq 4#32 0#32) 1#32 4#32
  let r : BitVec 32 := Scalar.remsi (BitVec.ofNat 32 (i 1).val) d
  Scalar.subi (BitVec.ofNat 32 (i 1).val)
    (Scalar.select
      (Scalar.andi (Scalar.xori (Scalar.cmpi .slt r 0#32) (Scalar.cmpi .slt d 0#32)) (Scalar.cmpi .ne r 0#32))
      (Scalar.addi r d) r)

/-- The grid point's query tile, which is also its diagonal key tile. -/
def diagOf (i : grid0.Coords) : ℕ := tileOf (BitVec.ofNat 32 (i 1).val)

/-- No unmasked tile is left: the diagonal tile, from slot 0. -/
def rem0K (R : Refs) (i : grid0.Coords) (h : k0_cond1 i = 1#1) : BodyP F :=
  diagK R 0 (diagOf i) (by decide) (k0_off33_inb i h 2) (.ret ⟨⟩)

/-- One unmasked tile is left. -/
def rem1K (R : Refs) (i : grid0.Coords) (q : Qs F) (h : k0_cond2 i = 1#1) : BodyP F :=
  tileK R 0 1 (rowOf (Scalar.addi (remBase i) 0#32)) (tileOf (Scalar.addi (remBase i) 0#32)) (by decide) (by decide)
    (k0_off41_inb i h 2) (k0_off42_inb i h 2) q <|
  diagK R 1 (diagOf i) (by decide) (k0_off57_inb i h 2) (.ret ⟨⟩)

/-- Two unmasked tiles are left. -/
def rem2K (R : Refs) (i : grid0.Coords) (q : Qs F) (h : k0_cond3 i = 1#1) : BodyP F :=
  tileK R 0 1 (rowOf (Scalar.addi (remBase i) 0#32)) (tileOf (Scalar.addi (remBase i) 0#32)) (by decide) (by decide)
    (k0_off65_inb i h 0 2) (k0_off66_inb i h 0 2) q <|
  tileK R 1 0 (rowOf (Scalar.addi (remBase i) 1#32)) (tileOf (Scalar.addi (remBase i) 1#32)) (by decide) (by decide)
    (k0_off65_inb i h 1 2) (k0_off66_inb i h 1 2) q <|
  diagK R 0 (diagOf i) (by decide) (k0_off81_inb i h 2) (.ret ⟨⟩)

/-- Three unmasked tiles are left. -/
def rem3K (R : Refs) (i : grid0.Coords) (q : Qs F) (h : k0_cond4 i = 1#1) : BodyP F :=
  tileK R 0 1 (rowOf (Scalar.addi (remBase i) 0#32)) (tileOf (Scalar.addi (remBase i) 0#32)) (by decide) (by decide)
    (k0_off89_inb i h 0 2) (k0_off90_inb i h 0 2) q <|
  tileK R 1 0 (rowOf (Scalar.addi (remBase i) 1#32)) (tileOf (Scalar.addi (remBase i) 1#32)) (by decide) (by decide)
    (k0_off89_inb i h 1 2) (k0_off90_inb i h 1 2) q <|
  tileK R 0 1 (rowOf (Scalar.addi (remBase i) 2#32)) (tileOf (Scalar.addi (remBase i) 2#32)) (by decide) (by decide)
    (k0_off89_inb i h 2 2) (k0_off90_inb i h 2 2) q <|
  diagK R 1 (diagOf i) (by decide) (k0_off105_inb i h 2) (.ret ⟨⟩)

/-- The quotients of all heads. -/
def outsK (R : Refs) : BodyP F :=
  outK R 0 1 0 (by decide) (by decide) inb_S256x512_S256x128_0_0 packedbf16_S256x512_S256x128_0_0 <|
  outK R 2 3 128 (by decide) (by decide) inb_S256x512_S256x128_0_128 packedbf16_S256x512_S256x128_0_128 <|
  outK R 4 5 256 (by decide) (by decide) inb_S256x512_S256x128_0_256 packedbf16_S256x512_S256x128_0_256 <|
  outK R 6 7 384 (by decide) (by decide) inb_S256x512_S256x128_0_384 packedbf16_S256x512_S256x128_0_384 <|
  .ret ⟨⟩

/-- What the printed text hands on between two of its windows: numbers nothing reads. -/
abbrev Mid : Type := Σ' (_ : BitVec 32) (_ : BitVec 32), BitVec 1

def midRet (i : grid0.Coords) : Mid :=
  let d : BitVec 32 := Scalar.select (Scalar.cmpi .eq 4#32 0#32) 1#32 4#32
  let r : BitVec 32 := Scalar.remsi (BitVec.ofNat 32 (i 1).val) d
  ⟨d, r, Scalar.cmpi .ne r 0#32⟩

def mid3 (R : Refs) (i : grid0.Coords) (q : Qs F) : BodyQ F Mid :=
  if h : k0_cond3 i = 1#1 then (rem2K R i q h).bind fun _ => .ret (midRet i) else .ret (midRet i)

def mid2 (R : Refs) (i : grid0.Coords) (q : Qs F) : BodyQ F Mid :=
  if h : k0_cond2 i = 1#1 then (rem1K R i q h).bind fun _ => mid3 R i q else mid3 R i q

def mid1 (R : Refs) (i : grid0.Coords) (q : Qs F) : BodyQ F Mid :=
  if h : k0_cond1 i = 1#1 then (rem0K R i h).bind fun _ => mid2 R i q else mid2 R i q

/-- The first two heads' quotients stored, the third's made. -/
def outA (R : Refs) : BodyQ F (FVec F S64x256 .f32) :=
  outK R 0 1 0 (by decide) (by decide) inb_S256x512_S256x128_0_0 packedbf16_S256x512_S256x128_0_0 <|
  ldAn R 2 (by decide) fun x => ldAd R 2 (by decide) fun y => .ret (quot x y)

/-- The rest of the quotients. -/
def outB (R : Refs) (x0 : FVec F S64x256 .f32) : BodyP F :=
  ldAn R 3 (by decide) fun x1 =>
  ldAd R 3 (by decide) fun y1 =>
  ldO R 128 inb_S256x512_S256x128_0_128 fun _ =>
  stO R 128 inb_S256x512_S256x128_0_128 packedbf16_S256x512_S256x128_0_128 (outOf x0 (quot x1 y1)) <|
  outK R 4 5 256 (by decide) (by decide) inb_S256x512_S256x128_0_256 packedbf16_S256x512_S256x128_0_256 <|
  outK R 6 7 384 (by decide) (by decide) inb_S256x512_S256x128_0_384 packedbf16_S256x512_S256x128_0_384 <|
  .ret ⟨⟩

theorem outAB (R : Refs) : (outA R).bind (outB R) = outsK (F := F) R := rfl

def end203 (R : Refs) (i : grid0.Coords) (q : Qs F) : BodyQ F (FVec F S64x256 .f32) :=
  if h : k0_cond4 i = 1#1 then (rem3K R i q h).bind fun _ => outA R else outA R

/-- What follows the loops. -/
def tailK (R : Refs) (i : grid0.Coords) (q : Qs F) : BodyP F :=
  (mid1 R i q).bind fun _ => (end203 R i q).bind (outB R)

/-- What follows the loops, where exactly one of the four cases holds. -/
theorem tail_0 (R : Refs) (i : grid0.Coords) (q : Qs F) (h1 : k0_cond1 i = 1#1)
    (h2 : ¬ k0_cond2 i = 1#1) (h3 : ¬ k0_cond3 i = 1#1) (h4 : ¬ k0_cond4 i = 1#1) :
    tailK R i q = (rem0K R i h1).bind fun _ => outsK R := by
  rw [tailK, mid1, dif_pos h1, mid2, dif_neg h2, mid3, dif_neg h3, end203, dif_neg h4, outAB]
  exact Prog.bind_assoc _ _ _

theorem tail_1 (R : Refs) (i : grid0.Coords) (q : Qs F) (h1 : ¬ k0_cond1 i = 1#1)
    (h2 : k0_cond2 i = 1#1) (h3 : ¬ k0_cond3 i = 1#1) (h4 : ¬ k0_cond4 i = 1#1) :
    tailK R i q = (rem1K R i q h2).bind fun _ => outsK R := by
  rw [tailK, mid1, dif_neg h1, mid2, dif_pos h2, mid3, dif_neg h3, end203, dif_neg h4, outAB]
  exact Prog.bind_assoc _ _ _

theorem tail_2 (R : Refs) (i : grid0.Coords) (q : Qs F) (h1 : ¬ k0_cond1 i = 1#1)
    (h2 : ¬ k0_cond2 i = 1#1) (h3 : k0_cond3 i = 1#1) (h4 : ¬ k0_cond4 i = 1#1) :
    tailK R i q = (rem2K R i q h3).bind fun _ => outsK R := by
  rw [tailK, mid1, dif_neg h1, mid2, dif_neg h2, mid3, dif_pos h3, end203, dif_neg h4, outAB]
  exact Prog.bind_assoc _ _ _

theorem tail_3 (R : Refs) (i : grid0.Coords) (q : Qs F) (h1 : ¬ k0_cond1 i = 1#1)
    (h2 : ¬ k0_cond2 i = 1#1) (h3 : ¬ k0_cond3 i = 1#1) (h4 : k0_cond4 i = 1#1) :
    tailK R i q = (rem3K R i q h4).bind fun _ => outsK R := by
  rw [tailK, mid1, dif_neg h1, mid2, dif_neg h2, mid3, dif_neg h3, end203, dif_pos h4]
  exact (Prog.bind_assoc _ _ _).trans (by rw [← outAB]; rfl)

abbrev Mid' : Type := Σ' (_ : BitVec 32) (_ : BitVec 32) (_ : BitVec 32), BitVec 1

def midRet' (i : grid0.Coords) : Mid' :=
  let d : BitVec 32 := Scalar.select (Scalar.cmpi .eq 4#32 0#32) 1#32 4#32
  let r : BitVec 32 := Scalar.remsi (BitVec.ofNat 32 (i 1).val) d
  ⟨remBase i, d, r, Scalar.andi (Scalar.xori (Scalar.cmpi .slt r 0#32) (Scalar.cmpi .slt d 0#32)) (Scalar.cmpi .ne r 0#32)⟩

/-- The two loops. -/
def loop1K (R : Refs) (i : grid0.Coords) (q : Qs F) : BodyP F :=
  Scf.Loop.for (k0_t1_loop i) (k0_t1_ok i) (⟨⟩ : PUnit) fun t _ =>
    tripK R (Scf.iv 0#32 1#32 t) q (t1_row i t) (t1_tile i t)

def loop2K (R : Refs) (i : grid0.Coords) (q : Qs F) : BodyP F :=
  Scf.Loop.for (k0_t2_loop i) (k0_t2_ok i) (⟨⟩ : PUnit) fun t _ =>
    tripK R (Scf.iv (k0_t2_loop i).lb 1#32 t) q (t2_row i t) (t2_tile i t)

/-- The two loops, and what follows them. -/
def loopsK (R : Refs) (i : grid0.Coords) (q : Qs F) : BodyP F :=
  ((loop1K R i q).bind fun _ => (loop2K R i q).bind fun _ => .ret (midRet' i)).bind fun _ => tailK R i q

theorem loopsK_eq (R : Refs) (i : grid0.Coords) (q : Qs F) :
    loopsK R i q = (loop1K R i q).bind fun _ => (loop2K R i q).bind fun _ => tailK R i q :=
  (Prog.bind_assoc (loop1K R i q) _ _).trans <| congrArg _ <| funext fun _ =>
    Prog.bind_assoc (loop2K R i q) _ _

/-- The whole body. -/
def bodyK (R : Refs) (i : grid0.Coords) : BodyP F :=
  ldQ R 0 (by decide) fun q0 =>
  ldQ R 1 (by decide) fun q1 =>
  ldQ R 2 (by decide) fun q2 =>
  ldQ R 3 (by decide) fun q3 =>
  ldQ R 4 (by decide) fun q4 =>
  ldQ R 5 (by decide) fun q5 =>
  ldQ R 6 (by decide) fun q6 =>
  ldQ R 7 (by decide) fun q7 =>
  initK R <|
  scoresK R 0 0 (by decide) (by decide) ![qCast q0, qCast q1, qCast q2, qCast q3, qCast q4, qCast q5, qCast q6, qCast q7] <|
  loopsK R i ![qCast q0, qCast q1, qCast q2, qCast q3, qCast q4, qCast q5, qCast q6, qCast q7]

/-- The printed function is that body. -/
theorem body_eq (i : grid0.Coords)
    (arg2 : Memref sig .tc .vmem S1x8x256x128 .bf16) (harg2 : arg2.IsWhole)
    (arg3 : Memref sig .tc .vmem S1x8x8192x128 .bf16) (harg3 : arg3.IsWhole)
    (arg4 : Memref sig .tc .vmem S1x4x32x128x256 .bf16) (harg4 : arg4.IsWhole)
    (arg5 : Memref sig .tc .vmem S256x512 .bf16) (harg5 : arg5.IsWhole)
    (arg6 : Memref sig .tc .vmem S8x1x256 .f32) (harg6 : arg6.IsWhole)
    (arg7 : Memref sig .tc .vmem S8x80x256 .f32) (harg7 : arg7.IsWhole)
    (arg8 : Memref sig .tc .vmem S2x8x256x256 .f32) (harg8 : arg8.IsWhole)
    (arg9 : Memref sig .tc .vmem S2x8x1x256 .f32) (harg9 : arg9.IsWhole) :
    cc0_attn_mla (F := F) i arg2 harg2 arg3 harg3 arg4 harg4 arg5 harg5 arg6 harg6 arg7 harg7 arg8 harg8 arg9 harg9
      = bodyK ⟨arg2, arg3, arg4, arg5, arg6, arg7, arg8, arg9, harg5⟩ i := by
  sl_kernel_rfl

end Cert.KernelIdeal

end
-- ==== Proof.Slots.lean ====
/-
  Buffers seen as families of slots. A buffer's slots are disjoint windows of equal size; `slots` owns the
  buffer and names what each slot holds, and a load or store of one slot reads or changes that slot alone.
-/
module

public import proofs.«01_k».proof.Proof.Struct
public import proofs.«01_k».proof.Proof.Gen.KernelIdeal.Frame
public import Idealize.ShloMosaic.Lib.VecWindow

@[expose] public section

set_option maxRecDepth 16384
set_option synthInstance.maxHeartbeats 200000
set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F] [Facts]

/-- The resources. -/
abbrev RM (F : FTy → Type) : Type := MT nD τ sig Unit (Elt F) ℕ (UR sig nD τ) ℕ

/-- The body's weakest precondition. -/
abbrev WP {F : FTy → Type} [FloatOps F] [Named F] [Facts] (c : Dev nD) {α : Type} (p : BodyQ F α)
    (Q : α → sProp (RM F)) :
    sProp (RM F) :=
  wp frame (wpE (defs₀ (F := F)) Variants.none (c : Thread nD τ) none) Set.univ p Q

variable (c : Dev nD) {S : Shape} {e : EltTy} (M : Memref sig .tc .vmem S e) {α : Type}

/-- The buffer is owned, and slot `i` holds `X i`. -/
def slots {ι : Type} (off : ι → Fin S.rank → ℕ) (sz : Fin S.rank → ℕ)
    (inb : ∀ i a, off i a + sz a ≤ S.size a) (X : ι → (⟨S.rank, sz⟩ : Shape).Idx → Elt F e) : sProp (RM F) :=
  iprop(∃ f : S.Idx → Elt F e, ⌜∀ i, window f (off i) sz (inb i) = X i⌝ ∗ owns (c : Thread nD τ) M fullShare f)

theorem slots_intro {ι : Type} (off : ι → Fin S.rank → ℕ) (sz : Fin S.rank → ℕ)
    (inb : ∀ i a, off i a + sz a ≤ S.size a) (f : S.Idx → Elt F e) :
    (owns (c : Thread nD τ) M fullShare f : sProp (RM F)) ⊢ slots c M off sz inb (fun i => window f (off i) sz (inb i)) := by
  unfold slots
  iintro H; iexists f; isplitr
  · ipureintro; exact fun _ => rfl
  · iexact H

/-- A load of a window of a buffer that is owned whole. -/
theorem owns_load {q : PosShare TreeShare} {X : S.Idx → Elt F e} {off sz : Fin S.rank → ℕ}
    {inb : ∀ a, off a + sz a ≤ S.size a} {hl : M.view.LoadsAt (Rect.unit off sz inb).toLoadRect}
    {k : ((Rect.unit off sz inb).toLoadRect.shape.Idx → Elt F e) → BodyQ F α} {Q : α → sProp (RM F)} :
    (owns (c : Thread nD τ) M q X : sProp (RM F)) ⊢ iprop((owns (c : Thread nD τ) M q X -∗ WP c (k (window X off sz inb)) Q)
      -∗ WP c (.op (.load M (Rect.unit off sz inb).toLoadRect hl) k) Q) := by
  unfold owns
  iintro ⟨%f, %hf, H⟩ Hk
  iapply (wp_load Variants.none (c : Thread nD τ) none Set.univ (m := M)
    (View.setOn_subset_set _ _)) $$ H
  iintro H
  rw [View.readAt_unit M.view f inb rfl inb, hf]
  iapply Hk
  iexists f; isplitr
  · ipureintro; exact hf
  · iexact H

theorem slots_load {ι : Type} {off : ι → Fin S.rank → ℕ} {sz : Fin S.rank → ℕ}
    {inb : ∀ i a, off i a + sz a ≤ S.size a} {X : ι → (⟨S.rank, sz⟩ : Shape).Idx → Elt F e} (i : ι)
    {hl : M.view.LoadsAt (Rect.unit (off i) sz (inb i)).toLoadRect}
    {k : ((Rect.unit (off i) sz (inb i)).toLoadRect.shape.Idx → Elt F e) → BodyQ F α} {Q : α → sProp (RM F)} :
    (slots c M off sz inb X : sProp (RM F)) ⊢ iprop((slots c M off sz inb X -∗ WP c (k (X i)) Q)
      -∗ WP c (.op (.load M (Rect.unit (off i) sz (inb i)).toLoadRect hl) k) Q) := by
  unfold slots
  iintro ⟨%f, %hf, H⟩ Hk
  iapply (owns_load c M) $$ H
  iintro H
  rw [hf i]
  iapply Hk
  iexists f; isplitr
  · ipureintro; exact hf
  · iexact H

/-- A load whose result is not used. -/
theorem slots_load_any {ι : Type} {off : ι → Fin S.rank → ℕ} {sz : Fin S.rank → ℕ}
    {inb : ∀ i a, off i a + sz a ≤ S.size a} {X : ι → (⟨S.rank, sz⟩ : Shape).Idx → Elt F e}
    {off' sz' : Fin S.rank → ℕ} {inb' : ∀ a, off' a + sz' a ≤ S.size a}
    {hl : M.view.LoadsAt (Rect.unit off' sz' inb').toLoadRect}
    {k : BodyQ F α} {Q : α → sProp (RM F)} :
    (slots c M off sz inb X : sProp (RM F)) ⊢ iprop((slots c M off sz inb X -∗ WP c k Q)
      -∗ WP c (.op (.load M (Rect.unit off' sz' inb').toLoadRect hl) fun _ => k) Q) := by
  unfold slots
  iintro ⟨%f, %hf, H⟩ Hk
  iapply (owns_load c M) $$ H
  iintro H
  iapply Hk
  iexists f; isplitr
  · ipureintro; exact hf
  · iexact H

/-- A load of a window inside one slot. -/
theorem slots_load_sub {ι : Type} {off : ι → Fin S.rank → ℕ} {sz : Fin S.rank → ℕ}
    {inb : ∀ i a, off i a + sz a ≤ S.size a} {X : ι → (⟨S.rank, sz⟩ : Shape).Idx → Elt F e} (i : ι)
    {off' sz' : Fin S.rank → ℕ} {inb' : ∀ a, off' a + sz' a ≤ S.size a}
    {hl : M.view.LoadsAt (Rect.unit off' sz' inb').toLoadRect}
    {k : ((Rect.unit off' sz' inb').toLoadRect.shape.Idx → Elt F e) → BodyQ F α} {Q : α → sProp (RM F)}
    (d : Fin S.rank → ℕ) (hd : off' = fun a => off i a + d a) (hi : ∀ a, d a + sz' a ≤ sz a) :
    (slots c M off sz inb X : sProp (RM F))
      ⊢ iprop((slots c M off sz inb X -∗ WP c (k (window (s := ⟨S.rank, sz⟩) (X i) d sz' hi)) Q)
      -∗ WP c (.op (.load M (Rect.unit off' sz' inb').toLoadRect hl) k) Q) := by
  subst hd
  unfold slots
  iintro ⟨%f, %hf, H⟩ Hk
  iapply (owns_load c M) $$ H
  iintro H
  have e1 : window f (fun a => off i a + d a) sz' inb' = window (s := ⟨S.rank, sz⟩) (X i) d sz' hi := by
    rw [← hf i]
    funext y
    exact congrArg f (funext fun a => Fin.ext (by
      show off i a + d a + 1 * (y a).val = off i a + 1 * (d a + 1 * (y a).val)
      omega))
  rw [e1]
  iapply Hk
  iexists f; isplitr
  · ipureintro; exact hf
  · iexact H

/-- A store of one window of a buffer that is owned whole. -/
theorem owns_store {f : S.Idx → Elt F e} {off sz : Fin S.rank → ℕ}
    {inb : ∀ a, off a + sz a ≤ S.size a} {w : (Rect.unit off sz inb).shape.Idx → Elt F e}
    {hx : (M.access (Rect.unit off sz inb)).Stores Finset.univ}
    {hm : Finset.univ = Finset.univ ∨ ∀ a, (Rect.unit off sz inb).stride a = 1}
    {k : PUnit → BodyQ F α} {Q : α → sProp (RM F)} :
    (owns (c : Thread nD τ) M fullShare f : sProp (RM F))
      ⊢ iprop((owns (c : Thread nD τ) M fullShare (put f off sz w) -∗ WP c (k ⟨⟩) Q)
      -∗ WP c (.op (.store M (Rect.unit off sz inb) w Finset.univ hx hm) k) Q) := by
  unfold owns
  iintro ⟨%g, %hg, H⟩ Hk
  iapply (wp_store Variants.none (c : Thread nD τ) none Set.univ (m := M) (r := Rect.unit off sz inb)
    (S := M.view.set) (View.setOn_slice_subset_set _ _ _)) $$ H
  iintro H
  iapply Hk
  iexists ((M.access (Rect.unit off sz inb)).write (Elt F) g w Finset.univ); isplitr
  · ipureintro
    have := View.read_writes_cons_put M.view g inb w [] rfl
    rw [View.writes_nil, hg] at this
    exact this
  · iexact H

theorem slots_store {ι : Type} [DecidableEq ι] {off : ι → Fin S.rank → ℕ} {sz : Fin S.rank → ℕ}
    {inb : ∀ i a, off i a + sz a ≤ S.size a} {X : ι → (⟨S.rank, sz⟩ : Shape).Idx → Elt F e} (i : ι)
    {w : (Rect.unit (off i) sz (inb i)).shape.Idx → Elt F e}
    {hx : (M.access (Rect.unit (off i) sz (inb i))).Stores Finset.univ}
    {hm : Finset.univ = Finset.univ ∨ ∀ a, (Rect.unit (off i) sz (inb i)).stride a = 1}
    {k : PUnit → BodyQ F α} {Q : α → sProp (RM F)}
    (hd : ∀ j, j ≠ i → ∃ a, off j a + sz a ≤ off i a ∨ off i a + sz a ≤ off j a) :
    (slots c M off sz inb X : sProp (RM F))
      ⊢ iprop((slots c M off sz inb (Function.update X i w) -∗ WP c (k ⟨⟩) Q)
      -∗ WP c (.op (.store M (Rect.unit (off i) sz (inb i)) w Finset.univ hx hm) k) Q) := by
  unfold slots
  iintro ⟨%f, %hf, H⟩ Hk
  iapply (owns_store c M) $$ H
  iintro H
  iapply Hk
  iexists put f (off i) sz w; isplitr
  · ipureintro
    intro j
    by_cases hj : j = i
    · subst hj; rw [Function.update_self]; exact VecWindow.window_put_same _ _ _ _ _
    · rw [Function.update_of_ne hj, ← hf j]
      obtain ⟨a, ha⟩ := hd j hj
      exact VecWindow.window_put_of_disjoint _ _ _ _ _ _ _ a ha
  · iexact H

/-- A store of the whole buffer. -/
theorem slots_store_all {ι : Type} {off : ι → Fin S.rank → ℕ} {sz : Fin S.rank → ℕ}
    {inb : ∀ i a, off i a + sz a ≤ S.size a} {X : ι → (⟨S.rank, sz⟩ : Shape).Idx → Elt F e}
    {off' : Fin S.rank → ℕ} {inb' : ∀ a, off' a + S.size a ≤ S.size a}
    {w : (Rect.unit off' S.size inb').shape.Idx → Elt F e}
    {hx : (M.access (Rect.unit off' S.size inb')).Stores Finset.univ}
    {hm : Finset.univ = Finset.univ ∨ ∀ a, (Rect.unit off' S.size inb').stride a = 1}
    {k : PUnit → BodyQ F α} {Q : α → sProp (RM F)} :
    (slots c M off sz inb X : sProp (RM F))
      ⊢ iprop((slots c M off sz inb (fun i => window (s := S) w (off i) sz (inb i)) -∗ WP c (k ⟨⟩) Q)
      -∗ WP c (.op (.store M (Rect.unit off' S.size inb') w Finset.univ hx hm) k) Q) := by
  unfold slots
  iintro ⟨%f, %hf, H⟩ Hk
  iapply (owns_store c M) $$ H
  iintro H
  iapply Hk
  iexists put f off' S.size w; isplitr
  · ipureintro
    have e1 : put f off' S.size w = w := by
      have h0 : ∀ a, off' a = 0 := fun a => by have := inb' a; omega
      have e0 : off' = fun _ => 0 := funext h0
      subst e0
      funext y
      have h : ∀ a, (fun _ => 0 : Fin S.rank → ℕ) a ≤ (y a).val
          ∧ (y a).val < (fun _ => 0 : Fin S.rank → ℕ) a + S.size a :=
        fun a => ⟨Nat.zero_le _, by have := (y a).isLt; simpa using this⟩
      unfold put
      rw [dif_pos h]
      rfl
    rw [e1]; exact fun _ => rfl
  · iexact H

end Cert.KernelIdeal

end
-- ==== Proof.Frags.lean ====
/-
  What each fragment of the body does to the eight buffers, and the pure functions the buffers' contents
  follow: the scores of a tile, and a head's running maximum and running sums after some tiles.
-/
module

public import proofs.«01_k».proof.Proof.Slots

@[expose] public section

set_option maxRecDepth 16384
set_option synthInstance.maxHeartbeats 200000
set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F] [Facts]

/-! ### The pure functions -/

/-- The three input blocks. -/
structure Ins (F : FTy → Type) where
  q : Vec F S1x8x256x128 .bf16
  k : Vec F S1x8x8192x128 .bf16
  v : Vec F S1x4x32x128x256 .bf16

def qT (I : Ins F) (m : Fin 8) : FVec F S256x128 .bf16 :=
  qCast (window I.q ![0, m.val, 0, 0] S1x1x256x128.size (inb_q m.isLt))

def kT (I : Ins F) (j : ℕ) (m : Fin 8) : Vec F S1x1x256x128 .bf16 :=
  window I.k ![0, m.val, 256 * (j % 32), 0] S1x1x256x128.size (inb_k m.isLt (by omega))

def vT (I : Ins F) (j : ℕ) (m : Fin 8) : Vec F S1x1x1x64x256 .bf16 :=
  window I.v ![0, m.val / 2, j % 32, 64 * (m.val % 2), 0] S1x1x1x64x256.size
    (inb_v (by omega) (by omega) (by omega))

/-- Tile `j`'s scores, and their greatest, as the buffers hold them. -/
def sT (I : Ins F) (j : ℕ) (m : Fin 8) : Vec F S1x1x256x256 .f32 :=
  shapeCast (α := F .f32) S1x1x256x256 (sMat (kT I j m) (qT I m)) shapeCasts_S256x256_S1x1x256x256

def bT (I : Ins F) (j : ℕ) (m : Fin 8) : Vec F S1x1x1x256 .f32 :=
  shapeCast (α := F .f32) S1x1x1x256 (colMax (sMat (kT I j m) (qT I m))) shapeCasts_S1x256_S1x1x1x256

/-- One unmasked tile taken in. -/
def stepMA (s : Vec F S1x1x256x256 .f32) (b : Vec F S1x1x1x256 .f32) (v : Vec F S1x1x1x64x256 .bf16)
    (x : Vec F S1x1x256 .f32 × Vec F S1x80x256 .f32) : Vec F S1x1x256 .f32 × Vec F S1x80x256 .f32 :=
  (mBack (mNew x.1 b), accOf v (alphaOf (mCast x.1) (mNew x.1 b)) (pOf (sCast s) (mNew x.1 b)) x.2)

/-- The masked tile taken in. -/
def diagMA (s : Vec F S1x1x256x256 .f32) (v : Vec F S1x1x1x64x256 .bf16)
    (x : Vec F S1x1x256 .f32 × Vec F S1x80x256 .f32) : Vec F S1x1x256 .f32 × Vec F S1x80x256 .f32 :=
  (mBack (mNewM x.1 (sMask s)),
    accOf v (alphaOf (mCast x.1) (mNewM x.1 (sMask s))) (pOf (sMask s) (mNewM x.1 (sMask s))) x.2)

/-- A head's running maximum and sums after the first `j` tiles. -/
def runT (I : Ins F) (m : Fin 8) : ℕ → Vec F S1x1x256 .f32 × Vec F S1x80x256 .f32
  | 0 => (window initM ![m.val, 0, 0] S1x1x256.size (inb_m m.isLt),
      window initA ![m.val, 0, 0] S1x80x256.size (inb_a m.isLt))
  | j + 1 => stepMA (sT I j m) (bT I j m) (vT I j m) (runT I m j)

/-- The same after the diagonal tile `j`. -/
def endT (I : Ins F) (m : Fin 8) (j : ℕ) : Vec F S1x1x256 .f32 × Vec F S1x80x256 .f32 :=
  diagMA (sT I j m) (vT I j m) (runT I m j)

def inb_n0 : ∀ a, (![0, 0, 0] : Fin 3 → ℕ) a + S1x64x256.size a ≤ S1x80x256.size a := by
  intro a; fin_cases a <;> simp

def inb_d0 : ∀ a, (![0, 64, 0] : Fin 3 → ℕ) a + S1x1x256.size a ≤ S1x80x256.size a := by
  intro a; fin_cases a <;> simp

/-- A head's quotients, of its sums. -/
def quotT (a : Vec F S1x80x256 .f32) : FVec F S64x256 .f32 :=
  quot (window a ![0, 0, 0] S1x64x256.size inb_n0) (window a ![0, 64, 0] S1x1x256.size inb_d0)

/-- Two heads' part of the result. -/
def outT (I : Ins F) (j : ℕ) (c : Fin 4) : Vec F S256x128 .bf16 :=
  outOf (quotT (endT I ⟨2 * c.val, by omega⟩ j).2) (quotT (endT I ⟨2 * c.val + 1, by omega⟩ j).2)

/-! ### The buffers -/

variable (c : Dev nD) (R : Refs)

abbrev offO (x : Fin 4) : Fin 2 → ℕ := ![0, 128 * x.val]
abbrev offM (m : Fin 8) : Fin 3 → ℕ := ![m.val, 0, 0]
abbrev offS (p : Fin 2 × Fin 8) : Fin 4 → ℕ := ![p.1.val, p.2.val, 0, 0]

theorem inb_o (x : Fin 4) : ∀ a, offO x a + S256x128.size a ≤ S256x512.size a := by
  intro a; fin_cases a <;> simp; omega

abbrev FO (F : FTy → Type) := Fin 4 → Vec F S256x128 .bf16
abbrev FM (F : FTy → Type) := Fin 8 → Vec F S1x1x256 .f32
abbrev FA (F : FTy → Type) := Fin 8 → Vec F S1x80x256 .f32
abbrev FS (F : FTy → Type) := Fin 2 × Fin 8 → Vec F S1x1x256x256 .f32
abbrev FB (F : FTy → Type) := Fin 2 × Fin 8 → Vec F S1x1x1x256 .f32

def hasO (X : FO F) : sProp (RM F) := slots c R.o offO S256x128.size inb_o X
def hasM (X : FM F) : sProp (RM F) := slots c R.m offM S1x1x256.size (fun m => inb_m m.isLt) X
def hasA (X : FA F) : sProp (RM F) := slots c R.a offM S1x80x256.size (fun m => inb_a m.isLt) X
def hasS (X : FS F) : sProp (RM F) := slots c R.s offS S1x1x256x256.size (fun p => inb_s p.1.isLt p.2.isLt) X
def hasB (X : FB F) : sProp (RM F) := slots c R.b offS S1x1x1x256.size (fun p => inb_b p.1.isLt p.2.isLt) X

/-- The input buffers. -/
def hasI (I : Ins F) : sProp (RM F) :=
  iprop(owns (c : Thread nD τ) R.q fullShare I.q ∗ owns (c : Thread nD τ) R.k fullShare I.k
    ∗ owns (c : Thread nD τ) R.v fullShare I.v)

def Own (I : Ins F) (O : FO F) (M : FM F) (A : FA F) (S : FS F) (B : FB F) : sProp (RM F) :=
  iprop(hasI c R I ∗ hasO c R O ∗ hasM c R M ∗ hasA c R A ∗ hasS c R S ∗ hasB c R B)

theorem sep_m {m m' : Fin 8} (h : m' ≠ m) (sz : Fin 3 → ℕ) (hs : sz 0 = 1) :
    ∃ a, offM m' a + sz a ≤ offM m a ∨ offM m a + sz a ≤ offM m' a := by
  refine ⟨0, ?_⟩
  have : m'.val ≠ m.val := fun e => h (Fin.ext e)
  show m'.val + sz 0 ≤ m.val ∨ m.val + sz 0 ≤ m'.val
  omega

theorem sep_o {m m' : Fin 4} (h : m' ≠ m) :
    ∃ a, offO m' a + S256x128.size a ≤ offO m a ∨ offO m a + S256x128.size a ≤ offO m' a := by
  refine ⟨1, ?_⟩
  have : m'.val ≠ m.val := fun e => h (Fin.ext e)
  show 128 * m'.val + 128 ≤ 128 * m.val ∨ 128 * m.val + 128 ≤ 128 * m'.val
  omega

theorem sep_s {p p' : Fin 2 × Fin 8} (h : p' ≠ p) (sz : Fin 4 → ℕ) (h0 : sz 0 = 1) (h1 : sz 1 = 1) :
    ∃ a, offS p' a + sz a ≤ offS p a ∨ offS p a + sz a ≤ offS p' a := by
  by_cases e : p'.1.val = p.1.val
  · refine ⟨1, ?_⟩
    have : p'.2.val ≠ p.2.val := fun e' => h (Prod.ext (Fin.ext e) (Fin.ext e'))
    show p'.2.val + sz 1 ≤ p.2.val ∨ p.2.val + sz 1 ≤ p'.2.val
    omega
  · refine ⟨0, ?_⟩
    show p'.1.val + sz 0 ≤ p.1.val ∨ p.1.val + sz 0 ≤ p'.1.val
    omega

variable {c R} {I : Ins F} {O : FO F} {M : FM F} {A : FA F} {S : FS F} {B : FB F} {Q : PUnit → sProp (RM F)}

/-! ### The fragments -/

theorem initK_wp {K : BodyP F}
    (h : Own c R I O (fun m => (runT I m 0).1) (fun m => (runT I m 0).2) S B ⊢ WP c K Q) :
    Own c R I O M A S B ⊢ WP c (initK R K) Q := by
  unfold Own initK hasM hasA
  iintro ⟨HI, HO, HM, HA, HS, HB⟩
  iapply (slots_load_any c R.m) $$ HM
  iintro HM
  iapply (slots_store_all c R.m) $$ HM
  iintro HM
  iapply (slots_load_any c R.a) $$ HA
  iintro HA
  iapply (slots_store_all c R.a) $$ HA
  iintro HA
  iapply h
  unfold Own hasM hasA
  isplitl [HI]; · iexact HI
  isplitl [HO]; · iexact HO
  isplitl [HM]; · iexact HM
  isplitl [HA]; · iexact HA
  isplitl [HS]; · iexact HS
  iexact HB

theorem scoreK_wp {l m n : ℕ} {hl : l < 2} {hm : m < 8} {hn : n + 256 ≤ 8192} {j : ℕ} (e : n = 256 * (j % 32))
    {K : BodyP F}
    (h : Own c R I O M A (Function.update S (⟨l, hl⟩, ⟨m, hm⟩) (sT I j ⟨m, hm⟩))
      (Function.update B (⟨l, hl⟩, ⟨m, hm⟩) (bT I j ⟨m, hm⟩)) ⊢ WP c K Q) :
    Own c R I O M A S B ⊢ WP c (scoreK R l m n hl hm hn (qT I ⟨m, hm⟩) K) Q := by
  subst e
  unfold Own scoreK hasI hasS hasB
  iintro ⟨⟨Hq, Hk, Hv⟩, HO, HM, HA, HS, HB⟩
  unfold ldK
  iapply (owns_load c R.k) $$ Hk
  iintro Hk
  unfold ldS
  iapply (slots_load_any c R.s) $$ HS
  iintro HS
  unfold stS
  iapply (slots_store c R.s (off := offS) (⟨l, hl⟩, ⟨m, hm⟩) (fun j hj => sep_s hj _ rfl rfl)) $$ HS
  iintro HS
  unfold ldB
  iapply (slots_load_any c R.b) $$ HB
  iintro HB
  unfold stB
  iapply (slots_store c R.b (off := offS) (⟨l, hl⟩, ⟨m, hm⟩) (fun j hj => sep_s hj _ rfl rfl)) $$ HB
  iintro HB
  iapply h
  unfold Own hasI hasS hasB
  isplitl [Hq Hk Hv]
  · isplitl [Hq]; · iexact Hq
    isplitl [Hk]; · iexact Hk
    iexact Hv
  isplitl [HO]; · iexact HO
  isplitl [HM]; · iexact HM
  isplitl [HA]; · iexact HA
  isplitl [HS]; · iexact HS
  iexact HB

theorem accK_wp {m d : ℕ} {hm : m < 8} {hd : d < 32} {j : ℕ} (e : d = j % 32)
    {al : FVec F S1x256 .f32} {p : FVec F S256x256 .bf16} {K : BodyP F}
    (h : Own c R I O M (Function.update A ⟨m, hm⟩ (accOf (vT I j ⟨m, hm⟩) al p (A ⟨m, hm⟩))) S B ⊢ WP c K Q) :
    Own c R I O M A S B ⊢ WP c (accK R m d hm hd al p K) Q := by
  subst e
  unfold Own accK hasI hasA
  iintro ⟨⟨Hq, Hk, Hv⟩, HO, HM, HA, HS, HB⟩
  unfold ldV
  iapply (owns_load c R.v) $$ Hv
  iintro Hv
  unfold ldA
  iapply (slots_load c R.a (off := offM) ⟨m, hm⟩) $$ HA
  iintro HA
  iapply (slots_load_any c R.a) $$ HA
  iintro HA
  unfold stA
  iapply (slots_store c R.a (off := offM) ⟨m, hm⟩ (fun j hj => sep_m hj _ rfl)) $$ HA
  iintro HA
  iapply h
  unfold Own hasI hasA
  isplitl [Hq Hk Hv]
  · isplitl [Hq]; · iexact Hq
    isplitl [Hk]; · iexact Hk
    iexact Hv
  isplitl [HO]; · iexact HO
  isplitl [HM]; · iexact HM
  isplitl [HA]; · iexact HA
  isplitl [HS]; · iexact HS
  iexact HB

theorem softK_wp {l m d : ℕ} {hl : l < 2} {hm : m < 8} {hd : d < 32} {j : ℕ} (e : d = j % 32) {K : BodyP F}
    (h : Own c R I O
      (Function.update M ⟨m, hm⟩ (stepMA (S (⟨l, hl⟩, ⟨m, hm⟩)) (B (⟨l, hl⟩, ⟨m, hm⟩)) (vT I j ⟨m, hm⟩)
        (M ⟨m, hm⟩, A ⟨m, hm⟩)).1)
      (Function.update A ⟨m, hm⟩ (stepMA (S (⟨l, hl⟩, ⟨m, hm⟩)) (B (⟨l, hl⟩, ⟨m, hm⟩)) (vT I j ⟨m, hm⟩)
        (M ⟨m, hm⟩, A ⟨m, hm⟩)).2) S B ⊢ WP c K Q) :
    Own c R I O M A S B ⊢ WP c (softK R l m d hl hm hd K) Q := by
  have h' := fun al p => accK_wp (c := c) (R := R) (I := I) (O := O) (A := A) (S := S) (B := B) (Q := Q) (K := K)
    (hm := hm) (hd := hd) (j := j) (al := al) (p := p)
    (M := Function.update M ⟨m, hm⟩ (stepMA (S (⟨l, hl⟩, ⟨m, hm⟩)) (B (⟨l, hl⟩, ⟨m, hm⟩)) (vT I j ⟨m, hm⟩)
        (M ⟨m, hm⟩, A ⟨m, hm⟩)).1) e
  unfold Own softK hasM hasS hasB
  iintro ⟨HI, HO, HM, HA, HS, HB⟩
  unfold ldS
  iapply (slots_load c R.s (off := offS) (⟨l, hl⟩, ⟨m, hm⟩)) $$ HS
  iintro HS
  unfold ldM
  iapply (slots_load c R.m (off := offM) ⟨m, hm⟩) $$ HM
  iintro HM
  unfold ldB
  iapply (slots_load c R.b (off := offS) (⟨l, hl⟩, ⟨m, hm⟩)) $$ HB
  iintro HB
  iapply (slots_load_any c R.m) $$ HM
  iintro HM
  unfold stM
  iapply (slots_store c R.m (off := offM) ⟨m, hm⟩ (fun j hj => sep_m hj _ rfl)) $$ HM
  iintro HM
  iapply (h' _ _ h)
  unfold Own hasM hasS hasB
  isplitl [HI]; · iexact HI
  isplitl [HO]; · iexact HO
  isplitl [HM]; · iexact HM
  isplitl [HA]; · iexact HA
  isplitl [HS]; · iexact HS
  iexact HB

theorem maskK_wp {l m : ℕ} {hl : l < 2} {hm : m < 8}
    {K : FVec F S1x256 .f32 → FVec F S256x256 .bf16 → BodyP F}
    (h : Own c R I O
      (Function.update M ⟨m, hm⟩ (mBack (mNewM (M ⟨m, hm⟩) (sMask (S (⟨l, hl⟩, ⟨m, hm⟩)))))) A S B
      ⊢ WP c (K (alphaOf (mCast (M ⟨m, hm⟩)) (mNewM (M ⟨m, hm⟩) (sMask (S (⟨l, hl⟩, ⟨m, hm⟩)))))
        (pOf (sMask (S (⟨l, hl⟩, ⟨m, hm⟩))) (mNewM (M ⟨m, hm⟩) (sMask (S (⟨l, hl⟩, ⟨m, hm⟩)))))) Q) :
    Own c R I O M A S B ⊢ WP c (maskK R l m hl hm K) Q := by
  unfold Own maskK hasM hasS
  iintro ⟨HI, HO, HM, HA, HS, HB⟩
  unfold ldS
  iapply (slots_load c R.s (off := offS) (⟨l, hl⟩, ⟨m, hm⟩)) $$ HS
  iintro HS
  unfold ldM
  iapply (slots_load c R.m (off := offM) ⟨m, hm⟩) $$ HM
  iintro HM
  iapply (slots_load_any c R.m) $$ HM
  iintro HM
  unfold stM
  iapply (slots_store c R.m (off := offM) ⟨m, hm⟩ (fun j hj => sep_m hj _ rfl)) $$ HM
  iintro HM
  iapply h
  unfold Own hasM hasS
  isplitl [HI]; · iexact HI
  isplitl [HO]; · iexact HO
  isplitl [HM]; · iexact HM
  isplitl [HA]; · iexact HA
  isplitl [HS]; · iexact HS
  iexact HB

theorem outK_wp {m0 m1 n : ℕ} {h0 : m0 < 8} {h1 : m1 < 8}
    {hb : ∀ a, (![0, n] : Fin 2 → ℕ) a + S256x128.size a ≤ S256x512.size a}
    {hp : (Rect.unit (s := S256x512) ![0, n] S256x128.size hb).PackedRows (EltTy.packing .bf16)}
    (x : Fin 4) (e : n = 128 * x.val) {K : BodyP F}
    (h : Own c R I (Function.update O x (outOf (quotT (A ⟨m0, h0⟩)) (quotT (A ⟨m1, h1⟩)))) M A S B ⊢ WP c K Q) :
    Own c R I O M A S B ⊢ WP c (outK R m0 m1 n h0 h1 hb hp K) Q := by
  subst e
  have hd0 : ∀ m : Fin 8, (![m.val, 0, 0] : Fin 3 → ℕ) = fun a => offM m a + (![0, 0, 0] : Fin 3 → ℕ) a := by
    intro m; funext a; fin_cases a <;> simp
  have hd1 : ∀ m : Fin 8, (![m.val, 64, 0] : Fin 3 → ℕ) = fun a => offM m a + (![0, 64, 0] : Fin 3 → ℕ) a := by
    intro m; funext a; fin_cases a <;> simp
  unfold Own outK hasO hasA
  iintro ⟨HI, HO, HM, HA, HS, HB⟩
  unfold ldAn ldAd
  iapply (slots_load_sub c R.a (off := offM) ⟨m0, h0⟩ _ (hd0 ⟨m0, h0⟩) inb_n0) $$ HA
  iintro HA
  iapply (slots_load_sub c R.a (off := offM) ⟨m0, h0⟩ _ (hd1 ⟨m0, h0⟩) inb_d0) $$ HA
  iintro HA
  iapply (slots_load_sub c R.a (off := offM) ⟨m1, h1⟩ _ (hd0 ⟨m1, h1⟩) inb_n0) $$ HA
  iintro HA
  iapply (slots_load_sub c R.a (off := offM) ⟨m1, h1⟩ _ (hd1 ⟨m1, h1⟩) inb_d0) $$ HA
  iintro HA
  unfold ldO
  iapply (slots_load_any c R.o) $$ HO
  iintro HO
  unfold stO
  iapply (slots_store c R.o (off := offO) x (fun j hj => sep_o hj)) $$ HO
  iintro HO
  iapply h
  unfold Own hasO hasA
  isplitl [HI]; · iexact HI
  isplitl [HO]; · iexact HO
  isplitl [HM]; · iexact HM
  isplitl [HA]; · iexact HA
  isplitl [HS]; · iexact HS
  iexact HB

end Cert.KernelIdeal

end
-- ==== Proof.Body.lean ====
/-
  The body from end to end: the tiles one after another, the loops by their trips, the diagonal tile, and the
  quotients. What the body leaves in the result's buffer is a function of the three input blocks.
-/
module

public import proofs.«01_k».proof.Proof.Frags

@[expose] public section

set_option maxRecDepth 16384
set_option synthInstance.maxHeartbeats 200000
set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F] [Facts]

variable {c : Dev nD} {R : Refs} {I : Ins F} {Q : PUnit → sProp (RM F)}

/-! ### What holds between the fragments -/

variable (c R I) in
/-- After the first `j` tiles, with tile `j`'s scores in slot `l`; the first `r` heads are one tile further,
    with their next scores in slot `l'`. -/
def Part (j : ℕ) (l l' : Fin 2) (r : ℕ) : sProp (RM F) :=
  iprop(∃ (O : FO F) (M : FM F) (A : FA F) (S : FS F) (B : FB F),
    ⌜(∀ m : Fin 8, M m = (runT I m (if m.val < r then j + 1 else j)).1)
      ∧ (∀ m : Fin 8, A m = (runT I m (if m.val < r then j + 1 else j)).2)
      ∧ (∀ m : Fin 8, S (l, m) = sT I j m ∧ B (l, m) = bT I j m)
      ∧ (∀ m : Fin 8, m.val < r → S (l', m) = sT I (j + 1) m ∧ B (l', m) = bT I (j + 1) m)⌝
    ∗ Own c R I O M A S B)

variable (c R I) in
/-- After the first `j` tiles, with tile `j`'s scores in slot `l`. -/
def At (j : ℕ) (l : Fin 2) : sProp (RM F) :=
  iprop(∃ (O : FO F) (M : FM F) (A : FA F) (S : FS F) (B : FB F),
    ⌜(∀ m : Fin 8, M m = (runT I m j).1) ∧ (∀ m : Fin 8, A m = (runT I m j).2)
      ∧ (∀ m : Fin 8, S (l, m) = sT I j m ∧ B (l, m) = bT I j m)⌝
    ∗ Own c R I O M A S B)

theorem part_in {j : ℕ} {l l' : Fin 2} : At c R I j l ⊢ Part c R I j l l' 0 := by
  unfold At Part
  iintro ⟨%O, %M, %A, %S, %B, %h, H⟩
  iexists O, M, A, S, B
  isplitr
  · ipureintro
    exact ⟨fun m => h.1 m, fun m => h.2.1 m, h.2.2, fun m hm => absurd hm (Nat.not_lt_zero _)⟩
  · iexact H

theorem part_out {j : ℕ} {l l' : Fin 2} : Part c R I j l l' 8 ⊢ At c R I (j + 1) l' := by
  unfold At Part
  iintro ⟨%O, %M, %A, %S, %B, %h, H⟩
  iexists O, M, A, S, B
  isplitr
  · ipureintro
    exact ⟨fun m => by rw [h.1 m, if_pos m.isLt], fun m => by rw [h.2.1 m, if_pos m.isLt],
      fun m => h.2.2.2 m m.isLt⟩
  · iexact H

theorem part_step {j l l' r n d : ℕ} {hl : l < 2} {hl' : l' < 2} {hr : r < 8} {hn : n + 256 ≤ 8192} {hd : d < 32}
    (hne : l ≠ l') (en : n = 256 * ((j + 1) % 32)) (ed : d = j % 32) {K : BodyP F}
    (h : Part c R I j ⟨l, hl⟩ ⟨l', hl'⟩ (r + 1) ⊢ WP c K Q) :
    Part c R I j ⟨l, hl⟩ ⟨l', hl'⟩ r ⊢
      WP c (scoreK R l' r n hl' hr hn (qT I ⟨r, hr⟩) (softK R l r d hl hr hd K)) Q := by
  unfold Part
  iintro ⟨%O, %M, %A, %S, %B, %hx, H⟩
  obtain ⟨hM, hA, hS, hS'⟩ := hx
  iapply (scoreK_wp en (softK_wp ed ?_)) $$ H
  refine .trans ?_ h
  unfold Part
  iintro H
  iexists _, _, _, _, _
  isplitr
  rotate_left
  · iexact H
  ipureintro
  have hp : ∀ m : Fin 8, ((⟨l, hl⟩ : Fin 2), m) ≠ ((⟨l', hl'⟩ : Fin 2), (⟨r, hr⟩ : Fin 8)) := fun m e =>
    hne (congrArg (fun p => p.1.val) e)
  have hS0 : ∀ m : Fin 8, Function.update S ((⟨l', hl'⟩ : Fin 2), (⟨r, hr⟩ : Fin 8)) (sT I (j + 1) ⟨r, hr⟩)
      (⟨l, hl⟩, m) = sT I j m := fun m => by
    rw [Function.update_of_ne (hp m)]; exact (hS m).1
  have hB0 : ∀ m : Fin 8, Function.update B ((⟨l', hl'⟩ : Fin 2), (⟨r, hr⟩ : Fin 8)) (bT I (j + 1) ⟨r, hr⟩)
      (⟨l, hl⟩, m) = bT I j m := fun m => by
    rw [Function.update_of_ne (hp m)]; exact (hS m).2
  have hM0 : M ⟨r, hr⟩ = (runT I ⟨r, hr⟩ j).1 := by rw [hM, if_neg (Nat.lt_irrefl r)]
  have hA0 : A ⟨r, hr⟩ = (runT I ⟨r, hr⟩ j).2 := by rw [hA, if_neg (Nat.lt_irrefl r)]
  rw [hS0, hB0, hM0, hA0]
  refine ⟨fun m => ?_, fun m => ?_, fun m => ⟨hS0 m, hB0 m⟩, fun m hm => ?_⟩
  · by_cases e : m = ⟨r, hr⟩
    · subst e; rw [Function.update_self, if_pos (Nat.lt_succ_self r)]; rfl
    · rw [Function.update_of_ne e, hM]
      have : m.val ≠ r := fun e' => e (Fin.ext e')
      exact congrArg (fun n => (runT I m n).1) (if_congr (by omega) rfl rfl)
  · by_cases e : m = ⟨r, hr⟩
    · subst e; rw [Function.update_self, if_pos (Nat.lt_succ_self r)]; rfl
    · rw [Function.update_of_ne e, hA]
      have : m.val ≠ r := fun e' => e (Fin.ext e')
      exact congrArg (fun n => (runT I m n).2) (if_congr (by omega) rfl rfl)
  · by_cases e : m = ⟨r, hr⟩
    · subst e; exact ⟨Function.update_self .., Function.update_self ..⟩
    · have hq : ((⟨l', hl'⟩ : Fin 2), m) ≠ ((⟨l', hl'⟩ : Fin 2), (⟨r, hr⟩ : Fin 8)) := fun e' =>
        e (congrArg Prod.snd e')
      have : m.val ≠ r := fun e' => e (Fin.ext e')
      rw [Function.update_of_ne hq, Function.update_of_ne hq]
      exact hS' m (by omega)

theorem tileK_wp {j l l' n d : ℕ} {hl : l < 2} {hl' : l' < 2} {hn : n + 256 ≤ 8192} {hd : d < 32}
    (hne : l ≠ l') (en : n = 256 * ((j + 1) % 32)) (ed : d = j % 32) {K : BodyP F}
    (h : At c R I (j + 1) ⟨l', hl'⟩ ⊢ WP c K Q) :
    At c R I j ⟨l, hl⟩ ⊢ WP c (tileK R l l' n d hl hl' hn hd (qT I) K) Q := by
  refine (part_in (l' := ⟨l', hl'⟩)).trans ?_
  unfold tileK
  refine part_step hne en ed <| part_step hne en ed <| part_step hne en ed <| part_step hne en ed <|
    part_step hne en ed <| part_step hne en ed <| part_step hne en ed <| part_step hne en ed <| ?_
  exact part_out.trans h

/-! ### The starting scores -/

variable (c R I) in
def Start (r : ℕ) : sProp (RM F) :=
  iprop(∃ (O : FO F) (M : FM F) (A : FA F) (S : FS F) (B : FB F),
    ⌜(∀ m : Fin 8, M m = (runT I m 0).1) ∧ (∀ m : Fin 8, A m = (runT I m 0).2)
      ∧ (∀ m : Fin 8, m.val < r → S (0, m) = sT I 0 m ∧ B (0, m) = bT I 0 m)⌝
    ∗ Own c R I O M A S B)

theorem start_step {r : ℕ} {hr : r < 8} {hn : 0 + 256 ≤ 8192} {K : BodyP F}
    (h : Start c R I (r + 1) ⊢ WP c K Q) :
    Start c R I r ⊢ WP c (scoreK R 0 r 0 (by decide) hr hn (qT I ⟨r, hr⟩) K) Q := by
  unfold Start
  iintro ⟨%O, %M, %A, %S, %B, %hx, H⟩
  obtain ⟨hM, hA, hS⟩ := hx
  iapply (scoreK_wp (j := 0) rfl ?_) $$ H
  refine .trans ?_ h
  unfold Start
  iintro H
  iexists _, _, _, _, _
  isplitr
  rotate_left
  · iexact H
  ipureintro
  refine ⟨hM, hA, fun m hm => ?_⟩
  by_cases e : m = ⟨r, hr⟩
  · subst e; exact ⟨Function.update_self .., Function.update_self ..⟩
  · have hq : ((0 : Fin 2), m) ≠ ((⟨0, by decide⟩ : Fin 2), (⟨r, hr⟩ : Fin 8)) := fun e' =>
      e (congrArg Prod.snd e')
    have : m.val ≠ r := fun e' => e (Fin.ext e')
    rw [Function.update_of_ne hq, Function.update_of_ne hq]
    exact hS m (by omega)

theorem scoresK_wp {hn : 0 + 256 ≤ 8192} {K : BodyP F} (h : At c R I 0 0 ⊢ WP c K Q) :
    Start c R I 0 ⊢ WP c (scoresK R 0 0 (by decide) hn (qT I) K) Q := by
  unfold scoresK
  refine start_step <| start_step <| start_step <| start_step <| start_step <| start_step <| start_step <|
    start_step <| .trans ?_ h
  unfold Start At
  iintro ⟨%O, %M, %A, %S, %B, %h, H⟩
  iexists O, M, A, S, B
  isplitr
  · ipureintro
    exact ⟨h.1, h.2.1, fun m => h.2.2 m m.isLt⟩
  · iexact H

/-! ### The diagonal tile -/

variable (c R I) in
/-- The first `r` heads have taken the masked scores into their maximum, the first `r'` into their sums too. -/
def Diag (j : ℕ) (l : Fin 2) (r r' : ℕ) : sProp (RM F) :=
  iprop(∃ (O : FO F) (M : FM F) (A : FA F) (S : FS F) (B : FB F),
    ⌜(∀ m : Fin 8, r ≤ m.val → M m = (runT I m j).1)
      ∧ (∀ m : Fin 8, A m = if m.val < r' then (endT I m j).2 else (runT I m j).2)
      ∧ (∀ m : Fin 8, S (l, m) = sT I j m)⌝
    ∗ Own c R I O M A S B)

def alD (I : Ins F) (j : ℕ) (m : Fin 8) : FVec F S1x256 .f32 :=
  alphaOf (mCast (runT I m j).1) (mNewM (runT I m j).1 (sMask (sT I j m)))

def pD (I : Ins F) (j : ℕ) (m : Fin 8) : FVec F S256x256 .bf16 :=
  pOf (sMask (sT I j m)) (mNewM (runT I m j).1 (sMask (sT I j m)))

theorem mask_step {j l r : ℕ} {hl : l < 2} {hr : r < 8}
    {K : FVec F S1x256 .f32 → FVec F S256x256 .bf16 → BodyP F}
    (h : Diag c R I j ⟨l, hl⟩ (r + 1) 0 ⊢ WP c (K (alD I j ⟨r, hr⟩) (pD I j ⟨r, hr⟩)) Q) :
    Diag c R I j ⟨l, hl⟩ r 0 ⊢ WP c (maskK R l r hl hr K) Q := by
  unfold Diag
  iintro ⟨%O, %M, %A, %S, %B, %hx, H⟩
  obtain ⟨hM, hA, hS⟩ := hx
  iapply (maskK_wp ?_) $$ H
  rw [hS, hM ⟨r, hr⟩ (Nat.le_refl r)]
  refine .trans ?_ h
  unfold Diag
  iintro H
  iexists _, _, _, _, _
  isplitr
  rotate_left
  · iexact H
  ipureintro
  refine ⟨fun m hm => ?_, hA, hS⟩
  have e : m ≠ ⟨r, hr⟩ := fun e => by subst e; exact absurd hm (Nat.not_succ_le_self r)
  rw [Function.update_of_ne e]
  exact hM m (by omega)

theorem acc_step {j l r d : ℕ} {hl : l < 2} {hr : r < 8} {hd : d < 32} (ed : d = j % 32) {K : BodyP F}
    (h : Diag c R I j ⟨l, hl⟩ 8 (r + 1) ⊢ WP c K Q) :
    Diag c R I j ⟨l, hl⟩ 8 r ⊢ WP c (accK R r d hr hd (alD I j ⟨r, hr⟩) (pD I j ⟨r, hr⟩) K) Q := by
  unfold Diag
  iintro ⟨%O, %M, %A, %S, %B, %hx, H⟩
  obtain ⟨hM, hA, hS⟩ := hx
  iapply (accK_wp ed ?_) $$ H
  refine .trans ?_ h
  unfold Diag
  iintro H
  iexists _, _, _, _, _
  isplitr
  rotate_left
  · iexact H
  ipureintro
  refine ⟨hM, fun m => ?_, hS⟩
  by_cases e : m = ⟨r, hr⟩
  · subst e
    rw [Function.update_self, if_pos (Nat.lt_succ_self r), hA, if_neg (Nat.lt_irrefl r)]
    rfl
  · rw [Function.update_of_ne e, hA]
    have : m.val ≠ r := fun e' => e (Fin.ext e')
    exact if_congr (by omega) rfl rfl

variable (c R I) in
/-- Every head's sums are complete. -/
def Sums (j : ℕ) : sProp (RM F) :=
  iprop(∃ (O : FO F) (M : FM F) (A : FA F) (S : FS F) (B : FB F),
    ⌜∀ m : Fin 8, A m = (endT I m j).2⌝ ∗ Own c R I O M A S B)

theorem diagK_wp {j l d : ℕ} {hl : l < 2} {hd : d < 32} (ed : d = j % 32) {K : BodyP F}
    (h : Sums c R I j ⊢ WP c K Q) :
    At c R I j ⟨l, hl⟩ ⊢ WP c (diagK R l d hl hd K) Q := by
  have e1 : At c R I j ⟨l, hl⟩ ⊢ Diag c R I j ⟨l, hl⟩ 0 0 := by
    unfold At Diag
    iintro ⟨%O, %M, %A, %S, %B, %h, H⟩
    iexists O, M, A, S, B
    isplitr
    · ipureintro
      exact ⟨fun m _ => h.1 m, fun m => h.2.1 m, fun m => (h.2.2 m).1⟩
    · iexact H
  refine e1.trans ?_
  unfold diagK
  refine mask_step <| mask_step <| mask_step <| mask_step <| mask_step <| mask_step <| mask_step <| mask_step <|
    acc_step ed <| acc_step ed <| acc_step ed <| acc_step ed <| acc_step ed <| acc_step ed <| acc_step ed <|
    acc_step ed <| .trans ?_ h
  unfold Sums Diag
  iintro ⟨%O, %M, %A, %S, %B, %h, H⟩
  iexists O, M, A, S, B
  isplitr
  · ipureintro
    exact fun m => by rw [h.2.1 m, if_pos m.isLt]
  · iexact H

/-! ### The quotients -/

variable (c R I) in
/-- The result's first `r` column blocks are complete. -/
def Outs (j r : ℕ) : sProp (RM F) :=
  iprop(∃ (O : FO F) (M : FM F) (A : FA F) (S : FS F) (B : FB F),
    ⌜(∀ m : Fin 8, A m = (endT I m j).2) ∧ ∀ x : Fin 4, x.val < r → O x = outT I j x⌝ ∗ Own c R I O M A S B)

theorem out_step {j r m0 m1 n : ℕ} {hr : r < 4} {h0 : m0 < 8} {h1 : m1 < 8}
    {hb : ∀ a, (![0, n] : Fin 2 → ℕ) a + S256x128.size a ≤ S256x512.size a}
    {hp : (Rect.unit (s := S256x512) ![0, n] S256x128.size hb).PackedRows (EltTy.packing .bf16)}
    (e0 : m0 = 2 * r) (e1 : m1 = 2 * r + 1) (e : n = 128 * r) {K : BodyP F}
    (h : Outs c R I j (r + 1) ⊢ WP c K Q) :
    Outs c R I j r ⊢ WP c (outK R m0 m1 n h0 h1 hb hp K) Q := by
  subst e0 e1
  unfold Outs
  iintro ⟨%O, %M, %A, %S, %B, %hx, H⟩
  obtain ⟨hA, hO⟩ := hx
  iapply (outK_wp ⟨r, hr⟩ e ?_) $$ H
  refine .trans ?_ h
  unfold Outs
  iintro H
  iexists _, _, _, _, _
  isplitr
  rotate_left
  · iexact H
  ipureintro
  refine ⟨hA, fun x hx => ?_⟩
  by_cases ex : x = ⟨r, hr⟩
  · subst ex
    rw [Function.update_self, hA, hA]
    rfl
  · rw [Function.update_of_ne ex]
    have : x.val ≠ r := fun e' => ex (Fin.ext e')
    exact hO x (by omega)

variable (c R I) in
/-- The body's end: the result's buffer holds the four column blocks. -/
def Fin4 (j : ℕ) : sProp (RM F) :=
  iprop(∃ (M : FM F) (A : FA F) (S : FS F) (B : FB F), Own c R I (outT I j) M A S B)

theorem outsK_wp {j : ℕ} (h : Fin4 c R I j ⊢ Q ⟨⟩) : Sums c R I j ⊢ WP c (outsK R) Q := by
  have e1 : Sums c R I j ⊢ Outs c R I j 0 := by
    unfold Sums Outs
    iintro ⟨%O, %M, %A, %S, %B, %h, H⟩
    iexists O, M, A, S, B
    isplitr
    · ipureintro
      exact ⟨h, fun x hx => absurd hx (Nat.not_lt_zero _)⟩
    · iexact H
  refine e1.trans ?_
  unfold outsK
  refine out_step (hr := by decide) rfl rfl rfl <| out_step (hr := by decide) rfl rfl rfl <|
    out_step (hr := by decide) rfl rfl rfl <| out_step (hr := by decide) rfl rfl rfl ?_
  unfold WP
  rw [wp_ret]
  have e2 : Outs c R I j 4 ⊢ Fin4 c R I j := by
    unfold Outs Fin4
    iintro ⟨%O, %M, %A, %S, %B, %h, H⟩
    obtain rfl : O = outT I j := funext fun x => h.2 x x.isLt
    iexists M, A, S, B
    iexact H
  iintro H
  imodintro
  iapply (e2.trans h) $$ H

/-! ### The counters -/

theorem row_at {iv : BitVec 32} {u : BitVec 32} {t w : ℕ} (ht : t < 8) (hw : w < 4)
    (ei : iv = BitVec.ofNat 32 t) (eu : u = BitVec.ofNat 32 w) :
    rowOf (Scalar.addi (Scalar.muli 4#32 iv) u) = 256 * (4 * t + w + 1)
      ∧ tileOf (Scalar.addi (Scalar.muli 4#32 iv) u) = 4 * t + w := by
  subst ei eu
  interval_cases t <;> interval_cases w <;> decide

theorem iv_at (t : ℕ) : Scf.iv 0#32 1#32 t = BitVec.ofNat 32 t := by
  simp [Scf.iv]

theorem i_lt (i : grid0.Coords) : (i 1).val < 32 := (i 1).isLt

theorem trips1 (i : grid0.Coords) : (k0_t1_loop i).trips = (i 1).val / 4 := by
  have h := i_lt i
  generalize hx : (i 1).val = x at h ⊢
  unfold k0_t1_loop
  simp only [hx]
  interval_cases x <;> decide

theorem trips2 (i : grid0.Coords) : (k0_t2_loop i).trips = 0 := by
  have h := i_lt i
  generalize hx : (i 1).val = x at h
  unfold k0_t2_loop
  simp only [hx]
  interval_cases x <;> decide

theorem conds (i : grid0.Coords) :
    (k0_cond1 i = 1#1 ↔ (i 1).val % 4 = 0) ∧ (k0_cond2 i = 1#1 ↔ (i 1).val % 4 = 1)
      ∧ (k0_cond3 i = 1#1 ↔ (i 1).val % 4 = 2) ∧ (k0_cond4 i = 1#1 ↔ (i 1).val % 4 = 3) := by
  have h := i_lt i
  generalize hx : (i 1).val = x at h ⊢
  unfold k0_cond1 k0_cond2 k0_cond3 k0_cond4
  simp only [hx]
  interval_cases x <;> decide

theorem diag_at (i : grid0.Coords) : diagOf i = (i 1).val := by
  have h := i_lt i
  unfold diagOf
  generalize (i 1).val = x at h ⊢
  interval_cases x <;> decide

theorem rem_at (i : grid0.Coords) {u : BitVec 32} {w : ℕ} (hw : w < (i 1).val % 4) (eu : u = BitVec.ofNat 32 w) :
    rowOf (Scalar.addi (remBase i) u) = 256 * (4 * ((i 1).val / 4) + w + 1)
      ∧ tileOf (Scalar.addi (remBase i) u) = 4 * ((i 1).val / 4) + w := by
  subst eu
  have h := i_lt i
  unfold remBase
  generalize (i 1).val = x at h hw ⊢
  interval_cases x <;> interval_cases w <;> decide

/-! ### The loops and what follows -/

theorem bind_wp {p : BodyP F} {k : PUnit → BodyP F} {P : sProp (RM F)} (h : P ⊢ WP c p fun a => WP c (k a) Q) :
    P ⊢ WP c (p.bind k) Q := by
  have := wp_bind frame (wpE (defs₀ (F := F)) Variants.none (c : Thread nD τ) none) (E := Set.univ) p k Q
  exact h.trans (Entails.of_eq this.symm)

theorem ret_wp {P : sProp (RM F)} (h : P ⊢ Q ⟨⟩) : P ⊢ WP c (.ret ⟨⟩ : BodyP F) Q := by
  unfold WP
  rw [wp_ret]
  iintro H; imodintro
  iapply h $$ H

theorem loop1_wp (i : grid0.Coords) {k : PUnit → BodyP F}
    (h : At c R I (4 * ((i 1).val / 4)) 0 ⊢ WP c (k ⟨⟩) Q) :
    At c R I 0 0 ⊢ WP c ((loop1K R i (qT I)).bind k) Q := by
  have h32 := i_lt i
  have ht := trips1 i
  unfold loop1K
  iintro H
  iapply (Scf.wp_for_bind frame (wpE (defs₀ (F := F)) Variants.none (c : Thread nD τ) none) Set.univ
    (k0_t1_loop i).lb (k0_t1_loop i).ub (k0_t1_loop i).st (k0_t1_ok i) (⟨⟩ : PUnit) _
    (fun t (_ : PUnit) => At c R I (4 * t) 0) ?_) $$ H
  · intro t acc
    have htr : t.val < (i 1).val / 4 := ht ▸ t.isLt
    have ha := fun (w : ℕ) (hw : w < 4) (u : BitVec 32) (e : u = BitVec.ofNat 32 w) =>
      row_at (t := t.val) (by omega) hw (iv_at t.val) e
    unfold tripK
    refine tileK_wp (by decide) ?_ ?_ <| tileK_wp (by decide) ?_ ?_ <| tileK_wp (by decide) ?_ ?_ <|
      tileK_wp (by decide) ?_ ?_ ?_
    · rw [(ha 0 (by decide) _ rfl).1]; omega
    · rw [(ha 0 (by decide) _ rfl).2]; omega
    · rw [(ha 1 (by decide) _ rfl).1]; omega
    · rw [(ha 1 (by decide) _ rfl).2]; omega
    · rw [(ha 2 (by decide) _ rfl).1]; omega
    · rw [(ha 2 (by decide) _ rfl).2]; omega
    · rw [(ha 3 (by decide) _ rfl).1]; omega
    · rw [(ha 3 (by decide) _ rfl).2]; omega
    · exact ret_wp .rfl
  · iintro %acc H
    have e : Scf.trips (k0_t1_loop i).lb (k0_t1_loop i).ub (k0_t1_loop i).st = (i 1).val / 4 := ht
    rw [e]
    iapply h $$ H

theorem loop2_wp (i : grid0.Coords) {k : PUnit → BodyP F} {P : sProp (RM F)} (h : P ⊢ WP c (k ⟨⟩) Q) :
    P ⊢ WP c ((loop2K R i (qT I)).bind k) Q := by
  have ht := trips2 i
  unfold loop2K
  iintro H
  iapply (Scf.wp_for_bind frame (wpE (defs₀ (F := F)) Variants.none (c : Thread nD τ) none) Set.univ
    (k0_t2_loop i).lb (k0_t2_loop i).ub (k0_t2_loop i).st (k0_t2_ok i) (⟨⟩ : PUnit) _
    (fun _ (_ : PUnit) => P) ?_) $$ H
  · intro t acc
    have : t.val < 0 := lt_of_lt_of_eq t.isLt ht
    exact absurd this (Nat.not_lt_zero _)
  · iintro %acc H
    iapply h $$ H

theorem tail_wp (i : grid0.Coords) (h : Fin4 c R I (i 1).val ⊢ Q ⟨⟩) :
    At c R I (4 * ((i 1).val / 4)) 0 ⊢ WP c (tailK R i (qT I)) Q := by
  have h32 := i_lt i
  obtain ⟨c1, c2, c3, c4⟩ := conds i
  have ho := outsK_wp (c := c) (R := R) h
  have hr := fun (w : ℕ) (hw : w < (i 1).val % 4) (u : BitVec 32) (e : u = BitVec.ofNat 32 w) => rem_at i hw e
  have hd := diag_at i
  rcases (by omega : (i 1).val % 4 = 0 ∨ (i 1).val % 4 = 1 ∨ (i 1).val % 4 = 2 ∨ (i 1).val % 4 = 3) with e | e | e | e
  · rw [tail_0 R i _ (c1.2 e) (fun x => by have := c2.1 x; omega) (fun x => by have := c3.1 x; omega)
      (fun x => by have := c4.1 x; omega)]
    refine bind_wp ?_
    have ej : 4 * ((i 1).val / 4) = (i 1).val := by omega
    rw [ej]
    unfold rem0K
    refine diagK_wp (by rw [hd]; omega) (ret_wp ho)
  · rw [tail_1 R i _ (fun x => by have := c1.1 x; omega) (c2.2 e) (fun x => by have := c3.1 x; omega)
      (fun x => by have := c4.1 x; omega)]
    refine bind_wp ?_
    unfold rem1K
    refine tileK_wp (by decide) (by rw [(hr 0 (by omega) _ rfl).1]; omega) (by rw [(hr 0 (by omega) _ rfl).2]; omega) ?_
    have ej : 4 * ((i 1).val / 4) + 1 = (i 1).val := by omega
    rw [ej]
    refine diagK_wp (by rw [hd]; omega) (ret_wp ho)
  · rw [tail_2 R i _ (fun x => by have := c1.1 x; omega) (fun x => by have := c2.1 x; omega) (c3.2 e)
      (fun x => by have := c4.1 x; omega)]
    refine bind_wp ?_
    unfold rem2K
    refine tileK_wp (by decide) (by rw [(hr 0 (by omega) _ rfl).1]; omega) (by rw [(hr 0 (by omega) _ rfl).2]; omega) ?_
    refine tileK_wp (by decide) (by rw [(hr 1 (by omega) _ rfl).1]; omega) (by rw [(hr 1 (by omega) _ rfl).2]; omega) ?_
    have ej : 4 * ((i 1).val / 4) + 1 + 1 = (i 1).val := by omega
    rw [ej]
    refine diagK_wp (by rw [hd]; omega) (ret_wp ho)
  · rw [tail_3 R i _ (fun x => by have := c1.1 x; omega) (fun x => by have := c2.1 x; omega)
      (fun x => by have := c3.1 x; omega) (c4.2 e)]
    refine bind_wp ?_
    unfold rem3K
    refine tileK_wp (by decide) (by rw [(hr 0 (by omega) _ rfl).1]; omega) (by rw [(hr 0 (by omega) _ rfl).2]; omega) ?_
    refine tileK_wp (by decide) (by rw [(hr 1 (by omega) _ rfl).1]; omega) (by rw [(hr 1 (by omega) _ rfl).2]; omega) ?_
    refine tileK_wp (by decide) (by rw [(hr 2 (by omega) _ rfl).1]; omega) (by rw [(hr 2 (by omega) _ rfl).2]; omega) ?_
    have ej : 4 * ((i 1).val / 4) + 1 + 1 + 1 = (i 1).val := by omega
    rw [ej]
    refine diagK_wp (by rw [hd]; omega) (ret_wp ho)

theorem qs_eq (I : Ins F) :
    (![qCast (window I.q ![0, 0, 0, 0] S1x1x256x128.size (inb_q (by decide))),
      qCast (window I.q ![0, 1, 0, 0] S1x1x256x128.size (inb_q (by decide))),
      qCast (window I.q ![0, 2, 0, 0] S1x1x256x128.size (inb_q (by decide))),
      qCast (window I.q ![0, 3, 0, 0] S1x1x256x128.size (inb_q (by decide))),
      qCast (window I.q ![0, 4, 0, 0] S1x1x256x128.size (inb_q (by decide))),
      qCast (window I.q ![0, 5, 0, 0] S1x1x256x128.size (inb_q (by decide))),
      qCast (window I.q ![0, 6, 0, 0] S1x1x256x128.size (inb_q (by decide))),
      qCast (window I.q ![0, 7, 0, 0] S1x1x256x128.size (inb_q (by decide)))] : Qs F) = qT I := by
  funext m; fin_cases m <;> rfl

theorem ldQ_wp {m : ℕ} {hm : m < 8} {O : FO F} {M : FM F} {A : FA F} {S : FS F} {B : FB F}
    {K : Vec F S1x1x256x128 .bf16 → BodyP F}
    (h : Own c R I O M A S B ⊢ WP c (K (window I.q ![0, m, 0, 0] S1x1x256x128.size (inb_q hm))) Q) :
    Own c R I O M A S B ⊢ WP c (ldQ R m hm K) Q := by
  unfold Own ldQ hasI
  iintro ⟨⟨Hq, Hk, Hv⟩, HO, HM, HA, HS, HB⟩
  iapply (owns_load c R.q) $$ Hq
  iintro Hq
  iapply h
  unfold Own hasI
  isplitl [Hq Hk Hv]
  · isplitl [Hq]; · iexact Hq
    isplitl [Hk]; · iexact Hk
    iexact Hv
  isplitl [HO]; · iexact HO
  isplitl [HM]; · iexact HM
  isplitl [HA]; · iexact HA
  isplitl [HS]; · iexact HS
  iexact HB

/-- The body, from any contents of the result's and the scratch buffers. -/
theorem bodyK_wp (i : grid0.Coords) {O : FO F} {M : FM F} {A : FA F} {S : FS F} {B : FB F}
    (h : Fin4 c R I (i 1).val ⊢ Q ⟨⟩) : Own c R I O M A S B ⊢ WP c (bodyK R i) Q := by
  unfold bodyK
  refine ldQ_wp <| ldQ_wp <| ldQ_wp <| ldQ_wp <| ldQ_wp <| ldQ_wp <| ldQ_wp <| ldQ_wp <| initK_wp ?_
  rw [qs_eq I]
  have e1 : Own c R I O (fun m => (runT I m 0).1) (fun m => (runT I m 0).2) S B ⊢ Start c R I 0 := by
    unfold Start
    iintro H
    iexists _, _, _, _, _
    isplitr
    rotate_left
    · iexact H
    ipureintro
    exact ⟨fun _ => rfl, fun _ => rfl, fun m hm => absurd hm (Nat.not_lt_zero _)⟩
  refine e1.trans (scoresK_wp ?_)
  rw [loopsK_eq]
  exact loop1_wp i (loop2_wp i (tail_wp i h))

end Cert.KernelIdeal

end
-- ==== Proof.KRun.lean ====
/-
  The run of the kernel's program: the body at every grid point, the pipeline around it, and what the final
  memory holds - the arguments as they were, the result's blocks as the body leaves them, every counter at zero.
-/
module

public import proofs.«01_k».proof.Proof.Body
public import Idealize.ShloMosaic.Lib.Pipeline.Frame

@[expose] public section

set_option maxRecDepth 16384
set_option synthInstance.maxHeartbeats 200000
set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Gen
open Idealize.ShloMosaic.Pipeline (Dat BodyObligation)

variable {F : FTy → Type} [FloatOps F] [Named F]

variable (m : (ℓ : Loc nD τ sig) → Buf (Elt F) ℓ) (ρ : Dev nD → PrngReg)

/-! ### The result's block -/

/-- The result's block of one grid point, of its four column blocks. -/
def outBlk (I : Ins F) (j : ℕ) : Vec F S256x512 .bf16 := fun y =>
  outT I j ⟨(y 1).val / 128, by have h : (y 1).val < 512 := (y 1).isLt; omega⟩
    (fun
      | ⟨0, _⟩ => ⟨(y 0).val, (y 0).isLt⟩
      | ⟨1, _⟩ => ⟨(y 1).val % 128, Nat.mod_lt _ (by decide)⟩)

theorem outBlk_of {I : Ins F} {j : ℕ} {f : Vec F S256x512 .bf16}
    (h : ∀ x : Fin 4, window f (offO x) S256x128.size (inb_o x) = outT I j x) : f = outBlk I j := by
  funext y
  unfold outBlk
  rw [← h]
  unfold window
  refine congrArg f (funext fun a => Fin.ext ?_)
  fin_cases a
  · show (y 0).val = 0 + 1 * (y 0).val
    omega
  · show (y 1).val = 128 * ((y 1).val / 128) + 1 * ((y 1).val % 128)
    omega

/-- The three input blocks at a grid point. -/
def insAt (c : Dev nD) (t : Fin cfg0.N) : Ins F where
  q := iblk m c 0 t
  k := iblk m c 1 t
  v := iblk m c 2 t

/-! ### The proof data -/

/-- Each input block stays; the result's block is the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (insAt m c t) ((grid0.coords t) 1).val
  Φ _ := Pipeline.ΦA spec0 c
  q _ := fullShare
  owed _ := 0

theorem A_eq (c : Dev nD) (w : Fin cfg0.W) : (dats m 0 c).A w = V m c (Pipeline.arrRef spec0 w) := by
  dsimp only [dats]

/-- The body's buffers at a grid point. -/
abbrev refsAt (t : Fin cfg0.N) : Refs :=
  ⟨st0_0 t, st0_1 t, st0_2 t, st0_3 t, Memref.whole cc0_scratch0, Memref.whole cc0_scratch1,
    Memref.whole cc0_scratch2, Memref.whole cc0_scratch3, hstage0_3 ((cfg0.slots t 3).cast nbuf0_3)⟩

theorem bodyAt_eq (t : Fin cfg0.N) : bodyAt0 (F := F) t = bodyK (refsAt t) (grid0.coords t) :=
  body_eq (F := F) (grid0.coords t) _ _ _ _ _ _ _ _ _ _ _ _ _ _ _ _

/-- The body at a grid point. -/
theorem body_run (c : Dev nD) (t : Fin cfg0.N) (I : Ins F) (Q : sProp (RM F)) :
    iprop((∃ f, owns (c : Thread nD τ) (Memref.whole cc0_scratch0) fullShare f)
      ∗ (∃ f, owns (c : Thread nD τ) (Memref.whole cc0_scratch1) fullShare f)
      ∗ (∃ f, owns (c : Thread nD τ) (Memref.whole cc0_scratch2) fullShare f)
      ∗ (∃ f, owns (c : Thread nD τ) (Memref.whole cc0_scratch3) fullShare f)
      ∗ hasI c (refsAt t) I ∗ (∃ f, owns (c : Thread nD τ) (st0_3 t) fullShare f)
      ∗ (((∃ f, owns (c : Thread nD τ) (Memref.whole cc0_scratch0) fullShare f)
          ∗ (∃ f, owns (c : Thread nD τ) (Memref.whole cc0_scratch1) fullShare f)
          ∗ (∃ f, owns (c : Thread nD τ) (Memref.whole cc0_scratch2) fullShare f)
          ∗ (∃ f, owns (c : Thread nD τ) (Memref.whole cc0_scratch3) fullShare f)
          ∗ hasI c (refsAt t) I
          ∗ owns (c : Thread nD τ) (st0_3 t) fullShare (outBlk I ((grid0.coords t) 1).val)) -∗ Q))
      ⊢ WP c (bodyAt0 t) fun _ => Q := by
  rw [bodyAt_eq]
  iintro ⟨⟨%f0, H0⟩, ⟨%f1, H1⟩, ⟨%f2, H2⟩, ⟨%f3, H3⟩, HI, ⟨%fo, HO⟩, Hk⟩
  have hb := bodyK_wp (c := c) (R := refsAt t) (I := I) (grid0.coords t)
    (O := fun i => window fo (offO i) _ (inb_o i)) (M := fun i => window f0 (offM i) _ (inb_m i.isLt))
    (A := fun i => window f1 (offM i) _ (inb_a i.isLt)) (S := fun p => window f2 (offS p) _ (inb_s p.1.isLt p.2.isLt))
    (B := fun p => window f3 (offS p) _ (inb_b p.1.isLt p.2.isLt))
    (Q := fun _ => Fin4 c (refsAt t) I ((grid0.coords t) 1).val) .rfl
  iapply (wp_wand_r frame (wpE (defs₀ (F := F)) Variants.none (c : Thread nD τ) none))
  isplitl [H0 H1 H2 H3 HI HO]
  · iapply hb
    unfold Own hasO hasM hasA hasS hasB
    isplitl [HI]; · iexact HI
    isplitl [HO]; · iapply (slots_intro c _ offO _ inb_o fo) $$ HO
    isplitl [H0]; · iapply (slots_intro c _ offM _ (fun i => inb_m i.isLt) f0) $$ H0
    isplitl [H1]; · iapply (slots_intro c _ offM _ (fun i => inb_a i.isLt) f1) $$ H1
    isplitl [H2]; · iapply (slots_intro c _ offS _ (fun p => inb_s p.1.isLt p.2.isLt) f2) $$ H2
    iapply (slots_intro c _ offS _ (fun p => inb_b p.1.isLt p.2.isLt) f3) $$ H3
  · iintro %_ H
    iapply Hk
    unfold Fin4 Own hasO hasM hasA hasS hasB slots
    icases H with ⟨%M, %A, %S, %B, HI, ⟨%go, %ho, HO⟩, ⟨%g0, -, H0⟩, ⟨%g1, -, H1⟩, ⟨%g2, -, H2⟩, ⟨%g3, -, H3⟩⟩
    isplitl [H0]; · iexists g0; iexact H0
    isplitl [H1]; · iexists g1; iexact H1
    isplitl [H2]; · iexists g2; iexact H2
    isplitl [H3]; · iexists g3; iexact H3
    isplitl [HI]; · iexact HI
    rw [outBlk_of ho]
    iexact HO

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp (RM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp (RM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_point (c : Dev nD) (t : Fin cfg0.N) :
    bodyPre m c t ⊢ WP c (bodyAt0 t) fun _ => bodyPost m c t := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  simp only [before0_0_of m (dats m 0 c) (A_eq m c 0) (fun _ => rfl), before0_1_of m (dats m 0 c) (A_eq m c 1) (fun _ => rfl),
    before0_2_of m (dats m 0 c) (A_eq m c 2) (fun _ => rfl)]
  unfold Pipeline.ΦA
  rw [scopedRest0_eq]
  simp only [← owns_whole]
  iintro ⟨⟨⟨H0, H1, H2, H3⟩, Hg⟩, Howe, ⟨%d0, Hq⟩, ⟨%d1, Hk⟩, ⟨%d2, Hv⟩, ⟨%d3, Ho⟩⟩
  iapply (body_run c t (insAt m c t) _)
  unfold hasI
  isplitl [H0]; · iexact H0
  isplitl [H1]; · iexact H1
  isplitl [H2]; · iexact H2
  isplitl [H3]; · iexact H3
  isplitl [Hq Hk Hv]
  · isplitl [Hq]; · iexact Hq
    isplitl [Hk]; · iexact Hk
    iexact Hv
  isplitl [Ho]; · iexists _; iexact Ho
  iintro ⟨H0, H1, H2, H3, ⟨Hq, Hk, Hv⟩, Ho⟩
  isplitl [H0 H1 H2 H3 Hg]
  · isplitl [H0 H1 H2 H3]
    · isplitl [H0]; · iexact H0
      isplitl [H1]; · iexact H1
      isplitl [H2]; · iexact H2
      iexact H3
    · iexact Hg
  isplitl [Howe]; · iexact Howe
  isplitl [Hq]; · iexact Hq
  isplitl [Hk]; · iexact Hk
  isplitl [Hv]; · iexact Hv
  iexact Ho

theorem body_obligation (c : Dev nD) :
    BodyObligation (dats (F := F) m 0 c) (defs₀ (F := F)) Variants.none () Set.univ := fun t => by
  rw [bigSep_W0, bigSep_W0, defs₀_row]
  exact body_point m c t

set_option backward.isDefEq.respectTransparency.types false in
/-- Every execution ends, with the windows' arrays as the proof data says, every other buffer as the host
    operations left it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := _) (hQ' := fun _ h => h)

/-- The arguments end unchanged and every counter ends at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩,
    h.2⟩) (run_main m ρ)

end Cert.KernelIdeal

end
-- ==== Proof.Soft.lean ====
/-
  The softmax average over a range of keys, on the extended reals: a form that does not depend on the number
  subtracted from the scores, and the online computation of it tile by tile.
-/
module

public import Idealize.ShloMosaic.PureOps.Ideal

@[expose] public section

noncomputable section

namespace Cert.Soft

open Idealize.ShloMosaic Finset

/-- Values averaged with weights `e`. -/
def avg (N : ℕ) (e : ℕ → ℝ) (v : ℕ → EReal) : EReal :=
  (∑ k ∈ range N, (e k : EReal) * v k) * (((∑ k ∈ range N, e k)⁻¹ : ℝ) : EReal)

/-- A nonnegative real factor goes into a sum. -/
theorem mul_sum (c : ℝ) (hc : 0 ≤ c) (N : Finset ℕ) (f : ℕ → EReal) :
    (c : EReal) * ∑ k ∈ N, f k = ∑ k ∈ N, (c : EReal) * f k := by
  classical
  induction N using Finset.induction_on with
  | empty => simp
  | insert a s ha ih =>
    rw [sum_insert ha, sum_insert ha, ← ih,
      EReal.left_distrib_of_nonneg_of_ne_top (by exact_mod_cast hc) (EReal.coe_ne_top c)]

theorem coe_sum (N : Finset ℕ) (f : ℕ → ℝ) : ((∑ k ∈ N, f k : ℝ) : EReal) = ∑ k ∈ N, (f k : EReal) := by
  classical
  induction N using Finset.induction_on with
  | empty => simp
  | insert a s ha ih => rw [sum_insert ha, sum_insert ha, EReal.coe_add, ih]

theorem div_real {y : ℝ} (h : y ≠ 0) (x : EReal) : Ideal.div x (y : EReal) = x * ((y⁻¹ : ℝ) : EReal) := by
  rw [Ideal.div_coe h, one_div]

/-- Sums first, one quotient last. -/
theorem quot_avg (N : ℕ) (e : ℕ → ℝ) (v : ℕ → EReal) (w : ℕ → EReal) (c : ℝ) (hc : 0 < c)
    (hS : 0 < ∑ k ∈ range N, e k) (hw : ∀ k < N, w k = ((c * e k : ℝ) : EReal)) :
    Ideal.div (∑ k ∈ range N, w k * v k) (∑ k ∈ range N, w k) = avg N e v := by
  have h1 : ∑ k ∈ range N, w k * v k = (c : EReal) * ∑ k ∈ range N, (e k : EReal) * v k := by
    rw [mul_sum c hc.le]
    refine sum_congr rfl fun k hk => ?_
    rw [hw k (mem_range.mp hk), EReal.coe_mul, mul_assoc]
  have h2 : ∑ k ∈ range N, w k = ((c * ∑ k ∈ range N, e k : ℝ) : EReal) := by
    rw [Finset.mul_sum, coe_sum]
    exact sum_congr rfl fun k hk => hw k (mem_range.mp hk)
  have h3 : c * ∑ k ∈ range N, e k ≠ 0 := (mul_pos hc hS).ne'
  rw [h1, h2, div_real h3, avg, mul_comm (c : EReal), mul_assoc, ← EReal.coe_mul]
  congr 2
  field_simp

/-- Each weight divided by the sum first. -/
theorem avg_quot (N : ℕ) (e : ℕ → ℝ) (v : ℕ → EReal) (w : ℕ → EReal) (c : ℝ) (hc : 0 < c) (he : ∀ k < N, 0 ≤ e k)
    (hS : 0 < ∑ k ∈ range N, e k) (hw : ∀ k < N, w k = ((c * e k : ℝ) : EReal)) :
    ∑ k ∈ range N, v k * Ideal.div (w k) (∑ k ∈ range N, w k) = avg N e v := by
  have h2 : ∑ k ∈ range N, w k = ((c * ∑ k ∈ range N, e k : ℝ) : EReal) := by
    rw [Finset.mul_sum, coe_sum]
    exact sum_congr rfl fun k hk => hw k (mem_range.mp hk)
  have h3 : c * ∑ k ∈ range N, e k ≠ 0 := (mul_pos hc hS).ne'
  rw [avg, mul_comm, mul_sum _ (inv_nonneg.mpr hS.le)]
  refine sum_congr rfl fun k hk => ?_
  rw [h2, div_real h3, hw k (mem_range.mp hk), ← EReal.coe_mul, mul_comm, ← mul_assoc, ← EReal.coe_mul]
  congr 2
  field_simp

/-- A score: −∞ of weight 0, or a real of weight a power of 2. -/
def Score (t : EReal) (e : ℝ) : Prop := (t = ⊥ ∧ e = 0) ∨ ∃ τ : ℝ, t = (τ : EReal) ∧ e = (2 : ℝ) ^ τ

theorem Score.nonneg {t : EReal} {e : ℝ} (h : Score t e) : 0 ≤ e := by
  rcases h with ⟨_, h⟩ | ⟨τ, _, h⟩ <;> rw [h]; positivity

theorem Score.ne_top {t : EReal} {e : ℝ} (h : Score t e) : t ≠ ⊤ := by
  rcases h with ⟨h, _⟩ | ⟨τ, h, _⟩ <;> rw [h] <;> simp

theorem Score.exp2 {t : EReal} {e : ℝ} (h : Score t e) (μ : ℝ) :
    Ideal.exp2 (t - (μ : EReal)) = (((2 : ℝ) ^ (-μ) * e : ℝ) : EReal) := by
  rcases h with ⟨h, h'⟩ | ⟨τ, h, h'⟩
  · rw [h, h', EReal.bot_sub, Ideal.exp2_bot]; simp
  · rw [h, h', ← EReal.coe_sub, Ideal.exp2_coe, mul_comm, ← Real.rpow_add (by norm_num), sub_eq_add_neg]
    rfl

/-- The greatest score so far. -/
def mx (t : ℕ → EReal) (N : ℕ) : EReal := (range N).sup t

theorem mx_real {t : ℕ → EReal} {N : ℕ} (h : ∀ k < N, t k ≠ ⊤) (h0 : ∃ k < N, t k ≠ ⊥) :
    ∃ μ : ℝ, mx t N = (μ : EReal) := by
  obtain ⟨k, hk, h0⟩ := h0
  have hb : mx t N ≠ ⊥ := fun e => h0 (le_bot_iff.mp (e ▸ le_sup (f := t) (mem_range.mpr hk)))
  have ht : mx t N ≠ ⊤ := by
    refine ne_of_lt ((Finset.sup_lt_iff (by simp)).mpr fun k hk => lt_top_iff_ne_top.mpr (h k (mem_range.mp hk)))
  exact ⟨(mx t N).toReal, (EReal.coe_toReal ht hb).symm⟩

/-- The running sum: every key's value times two to its score less the greatest. -/
def acc (t v : ℕ → EReal) (N : ℕ) : EReal := ∑ k ∈ range N, Ideal.exp2 (t k - mx t N) * v k

theorem mx_add (t : ℕ → EReal) (N n : ℕ) :
    mx t (N + n) = max (mx t N) ((range n).sup fun x => t (N + x)) := by
  unfold mx
  rw [range_add_eq_union, sup_union, sup_map]
  rfl

/-- One tile taken into the running sum. -/
theorem acc_add (t v : ℕ → EReal) (N n : ℕ) (h : ∀ k < N + n, t k ≠ ⊤) (h0 : ∃ k < N + n, t k ≠ ⊥)
    (e : ℕ → ℝ) (he : ∀ k < N + n, Score (t k) (e k)) :
    acc t v (N + n) = Ideal.exp2 (mx t N - mx t (N + n)) * acc t v N
      + ∑ x ∈ range n, Ideal.exp2 (t (N + x) - mx t (N + n)) * v (N + x) := by
  obtain ⟨μ', hμ'⟩ := mx_real h h0
  unfold acc
  rw [sum_range_add, hμ']
  congr 1
  by_cases hb : ∃ k < N, t k ≠ ⊥
  · obtain ⟨μ, hμ⟩ := mx_real (fun k hk => h k (by omega)) hb
    rw [hμ, ← EReal.coe_sub, Ideal.exp2_coe]
    rw [show Real.rpow 2 (μ - μ') = (2 : ℝ) ^ (μ - μ') from rfl, mul_sum _ (by positivity)]
    refine sum_congr rfl fun k hk => ?_
    have hs := he k (by have := mem_range.mp hk; omega)
    rw [hs.exp2, hs.exp2, ← mul_assoc, ← EReal.coe_mul]
    congr 2
    rw [← mul_assoc, ← Real.rpow_add (by norm_num)]
    ring_nf
  · have hb' : ∀ k < N, t k = ⊥ := fun k hk => by_contra fun hh => hb ⟨k, hk, hh⟩
    rw [sum_eq_zero fun k hk => ?_, sum_eq_zero fun k hk => ?_, mul_zero]
    · rw [hb' k (mem_range.mp hk), EReal.bot_sub, Ideal.exp2_bot, zero_mul]
    · rw [hb' k (mem_range.mp hk), EReal.bot_sub, Ideal.exp2_bot, zero_mul]

/-- The online quotient is the average. -/
theorem online_avg (t v : ℕ → EReal) (N : ℕ) (e : ℕ → ℝ) (he : ∀ k < N, Score (t k) (e k)) (h0 : ∃ k < N, t k ≠ ⊥) :
    Ideal.div (acc t v N) (acc t (fun _ => 1) N) = avg N e v := by
  obtain ⟨μ, hμ⟩ := mx_real (fun k hk => (he k hk).ne_top) h0
  have hS : 0 < ∑ k ∈ range N, e k := by
    obtain ⟨k, hk, h0⟩ := h0
    refine sum_pos' (fun k hk => (he k (mem_range.mp hk)).nonneg) ⟨k, mem_range.mpr hk, ?_⟩
    rcases he k hk with ⟨h, _⟩ | ⟨τ, _, h⟩
    · exact absurd h h0
    · rw [h]; positivity
  unfold acc
  simp only [mul_one, hμ]
  exact quot_avg N e v _ ((2 : ℝ) ^ (-μ)) (by positivity) hS fun k hk => (he k hk).exp2 μ

/-- The average of the kept keys does not see keys of weight 0. -/
theorem avg_extend (N n : ℕ) (e : ℕ → ℝ) (v : ℕ → EReal) (h : ∀ k, N ≤ k → k < N + n → e k = 0) :
    avg (N + n) e v = avg N e v := by
  unfold avg
  rw [sum_range_add, sum_range_add, sum_eq_zero (s := range n) fun k hk => ?_, sum_eq_zero (s := range n) fun k hk => ?_,
    add_zero, add_zero]
  · exact h _ (by omega) (by have := mem_range.mp hk; omega)
  · rw [h _ (by omega) (by have := mem_range.mp hk; omega)]; simp

/-- The host's softmax of natural scores `s`, each `ln 2` times a score of base 2. -/
theorem host_avg (s v : ℕ → EReal) (N : ℕ) (e : ℕ → ℝ)
    (he : ∀ k < N, (s k = ⊥ ∧ e k = 0) ∨ ∃ σ : ℝ, s k = (σ : EReal) ∧ e k = Real.exp σ) (h0 : ∃ k < N, s k ≠ ⊥) :
    ∑ k ∈ range N, v k * Ideal.div (Ideal.exp (s k - mx s N)) (∑ k ∈ range N, Ideal.exp (s k - mx s N)) = avg N e v := by
  have ht : ∀ k < N, s k ≠ ⊤ := fun k hk => by
    rcases he k hk with ⟨h, _⟩ | ⟨σ, h, _⟩ <;> rw [h] <;> simp
  have hn : ∀ k < N, 0 ≤ e k := fun k hk => by
    rcases he k hk with ⟨_, h⟩ | ⟨σ, _, h⟩ <;> rw [h]; positivity
  obtain ⟨μ, hμ⟩ := mx_real ht h0
  have hS : 0 < ∑ k ∈ range N, e k := by
    obtain ⟨k, hk, h0⟩ := h0
    refine sum_pos' (fun k hk => hn k (mem_range.mp hk)) ⟨k, mem_range.mpr hk, ?_⟩
    rcases he k hk with ⟨h, _⟩ | ⟨τ, _, h⟩
    · exact absurd h h0
    · rw [h]; positivity
  simp only [hμ]
  refine avg_quot N e v _ (Real.exp (-μ)) (by positivity) hn hS fun k hk => ?_
  rcases he k hk with ⟨h, h'⟩ | ⟨σ, h, h'⟩
  · rw [h, h', EReal.bot_sub, Ideal.exp_bot]; simp
  · rw [h, h', ← EReal.coe_sub, Ideal.exp_coe, ← Real.exp_add, sub_eq_neg_add]

end Cert.Soft

end
-- ==== Proof.HostK.lean ====
/-
  The call's three operands, of the arguments, at an entry.
-/
module

public import proofs.«01_k».proof.Proof.KRun
public import proofs.«01_k».proof.Proof.Soft
public import Idealize.ShloMosaic.Lib.Pointwise

@[expose] public section

set_option maxRecDepth 16384

noncomputable section

namespace Cert.KernelIdeal.HostRead

open Idealize.ShloMosaic Idealize.ShloMosaic.TcCoe Cert.Soft Finset
open Cert.KernelIdeal Cert.KernelIdeal.Gen

variable {F : FTy → Type} [FloatOps F]

/-- The padding columns. -/
def pad : FVec F S4x8192x8x32 .f32 := broadcastInDim S4x8192x8x32 ![] bcast_S_S4x8192x8x32 (constant S_ .f32 0x00000000#32)

/-- Two parts and the padding, side by side. -/
def beside (a : FVec F S4x8192x8x64 .f32) (b : FVec F S4x8192x8x32 .f32) : FVec F S4x8192x8x128 .f32 :=
  concatenate S4x8192x8x128 3 [⟨S4x8192x8x64, a⟩, ⟨S4x8192x8x32, b⟩, ⟨S4x8192x8x32, pad⟩] concatenates_S4x8192x8x64_S4x8192x8x32_S4x8192x8x32_S4x8192x8x128_d3

/-- The queries, scaled. -/
def qScaled (x : FVec F S4x8192x8x128 .f32) : FVec F S4x8192x8x128 .f32 :=
  Host.divf (mulf x (broadcastInDim S4x8192x8x128 ![] bcast_S_S4x8192x8x128 (constant S_ .f32 0x3DD105EC#32)))
    (broadcastInDim S4x8192x8x128 ![] bcast_S_S4x8192x8x128 (Host.log (constant S_ .f32 0x40000000#32)))

/-- The shared rotary keys, one copy a head. -/
def krCopies (kr : FVec F S4x8192x32 .f32) : FVec F S4x8192x8x32 .f32 :=
  broadcastInDim S4x8192x8x32 ![0, 1, 2, 3] bcast_S4x8192x1x32_S4x8192x8x32_0_1_2_3 (broadcastInDim S4x8192x1x32 ![0, 1, 3] bcast_S4x8192x32_S4x8192x1x32_0_1_3 kr)

/-- Heads before positions. -/
def heads (x : FVec F S4x8192x8x128 .f32) : FVec F S4x8x8192x128 .bf16 :=
  truncf .bf16 (transpose S4x8x8192x128 [0, 2, 1, 3] x transposes_S4x8192x8x128_S4x8x8192x128_0_2_1_3) bitsLt_bf16_f32

/-- The values: pairs of heads, tiles of keys. -/
def tiles (v : FVec F S4x8192x8x64 .f32) : FVec F S4x4x32x128x256 .bf16 :=
  truncf .bf16 (transpose S4x4x32x128x256 [0, 3, 1, 4, 2] (shapeCast S4x32x256x4x128 v shapeCasts_S4x8192x8x64_S4x32x256x4x128) transposes_S4x32x256x4x128_S4x4x32x128x256_0_3_1_4_2) bitsLt_bf16_f32

variable (m : (ℓ : Loc nD τ sig) → Buf (Elt F) ℓ) (c : Dev nD)

theorem V_q : V m c main_v11 = heads (F := F) (qScaled (beside (m ((c : Thread nD τ).loc main_arg0)) (m ((c : Thread nD τ).loc main_arg1)))) := by
  rfl

theorem V_k : V m c main_v13 = heads (F := F) (beside (m ((c : Thread nD τ).loc main_arg2)) (krCopies (m ((c : Thread nD τ).loc main_arg3)))) := by
  rfl

theorem V_v : V m c main_v16 = tiles (F := F) (m ((c : Thread nD τ).loc main_arg4)) := by
  rfl

theorem pad_at (b : Fin 4) (s : Fin 8192) (h : Fin 8) (x : Fin 32) : pad (F := Ideal) (ix4 b s h x) = 0 := by
  pointwise [pad]

theorem beside_at (x : FVec Ideal S4x8192x8x64 .f32) (y : FVec Ideal S4x8192x8x32 .f32) (b : Fin 4) (s : Fin 8192) (h : Fin 8) (d : Fin 128) :
    beside x y (ix4 b s h d) = if h1 : d.val < 64 then x (ix4 b s h ⟨d.val, h1⟩)
      else if h2 : d.val - 64 < 32 then y (ix4 b s h ⟨d.val - 64, h2⟩) else 0 := by
  pointwise [beside, pad]

theorem qScaled_at (x : FVec Ideal S4x8192x8x128 .f32) (b : Fin 4) (s : Fin 8192) (h : Fin 8) (d : Fin 128) :
    qScaled x (ix4 b s h d) = Ideal.div (x (ix4 b s h d) * Ideal.ofBits .f32 0x3DD105EC#32) (Ideal.log (Ideal.ofBits .f32 0x40000000#32)) := by
  pointwise [qScaled]

theorem krCopies_at (x : FVec Ideal S4x8192x32 .f32) (b : Fin 4) (s : Fin 8192) (h : Fin 8) (d : Fin 32) :
    krCopies x (ix4 b s h d) = x (ix3 b s d) := by
  pointwise [krCopies]

theorem heads_at (x : FVec Ideal S4x8192x8x128 .f32) (b : Fin 4) (s : Fin 8192) (h : Fin 8) (d : Fin 128) :
    heads x (ix4 b h s d) = x (ix4 b s h d) := by
  pointwise [heads]

theorem tiles_at (x : FVec Ideal S4x8192x8x64 .f32) (b : Fin 4) (p : Fin 4) (i : Fin 32) (l : Fin 128) (r : Fin 256) :
    tiles x (ix5 b p i l r) = x (ix4 b ⟨i.val * 256 + r.val, by omega⟩ ⟨p.val * 2 + l.val / 64, by omega⟩ ⟨l.val % 64, by omega⟩) := by
  pointwise [tiles]

end Cert.KernelIdeal.HostRead

end
-- ==== Proof.Pure.lean ====
/-
  One tile's arithmetic read at an entry, on the extended reals.
-/
module

public import proofs.«01_k».proof.Proof.Frags
public import proofs.«01_k».proof.Proof.Gen.KernelIdeal
public import Idealize.ShloMosaic.Lib.Pointwise

@[expose] public section

set_option maxRecDepth 16384

noncomputable section

namespace Cert.KernelIdeal.Pure

open Idealize.ShloMosaic
open VecWindow (window put)
open Cert.KernelIdeal Facts₀ Facts

variable [Cert.KernelIdeal.Facts]

theorem neg_inf : Ideal.ofBits .f32 0xFF800000#32 = ⊥ := by simp [Ideal.ofBits, Ideal.ieee]

theorem sMat_at (k : Vec Ideal S1x1x256x128 .bf16) (q : FVec Ideal S256x128 .bf16) (x r : Fin 256) :
    sMat k q (ix2 x r) = ∑ c : Fin 128, k (ix4 0 0 x c) * q (ix2 r c) := by
  pointwise [sMat]

theorem colMax_at (s : FVec Ideal S256x256 .f32) (r : Fin 256) :
    colMax s (ix2 0 r) = Finset.univ.fold max ⊥ fun x : Fin 256 => s (ix2 x r) := by
  pointwise [colMax, neg_inf]

theorem accOf_at (v : Vec Ideal S1x1x1x64x256 .bf16) (al : FVec Ideal S1x256 .f32) (p : FVec Ideal S256x256 .bf16)
    (a : Vec Ideal S1x80x256 .f32) (d : Fin 80) (r : Fin 256) :
    accOf v al p a (ix3 0 d r) = al (ix2 0 r) * a (ix3 0 d r)
      + ∑ x : Fin 256, (if h : d.val < 64 then v (ix5 0 0 0 ⟨d.val, h⟩ x) else 1) * p (ix2 x r) := by
  pointwise [accOf, ones16]

theorem alphaOf_at (mo mn : FVec Ideal S1x256 .f32) (r : Fin 256) :
    alphaOf mo mn (ix2 0 r) = Ideal.exp2 (mo (ix2 0 r) - mn (ix2 0 r)) := by
  pointwise [alphaOf]
  rfl

theorem pOf_at (s : FVec Ideal S256x256 .f32) (mn : FVec Ideal S1x256 .f32) (x r : Fin 256) :
    pOf s mn (ix2 x r) = Ideal.exp2 (s (ix2 x r) - mn (ix2 0 r)) := by
  pointwise [pOf]
  rfl

theorem mCast_at (a : Vec Ideal S1x1x256 .f32) (r : Fin 256) : mCast a (ix2 0 r) = a (ix3 0 0 r) := by
  pointwise [mCast]

theorem mBack_at (a : FVec Ideal S1x256 .f32) (r : Fin 256) : mBack a (ix3 0 0 r) = a (ix2 0 r) := by
  pointwise [mBack]

theorem sCast_at (s : Vec Ideal S1x1x256x256 .f32) (x r : Fin 256) : sCast s (ix2 x r) = s (ix4 0 0 x r) := by
  pointwise [sCast]

theorem mNew_at (mo : Vec Ideal S1x1x256 .f32) (b : Vec Ideal S1x1x1x256 .f32) (r : Fin 256) :
    mNew mo b (ix2 0 r) = max (mo (ix3 0 0 r)) (b (ix4 0 0 0 r)) := by
  pointwise [mNew, mCast]

theorem mNewM_at (mo : Vec Ideal S1x1x256 .f32) (s : FVec Ideal S256x256 .f32) (r : Fin 256) :
    mNewM mo s (ix2 0 r) = max (mo (ix3 0 0 r)) (colMax s (ix2 0 r)) := by
  pointwise [mNewM, mCast]

theorem quot_at (x : Vec Ideal S1x64x256 .f32) (y : Vec Ideal S1x1x256 .f32) (d : Fin 64) (r : Fin 256) :
    quot x y (ix2 d r) = Ideal.div (x (ix3 0 d r)) (y (ix3 0 0 r)) := by
  pointwise [quot, mCast]

theorem outOf_at (x0 x1 : FVec Ideal S64x256 .f32) (r : Fin 256) (l : Fin 128) :
    outOf x0 x1 (ix2 r l) = if h : l.val < 64 then x0 (ix2 ⟨l.val, h⟩ r) else x1 (ix2 ⟨l.val - 64, by omega⟩ r) := by
  pointwise [outOf]

theorem qT_at (I : Ins Ideal) (m : Fin 8) (r : Fin 256) (c : Fin 128) :
    qT I m (ix2 r c) = I.q (ix4 0 m r c) := by
  pointwise [qT, qCast]
  refine congrArg I.q (funext fun a => Fin.ext ?_)
  fin_cases a <;> simp [Rect.unit, Rect.emb, ix4, ix5]

theorem kT_at (I : Ins Ideal) (j : ℕ) (m : Fin 8) (x : Fin 256) (c : Fin 128) :
    kT I j m (ix4 0 0 x c) = I.k (ix4 0 m ⟨256 * (j % 32) + x.val, by omega⟩ c) := by
  unfold kT
  refine congrArg I.k (funext fun a => Fin.ext ?_)
  fin_cases a <;> simp [Rect.unit, Rect.emb, ix4, ix5]

theorem vT_at (I : Ins Ideal) (j : ℕ) (m : Fin 8) (d : Fin 64) (x : Fin 256) :
    vT I j m (ix5 0 0 0 d x) = I.v (ix5 0 ⟨m.val / 2, by omega⟩ ⟨j % 32, by omega⟩ ⟨64 * (m.val % 2) + d.val, by omega⟩ x) := by
  unfold vT
  refine congrArg I.v (funext fun a => Fin.ext ?_)
  fin_cases a <;> simp [Rect.unit, Rect.emb, ix4, ix5]

theorem initM_at (m : Fin 8) (r : Fin 256) : (initM (F := Ideal)) (ix3 m 0 r) = ⊥ := by
  pointwise [initM]
  rfl

theorem initA_at (m : Fin 8) (d : Fin 80) (r : Fin 256) : (initA (F := Ideal)) (ix3 m d r) = 0 := by
  pointwise [initA]

/-- A position's chunk, as a word. -/
def chunkW (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem chunkW_eq : ∀ x : Fin 256, chunkW x.val = BitVec.ofNat 32 (x.val / 64) := by decide +kernel

theorem sle_nat (a b : ℕ) (ha : a < 2 ^ 31) (hb : b < 2 ^ 31) :
    IntOp.cmpi .sle (BitVec.ofNat 32 a) (BitVec.ofNat 32 b) = BitVec.ofBool (decide (a ≤ b)) := by
  have h1 : (BitVec.ofNat 32 a).toInt = a := by
    have e : (BitVec.ofNat 32 a).toNat = a := by rw [BitVec.toNat_ofNat]; omega
    rw [BitVec.toInt_eq_toNat_cond, e]; split <;> omega
  have h2 : (BitVec.ofNat 32 b).toInt = b := by
    have e : (BitVec.ofNat 32 b).toNat = b := by rw [BitVec.toNat_ofNat]; omega
    rw [BitVec.toInt_eq_toNat_cond, e]; split <;> omega
  show BitVec.ofBool (BitVec.sle _ _) = _
  rw [BitVec.sle, h1, h2]
  simp

theorem maskOf_at (x r : Fin 256) : maskOf (ix2 x r) = BitVec.ofBool (decide (x.val / 64 ≤ r.val / 64)) := by
  pointwise [maskOf, chunkOf]
  show IntOp.cmpi .sle (chunkW x.val) (chunkW r.val) = _
  rw [chunkW_eq x, chunkW_eq r, sle_nat _ _ (by omega) (by omega)]

theorem sMask_at (s : Vec Ideal S1x1x256x256 .f32) (x r : Fin 256) :
    sMask s (ix2 x r) = if x.val / 64 ≤ r.val / 64 then s (ix4 0 0 x r) else ⊥ := by
  pointwise [sMask, maskOf_at, sCast]
  rfl

end Cert.KernelIdeal.Pure

end
-- ==== Proof.Tile.lean ====
/-
  A head's running maximum and sums over the key tiles, and its quotients, as softmax averages.
-/
module

public import proofs.«01_k».proof.Proof.Pure
public import proofs.«01_k».proof.Proof.Soft

@[expose] public section

set_option maxRecDepth 16384

noncomputable section

namespace Cert.KernelIdeal.Pure

open Idealize.ShloMosaic
open VecWindow (window put)
open Cert.KernelIdeal Facts₀ Facts Cert.Soft Finset

variable [Cert.KernelIdeal.Facts]

/-- Key `s`'s score against query `r`. -/
def tI (I : Ins Ideal) (m : Fin 8) (r : Fin 256) (s : ℕ) : EReal :=
  ∑ c : Fin 128, I.k (ix4 0 m ⟨s % 8192, by omega⟩ c) * I.q (ix4 0 m r c)

/-- The score kept for query `r` of query tile `j`: of keys in later chunks −∞. -/
def tD (I : Ins Ideal) (m : Fin 8) (j : ℕ) (r : Fin 256) (s : ℕ) : EReal :=
  if s / 64 ≤ (256 * j + r.val) / 64 then tI I m r s else ⊥

/-- Row `d` of the values with a row of ones under them. -/
def vI (I : Ins Ideal) (m : Fin 8) (d : ℕ) (s : ℕ) : EReal :=
  if h : d < 64 then I.v (ix5 0 ⟨m.val / 2, by omega⟩ ⟨s / 256 % 32, by omega⟩ ⟨64 * (m.val % 2) + d, by omega⟩ ⟨s % 256, by omega⟩)
  else 1

theorem fold_sup (f : ℕ → EReal) (n : ℕ) :
    (Finset.univ.fold max ⊥ fun x : Fin n => f x.val) = (range n).sup f := by
  show Finset.univ.sup (fun x : Fin n => f x.val) = _
  apply le_antisymm
  · exact Finset.sup_le fun x _ => le_sup (f := f) (mem_range.mpr x.isLt)
  · exact Finset.sup_le fun x hx => le_sup (f := fun x : Fin n => f x.val) (mem_univ ⟨x, mem_range.mp hx⟩)

variable (I : Ins Ideal) (m : Fin 8)

theorem score_at (i : ℕ) (hi : i < 32) (x r : Fin 256) :
    sMat (kT I i m) (qT I m) (ix2 x r) = tI I m r (256 * i + x.val) := by
  rw [sMat_at]
  unfold tI
  refine sum_congr rfl fun c _ => ?_
  rw [kT_at, qT_at]
  have e : 256 * (i % 32) + x.val = (256 * i + x.val) % 8192 := by omega
  congr 3
  exact Fin.ext e

theorem value_at (i : ℕ) (hi : i < 32) (d : Fin 80) (x : Fin 256) :
    (if h : d.val < 64 then vT I i m (ix5 0 0 0 ⟨d.val, h⟩ x) else 1) = vI I m d.val (256 * i + x.val) := by
  unfold vI
  split
  · rw [vT_at]
    have e1 : i % 32 = (256 * i + x.val) / 256 % 32 := by omega
    have e2 : x.val = (256 * i + x.val) % 256 := by omega
    have e1' : (⟨i % 32, by omega⟩ : Fin 32) = ⟨(256 * i + x.val) / 256 % 32, by omega⟩ := Fin.ext e1
    have e2' : x = (⟨(256 * i + x.val) % 256, by omega⟩ : Fin 256) := Fin.ext e2
    rw [← e1', ← e2']
  · rfl

theorem sT_at (i : ℕ) (hi : i < 32) (x r : Fin 256) : sT I i m (ix4 0 0 x r) = tI I m r (256 * i + x.val) := by
  rw [← score_at I m i hi]
  unfold sT
  pointwise

theorem bT_at (i : ℕ) (hi : i < 32) (r : Fin 256) :
    bT I i m (ix4 0 0 0 r) = (range 256).sup fun x => tI I m r (256 * i + x) := by
  rw [← fold_sup]
  have : bT I i m (ix4 0 0 0 r) = colMax (sMat (kT I i m) (qT I m)) (ix2 0 r) := by
    unfold bT
    pointwise
  rw [this, colMax_at]
  simp only [score_at I m i hi]

theorem run_zero (r : Fin 256) (d : Fin 80) :
    (runT I m 0).1 (ix3 0 0 r) = ⊥ ∧ (runT I m 0).2 (ix3 0 d r) = 0 := by
  constructor
  · rw [← initM_at m r]
    show window initM ![m.val, 0, 0] S1x1x256.size (inb_m m.isLt) (ix3 0 0 r) = _
    unfold window
    refine congrArg initM (funext fun a => Fin.ext ?_)
    fin_cases a <;> simp [Rect.unit, Rect.emb, ix3]
  · rw [← initA_at m d r]
    show window initA ![m.val, 0, 0] S1x80x256.size (inb_a m.isLt) (ix3 0 d r) = _
    unfold window
    refine congrArg initA (funext fun a => Fin.ext ?_)
    fin_cases a <;> simp [Rect.unit, Rect.emb, ix3]

variable (j : ℕ) (r : Fin 256) (e : ℕ → ℝ)

theorem tD_low {s : ℕ} (h : s < 256 * j) : tD I m j r s = tI I m r s := if_pos (by omega)

theorem run_at (hj : j < 32) (he : ∀ k, Score (tD I m j r k) (e k)) (h0 : tD I m j r 0 ≠ ⊥) :
    ∀ i ≤ j, (runT I m i).1 (ix3 0 0 r) = mx (tD I m j r) (256 * i)
      ∧ ∀ d : Fin 80, (runT I m i).2 (ix3 0 d r) = acc (tD I m j r) (vI I m d.val) (256 * i) := by
  intro i hi
  induction i with
  | zero =>
    refine ⟨(run_zero I m r 0).1.trans ?_, fun d => (run_zero I m r d).2.trans ?_⟩
    · simp [mx]
    · simp [acc]
  | succ i ih =>
    obtain ⟨hM, hA⟩ := ih (by omega)
    have hi' : i < 32 := by omega
    have hN : mNew (runT I m i).1 (bT I i m) (ix2 0 r) = mx (tD I m j r) (256 * (i + 1)) := by
      rw [mNew_at, hM, bT_at I m i hi', show 256 * (i + 1) = 256 * i + 256 by ring, mx_add]
      congr 1
      refine sup_congr rfl fun x hx => (tD_low I m j r ?_).symm
      have := mem_range.mp hx
      omega
    refine ⟨?_, fun d => ?_⟩
    · show mBack (mNew (runT I m i).1 (bT I i m)) (ix3 0 0 r) = _
      rw [mBack_at, hN]
    · show accOf (vT I i m) (alphaOf (mCast (runT I m i).1) (mNew (runT I m i).1 (bT I i m)))
        (pOf (sCast (sT I i m)) (mNew (runT I m i).1 (bT I i m))) (runT I m i).2 (ix3 0 d r) = _
      rw [accOf_at, alphaOf_at, mCast_at, hM, hN, hA, show 256 * (i + 1) = 256 * i + 256 by ring,
        acc_add _ _ _ _ (fun k _ => (he k).ne_top) ⟨0, by omega, h0⟩ e fun k _ => he k, Finset.sum_range]
      congr 1
      refine sum_congr rfl fun x _ => ?_
      rw [value_at I m i hi', pOf_at, hN, sCast_at, sT_at I m i hi', mul_comm,
        tD_low I m j r (s := 256 * i + x.val) (by omega), show 256 * (i + 1) = 256 * i + 256 by ring]

theorem end_at (hj : j < 32) (he : ∀ k, Score (tD I m j r k) (e k)) (h0 : tD I m j r 0 ≠ ⊥) (d : Fin 80) :
    (endT I m j).2 (ix3 0 d r) = acc (tD I m j r) (vI I m d.val) (256 * j + 256) := by
  obtain ⟨hM, hA⟩ := run_at I m j r e hj he h0 j le_rfl
  have hs : ∀ x : Fin 256, sMask (sT I j m) (ix2 x r) = tD I m j r (256 * j + x.val) := fun x => by
    rw [sMask_at, sT_at I m j hj]
    unfold tD
    have : x.val / 64 ≤ r.val / 64 ↔ (256 * j + x.val) / 64 ≤ (256 * j + r.val) / 64 := by omega
    simp only [this]
  have hN : mNewM (runT I m j).1 (sMask (sT I j m)) (ix2 0 r) = mx (tD I m j r) (256 * j + 256) := by
    rw [mNewM_at, hM, colMax_at, mx_add, ← fold_sup]
    simp only [hs]
  show accOf _ _ _ _ (ix3 0 d r) = _
  rw [accOf_at, alphaOf_at, mCast_at, hM, hN, hA,
    acc_add _ _ _ _ (fun k _ => (he k).ne_top) ⟨0, by omega, h0⟩ e fun k _ => he k, Finset.sum_range]
  congr 1
  refine sum_congr rfl fun x _ => ?_
  rw [value_at I m j hj, pOf_at, hN, hs, mul_comm]

/-- A head's quotients are the averages of the values over all keys. -/
theorem quot_end (hj : j < 32) (he : ∀ k, Score (tD I m j r k) (e k)) (h0 : tD I m j r 0 ≠ ⊥) (d : Fin 64) :
    quotT (endT I m j).2 (ix2 d r) = avg 8192 e (vI I m d.val) := by
  have h1 : ∀ a : Vec Ideal S1x80x256 .f32, quotT a (ix2 d r)
      = Ideal.div (a (ix3 0 ⟨d.val, by omega⟩ r)) (a (ix3 0 ⟨64, by omega⟩ r)) := fun a => by
    unfold quotT
    rw [quot_at]
    congr 1
    · refine congrArg a (funext fun a => Fin.ext ?_)
      fin_cases a <;> simp [Rect.unit, Rect.emb, ix3]
    · refine congrArg a (funext fun a => Fin.ext ?_)
      fin_cases a <;> simp [Rect.unit, Rect.emb, ix3]
  rw [h1, end_at I m j r e hj he h0, end_at I m j r e hj he h0]
  have h64 : vI I m 64 = fun _ => 1 := by
    funext s
    exact dif_neg (by omega)
  show Ideal.div (acc _ (vI I m d.val) _) (acc _ (vI I m 64) _) = _
  rw [h64, online_avg _ _ _ e (fun k _ => he k) ⟨0, by omega, h0⟩]
  have h : 8192 = (256 * j + 256) + (8192 - (256 * j + 256)) := by omega
  rw [h, avg_extend (256 * j + 256)]
  intro k hk _
  rcases he k with ⟨_, h⟩ | ⟨τ, h, _⟩
  · exact h
  · rw [tD, if_neg (by omega)] at h
    exact absurd h (by simp)

end Cert.KernelIdeal.Pure

end
-- ==== Proof.Weights.lean ====
/-
  The attention's weights, of real queries and keys.
-/
module

public import proofs.«01_k».proof.Proof.Soft

@[expose] public section

noncomputable section

namespace Cert.Mla

open Idealize.ShloMosaic Cert.Soft Finset

/-- The queries and the keys, as real numbers. -/
structure Reals where
  qn : Fin 4 → Fin 8192 → Fin 8 → Fin 64 → ℝ
  qr : Fin 4 → Fin 8192 → Fin 8 → Fin 32 → ℝ
  kn : Fin 4 → Fin 8192 → Fin 8 → Fin 64 → ℝ
  kr : Fin 4 → Fin 8192 → Fin 32 → ℝ

/-- Position `k`, of all. -/
def pos (k : ℕ) : Fin 8192 := ⟨k % 8192, by omega⟩

variable (X : Reals) (S : ℝ)

/-- Key `k`'s score against query `s`. -/
def score (b : Fin 4) (h : Fin 8) (s : Fin 8192) (k : ℕ) : ℝ :=
  ((∑ c : Fin 64, X.qn b s h c * X.kn b (pos k) h c) + ∑ c : Fin 32, X.kr b (pos k) c * X.qr b s h c) * S

/-- Key `k`'s weight: none in a chunk after the query's. -/
def wt (b : Fin 4) (h : Fin 8) (s : Fin 8192) (k : ℕ) : ℝ :=
  if k / 64 ≤ s.val / 64 then Real.exp (score X S b h s k) else 0

/-- The attention's output. -/
def att (v : Fin 4 → Fin 8192 → Fin 8 → Fin 64 → EReal) (b : Fin 4) (h : Fin 8) (s : Fin 8192) (d : Fin 64) : EReal :=
  avg 8192 (wt X S b h s) fun k => v b (pos k) h d

theorem scale_real : ∃ S : ℝ, Ideal.ofBits .f32 0x3DD105EC#32 = (S : EReal) := by
  simp [Ideal.ofBits, Ideal.ieee]
  exact ⟨_, (EReal.coe_mul _ _).symm⟩

theorem two : Ideal.ofBits .f32 0x40000000#32 = ((2 : ℝ) : EReal) := by
  simp [Ideal.ofBits, Ideal.ieee]
  rw [← EReal.coe_mul]
  norm_num

theorem log_two : Ideal.log (Ideal.ofBits .f32 0x40000000#32) = (Real.log 2 : EReal) := by
  rw [two]
  show (if (2 : ℝ) ≤ 0 then (⊥ : EReal) else (Real.log 2 : EReal)) = _
  rw [if_neg (by norm_num)]

theorem sum128 (f : Fin 128 → ℝ) : ∑ c, f c = (∑ c : Fin 64, f ⟨c.val, by omega⟩)
    + ((∑ c : Fin 32, f ⟨64 + c.val, by omega⟩) + ∑ c : Fin 32, f ⟨96 + c.val, by omega⟩) := by
  rw [show (∑ c, f c) = ∑ c : Fin (64 + (32 + 32)), f c from rfl, Fin.sum_univ_add, Fin.sum_univ_add]
  refine congrArg₂ _ rfl (congrArg₂ _ rfl (sum_congr rfl fun c _ => congrArg f (Fin.ext ?_)))
  show 64 + (32 + c.val) = 96 + c.val
  omega

theorem coe_sum_fin {n : ℕ} (f : Fin n → ℝ) : ((∑ k, f k : ℝ) : EReal) = ∑ k, (f k : EReal) := by
  classical
  have : ∀ N : Finset (Fin n), ((∑ k ∈ N, f k : ℝ) : EReal) = ∑ k ∈ N, (f k : EReal) := fun N => by
    induction N using Finset.induction_on with
    | empty => simp
    | insert a s ha ih => rw [sum_insert ha, sum_insert ha, EReal.coe_add, ih]
  exact this _

/-- Two parts and a padding. -/
def cat (a : Fin 64 → ℝ) (b : Fin 32 → ℝ) (d : Fin 128) : ℝ :=
  if h1 : d.val < 64 then a ⟨d.val, h1⟩ else if h2 : d.val - 64 < 32 then b ⟨d.val - 64, h2⟩ else 0

theorem cat_coe (a : Fin 64 → ℝ) (b : Fin 32 → ℝ) (d : Fin 128) :
    (if h1 : d.val < 64 then (a ⟨d.val, h1⟩ : EReal) else if h2 : d.val - 64 < 32 then (b ⟨d.val - 64, h2⟩ : EReal) else 0)
      = (cat a b d : EReal) := by
  unfold cat
  split
  · rfl
  · split
    · rfl
    · rfl

theorem cat_sum (a a' : Fin 64 → ℝ) (b b' : Fin 32 → ℝ) (S L : ℝ) :
    ∑ d : Fin 128, cat a b d * (cat a' b' d * S * L) = ((∑ c, a' c * a c) + ∑ c, b c * b' c) * S * L := by
  rw [sum128]
  have h1 : ∀ c : Fin 64, ∀ (a : Fin 64 → ℝ) (b : Fin 32 → ℝ), cat a b ⟨c.val, by omega⟩ = a c := fun c a b => by
    unfold cat; rw [dif_pos c.isLt]
  have h2 : ∀ c : Fin 32, ∀ (a : Fin 64 → ℝ) (b : Fin 32 → ℝ), cat a b ⟨64 + c.val, by omega⟩ = b c := fun c a b => by
    unfold cat
    rw [dif_neg (by show ¬ 64 + c.val < 64; omega), dif_pos (by show 64 + c.val - 64 < 32; omega)]
    exact congrArg b (Fin.ext (by show 64 + c.val - 64 = c.val; omega))
  have h3 : ∀ c : Fin 32, ∀ (a : Fin 64 → ℝ) (b : Fin 32 → ℝ), cat a b ⟨96 + c.val, by omega⟩ = 0 := fun c a b => by
    unfold cat
    rw [dif_neg (by show ¬ 96 + c.val < 64; omega), dif_neg (by show ¬ 96 + c.val - 64 < 32; omega)]
  simp only [h1, h2, h3, zero_mul, sum_const_zero, add_zero]
  rw [mul_assoc, add_mul, sum_mul, sum_mul]
  refine congrArg₂ _ (sum_congr rfl fun c _ => by ring) (sum_congr rfl fun c _ => by ring)

theorem two_rpow (σ : ℝ) : (2 : ℝ) ^ (σ * (Real.log 2)⁻¹) = Real.exp σ := by
  rw [Real.rpow_def_of_pos (by norm_num)]
  congr 1
  have : Real.log 2 ≠ 0 := (Real.log_pos (by norm_num)).ne'
  field_simp

end Cert.Mla

end
-- ==== Proof.KValue.lean ====
/-
  The kernel's result, of real queries and keys: the softmax average of the values.
-/
module

public import proofs.«01_k».proof.Proof.HostK
public import proofs.«01_k».proof.Proof.Tile
public import proofs.«01_k».proof.Proof.Weights
public import Idealize.ShloMosaic.Lib.Pipeline.ValueKit

@[expose] public section

set_option maxRecDepth 16384

noncomputable section

namespace Cert.KernelIdeal.HostRead

open Idealize.ShloMosaic Idealize.ShloMosaic.TcCoe Cert.Soft Cert.Mla Finset
open Cert.KernelIdeal Cert.KernelIdeal.Gen Cert.KernelIdeal.Pure
open Idealize.ShloMosaic.Pipeline (Dat)

/-! ### Where the blocks lie -/

theorem index_0 : ∀ t : Fin cfg0.N, win0_0.index t = ![((grid0.coords t) 0).val, 0, ((grid0.coords t) 1).val, 0] :=
  (by decide +kernel : ∀ t : Fin grid0.N, _)

theorem index_1 : ∀ t : Fin cfg0.N, win0_1.index t = ![((grid0.coords t) 0).val, 0, 0, 0] :=
  (by decide +kernel : ∀ t : Fin grid0.N, _)

theorem index_2 : ∀ t : Fin cfg0.N, win0_2.index t = ![((grid0.coords t) 0).val, 0, 0, 0, 0] :=
  (by decide +kernel : ∀ t : Fin grid0.N, _)

theorem index_3 : ∀ t : Fin cfg0.N, win0_3.index t = ![32 * ((grid0.coords t) 0).val + ((grid0.coords t) 1).val, 0] :=
  (by decide +kernel : ∀ t : Fin grid0.N, _)

variable (m : (ℓ : Loc nD τ sig) → Buf (Elt Ideal) ℓ) (c : Dev nD)

/-- A grid point's batch entry and query tile. -/
def bOf (t : Fin cfg0.N) : Fin 4 := ⟨((grid0.coords t) 0).val, ((grid0.coords t) 0).isLt⟩
def jOf (t : Fin cfg0.N) : Fin 32 := ⟨((grid0.coords t) 1).val, ((grid0.coords t) 1).isLt⟩

theorem q_at (t : Fin cfg0.N) (h : Fin 8) (r : Fin 256) (d : Fin 128) :
    (insAt m c t).q (ix4 0 h r d) = (V m c main_v11 : Vec Ideal S4x8x8192x128 .bf16)
      (ix4 (bOf t) h ⟨256 * (jOf t).val + r.val, by have := (jOf t).isLt; omega⟩ d) := by
  show iblk m c 0 t (ix4 0 h r d) = _
  blk_simp [iblk, index_0]
  refine congrArg _ (funext fun a => Fin.ext ?_)
  fin_cases a <;> blk_simp [index_0] <;> simp [ix4, bOf, jOf] <;> omega

theorem k_at (t : Fin cfg0.N) (h : Fin 8) (s : Fin 8192) (d : Fin 128) :
    (insAt m c t).k (ix4 0 h s d) = (V m c main_v13 : Vec Ideal S4x8x8192x128 .bf16) (ix4 (bOf t) h s d) := by
  show iblk m c 1 t (ix4 0 h s d) = _
  blk_simp [iblk, index_1]
  refine congrArg _ (funext fun a => Fin.ext ?_)
  fin_cases a <;> blk_simp [index_1] <;> simp [ix4, bOf]

theorem v_at (t : Fin cfg0.N) (p : Fin 4) (i : Fin 32) (l : Fin 128) (r : Fin 256) :
    (insAt m c t).v (ix5 0 p i l r) = (V m c main_v16 : Vec Ideal S4x4x32x128x256 .bf16) (ix5 (bOf t) p i l r) := by
  show iblk m c 2 t (ix5 0 p i l r) = _
  blk_simp [iblk, index_2]
  refine congrArg _ (funext fun a => Fin.ext ?_)
  fin_cases a <;> blk_simp [index_2] <;> simp [ix5, bOf]

/-! ### The scores and the values of a grid point -/

variable (X : Reals) (S : ℝ) (hS : Ideal.ofBits .f32 0x3DD105EC#32 = (S : EReal))
  (h0 : ∀ b s h d, (m ((c : Thread nD τ).loc main_arg0) : FVec Ideal S4x8192x8x64 .f32) (ix4 b s h d) = (X.qn b s h d : EReal))
  (h1 : ∀ b s h d, (m ((c : Thread nD τ).loc main_arg1) : FVec Ideal S4x8192x8x32 .f32) (ix4 b s h d) = (X.qr b s h d : EReal))
  (h2 : ∀ b s h d, (m ((c : Thread nD τ).loc main_arg2) : FVec Ideal S4x8192x8x64 .f32) (ix4 b s h d) = (X.kn b s h d : EReal))
  (h3 : ∀ b s d, (m ((c : Thread nD τ).loc main_arg3) : FVec Ideal S4x8192x32 .f32) (ix3 b s d) = (X.kr b s d : EReal))

/-- Query `r` of tile `j`. -/
def qpos (j : Fin 32) (r : Fin 256) : Fin 8192 := ⟨256 * j.val + r.val, by omega⟩

include hS h0 h1 h2 h3 in
theorem tI_real (t : Fin cfg0.N) (h : Fin 8) (r : Fin 256) (k : ℕ) :
    tI (insAt m c t) h r k = ((score X S (bOf t) h (qpos (jOf t) r) k * (Real.log 2)⁻¹ : ℝ) : EReal) := by
  have hL : Real.log 2 ≠ 0 := (Real.log_pos (by norm_num)).ne'
  unfold tI score
  rw [← cat_sum, coe_sum_fin]
  refine sum_congr rfl fun d _ => ?_
  rw [k_at, q_at, V_q, V_k, heads_at, heads_at, qScaled_at, beside_at, beside_at]
  simp only [krCopies_at, h0, h1, h2, h3]
  rw [cat_coe (fun d => X.qn (bOf t) _ h d) (fun d => X.qr (bOf t) _ h d), hS, log_two, div_real hL,
    cat_coe (fun d => X.kn (bOf t) _ h d) (fun d => X.kr (bOf t) _ d), ← EReal.coe_mul, ← EReal.coe_mul, ← EReal.coe_mul]
  rfl

include hS h0 h1 h2 h3 in
theorem score_real (t : Fin cfg0.N) (h : Fin 8) (r : Fin 256) (k : ℕ) :
    Score (tD (insAt m c t) h (jOf t).val r k) (wt X S (bOf t) h (qpos (jOf t) r) k) := by
  unfold tD wt
  rw [show (qpos (jOf t) r).val = 256 * (jOf t).val + r.val from rfl]
  by_cases hk : k / 64 ≤ (256 * (jOf t).val + r.val) / 64
  · rw [if_pos hk, if_pos hk]
    refine Or.inr ⟨_, tI_real m c X S hS h0 h1 h2 h3 t h r k, ?_⟩
    rw [two_rpow]
  · rw [if_neg hk, if_neg hk]
    exact Or.inl ⟨rfl, rfl⟩

theorem vI_real (t : Fin cfg0.N) (h : Fin 8) (d : Fin 64) (k : ℕ) :
    vI (insAt m c t) h d.val k
      = (m ((c : Thread nD τ).loc main_arg4) : FVec Ideal S4x8192x8x64 .f32) (ix4 (bOf t) (pos k) h d) := by
  unfold vI
  rw [dif_pos d.isLt, v_at, V_v, tiles_at]
  refine congrArg _ (funext fun a => Fin.ext ?_)
  fin_cases a
  · rfl
  · show k / 256 % 32 * 256 + k % 256 = k % 8192
    omega
  · show h.val / 2 * 2 + (64 * (h.val % 2) + d.val) / 64 = h.val
    omega
  · show (64 * (h.val % 2) + d.val) % 64 = d.val
    omega

include hS h0 h1 h2 h3 in
/-- A head's quotients at a grid point. -/
theorem quot_real (t : Fin cfg0.N) (h : Fin 8) (r : Fin 256) (d : Fin 64) :
    quotT (endT (insAt m c t) h (jOf t).val).2 (ix2 d r)
      = att X S (fun b s h d => (m ((c : Thread nD τ).loc main_arg4) : FVec Ideal S4x8192x8x64 .f32) (ix4 b s h d))
          (bOf t) h (qpos (jOf t) r) d := by
  rw [quot_end (insAt m c t) h (jOf t).val r _ (jOf t).isLt (score_real m c X S hS h0 h1 h2 h3 t h r)]
  · unfold att
    refine congrArg _ (funext fun k => ?_)
    exact vI_real m c t h d k
  · unfold tD
    rw [if_pos (by omega), tI_real m c X S hS h0 h1 h2 h3]
    exact EReal.coe_ne_bot _

/-- The whole result. -/
def result : FVec Ideal S32768x512 .bf16 := fun i =>
  att X S (fun b s h d => (m ((c : Thread nD τ).loc main_arg4) : FVec Ideal S4x8192x8x64 .f32) (ix4 b s h d))
    ⟨(i 0).val / 8192, by have h : (i 0).val < 32768 := (i 0).isLt; omega⟩
    ⟨(i 1).val / 64, by have h : (i 1).val < 512 := (i 1).isLt; omega⟩
    ⟨(i 0).val % 8192, by omega⟩ ⟨(i 1).val % 64, by omega⟩

include hS h0 h1 h2 h3 in
theorem outBlk_real (t : Fin cfg0.N) (r : Fin 256) (l : Fin 512) :
    outBlk (insAt m c t) (jOf t).val (ix2 r l)
      = att X S (fun b s h d => (m ((c : Thread nD τ).loc main_arg4) : FVec Ideal S4x8192x8x64 .f32) (ix4 b s h d))
          (bOf t) ⟨l.val / 64, by omega⟩ (qpos (jOf t) r) ⟨l.val % 64, by omega⟩ := by
  show outT (insAt m c t) (jOf t).val ⟨l.val / 128, by omega⟩ _ = _
  unfold outT
  refine (congrArg (outOf _ _) (?_ : _ = ix2 r (⟨l.val % 128, by omega⟩ : Fin 128))).trans ?_
  rotate_left
  · rw [outOf_at]
    split
    · rename_i hl
      rw [quot_real m c X S hS h0 h1 h2 h3]
      refine congrArg₂ (fun h d => att X S _ (bOf t) h (qpos (jOf t) r) d) (Fin.ext ?_) (Fin.ext ?_)
      · show 2 * (l.val / 128) = l.val / 64
        have : l.val % 128 < 64 := hl
        omega
      · show l.val % 128 = l.val % 64
        have : l.val % 128 < 64 := hl
        omega
    · rename_i hl
      rw [quot_real m c X S hS h0 h1 h2 h3]
      refine congrArg₂ (fun h d => att X S _ (bOf t) h (qpos (jOf t) r) d) (Fin.ext ?_) (Fin.ext ?_)
      · show 2 * (l.val / 128) + 1 = l.val / 64
        have : ¬ l.val % 128 < 64 := hl
        omega
      · show l.val % 128 - 64 = l.val % 64
        have : ¬ l.val % 128 < 64 := hl
        omega
  · funext a
    fin_cases a <;> rfl

include hS h0 h1 h2 h3 in
theorem final_value : (dats m 0 c).arrAt 3 cfg0.N = result m c X S := by
  refine (dats m 0 c).arrAt_eq_of_covers 3 _ (by decide +kernel) fun t hf y => ?_
  blk_simp
  show outBlk (insAt m c t) (jOf t).val y = _
  obtain ⟨r, l, rfl⟩ : ∃ (r : Fin 256) (l : Fin 512), y = ix2 r l := ⟨y 0, y 1, by funext a; fin_cases a <;> rfl⟩
  rw [outBlk_real m c X S hS h0 h1 h2 h3]
  have e0 : (((cfg0.win 3).blk t).view.emb (ix2 r l) 0).val = (32 * (bOf t).val + (jOf t).val) * 256 + r.val := by
    blk_simp [index_3]
    rfl
  have e1 : (((cfg0.win 3).blk t).view.emb (ix2 r l) 1).val = l.val := by
    blk_simp [index_3]
  have hj := (jOf t).isLt
  unfold result
  have a0 : ∀ x : Fin 32768, x.val = (32 * (bOf t).val + (jOf t).val) * 256 + r.val →
      bOf t = ⟨x.val / 8192, by omega⟩ ∧ qpos (jOf t) r = ⟨x.val % 8192, by omega⟩ := fun x hx =>
    ⟨Fin.ext (by show _ = x.val / 8192; omega), Fin.ext (by show 256 * (jOf t).val + r.val = x.val % 8192; omega)⟩
  have a1 : ∀ x : Fin 512, x.val = l.val →
      (⟨l.val / 64, by omega⟩ : Fin 8) = ⟨x.val / 64, by omega⟩ ∧ (⟨l.val % 64, by omega⟩ : Fin 64) = ⟨x.val % 64, by omega⟩ := fun x hx =>
    ⟨Fin.ext (by show l.val / 64 = x.val / 64; omega), Fin.ext (by show l.val % 64 = x.val % 64; omega)⟩
  rw [(a0 _ e0).1, (a0 _ e0).2, (a1 _ e1).1, (a1 _ e1).2]

end Cert.KernelIdeal.HostRead

end
-- ==== Proof.Ref.lean ====
/-
  The reference read at an entry, on the extended reals.
-/
module

public import proofs.«01_k».proof.Proof.Gen.ReferenceIdeal.Run
public import proofs.«01_k».proof.Proof.Soft
public import Idealize.ShloMosaic.Lib.Pointwise

@[expose] public section

set_option maxRecDepth 16384

noncomputable section

namespace Cert.ReferenceIdeal.Read

open Idealize.ShloMosaic Idealize.ShloMosaic.TcCoe Cert.Soft Finset
open Cert.ReferenceIdeal Cert.ReferenceIdeal.Gen

/-- Each key's chunk. -/
def keyChunk : IVec S1x8192 32 :=
  select (andi (cmpi .ne (signi (broadcastInDim S1x8192 ![1] bcast_S8192_S1x8192_1 (iotaInDim S8192 32 0))) (broadcastInDim S1x8192 ![] bcast_S_S1x8192 (signi (id (constantI S_ 32 64#32))))) (cmpi .ne (Host.remsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 64#32))))

/-- Each query's chunk. -/
def queryChunk : IVec S8192x1 32 :=
  select (andi (cmpi .ne (signi (broadcastInDim S8192x1 ![0] bcast_S8192_S8192x1_0 (iotaInDim S8192 32 0))) (broadcastInDim S8192x1 ![] bcast_S_S8192x1 (signi (id (constantI S_ 32 64#32))))) (cmpi .ne (Host.remsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 0#32)))) (subi (Host.divsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 1#32))) (Host.divsi (broadcastInDim S8192x1 ![0] bcast_S8192_S8192x1_0 (iotaInDim S8192 32 0)) (broadcastInDim S8192x1 ![] bcast_S_S8192x1 (id (constantI S_ 32 64#32))))

/-- Queries by keys: the key's chunk is not after the query's. -/
def mask : IVec S8192x8192 1 :=
  cmpi .sle (broadcastInDim S8192x8192 ![0, 1] bcast_S1x8192_S8192x8192_0_1 keyChunk)
    (broadcastInDim S8192x8192 ![0, 1] bcast_S8192x1_S8192x8192_0_1 queryChunk)

variable {F : FTy → Type} [FloatOps F]

/-- The masked scores. -/
def scores (qn : FVec F S4x8192x8x64 .f32) (qr : FVec F S4x8192x8x32 .f32) (kn : FVec F S4x8192x8x64 .f32)
    (kr : FVec F S4x8192x32 .f32) : FVec F S4x8x8192x8192 .f32 :=
  select (broadcastInDim S4x8x8192x8192 ![2, 3] bcast_S8192x8192_S4x8x8192x8192_2_3 mask) (mulf (addf (Host.dotGeneral dot_S4x8192x8x64_S4x8192x8x64_S4x8x8192x8192_3_3_1_1_02_02 none qn kn) (transpose S4x8x8192x8192 [0, 3, 2, 1] (Host.dotGeneral dot_S4x8192x32_S4x8192x8x32_S4x8192x8192x8_2_3_1_12_0_0 none kr qr) transposes_S4x8192x8192x8_S4x8x8192x8192_0_3_2_1)) (broadcastInDim S4x8x8192x8192 ![] bcast_S_S4x8x8192x8192 (constant S_ .f32 0x3DD105EC#32))) (broadcastInDim S4x8x8192x8192 ![] bcast_S_S4x8x8192x8192 (id (constant S_ .f32 0xFF800000#32)))

/-- The greatest score of each row. -/
def tops (s : FVec F S4x8x8192x8192 .f32) : FVec F S4x8x8192 .f32 :=
  Host.reduce FloatOps.maximumf s (constant S_ .f32 0xFF800000#32) reducesTo_S4x8x8192x8192_S4x8x8192_d3 h_S_

/-- Each score's exponential, the row's greatest taken off. -/
def exps (s : FVec F S4x8x8192x8192 .f32) (t : FVec F S4x8x8192 .f32) : FVec F S4x8x8192x8192 .f32 :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) t))))

/-- The probabilities. -/
def probs (x : FVec F S4x8x8192x8192 .f32) : FVec F S4x8x8192x8192 .f32 :=
  Host.divf x (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd x (constant S_ .f32 0x00000000#32) reducesTo_S4x8x8192x8192_S4x8x8192_d3 h_S_)))

/-- The attention's output. -/
def out (v : FVec F S4x8192x8x64 .f32) (p : FVec F S4x8x8192x8192 .f32) : FVec F S32768x512 .bf16 :=
  truncf .bf16 (shapeCast S32768x512 (transpose S4x8192x8x64 [0, 3, 1, 2] (Host.dotGeneral dot_S4x8192x8x64_S4x8x8192x8192_S4x8x64x8192_1_3_3_2_02_01 none v p) transposes_S4x8x64x8192_S4x8192x8x64_0_3_1_2) shapeCasts_S4x8192x8x64_S32768x512) bitsLt_bf16_f32

theorem res_eq (m : (ℓ : Loc nD τ sig) → Buf (Elt F) ℓ) (c : Dev nD) :
    Value.res_main_v29 m c = out (F := F) (m ((c.tc : Thread nD τ).loc main_arg4))
      (let s := scores (m ((c.tc : Thread nD τ).loc main_arg0)) (m ((c.tc : Thread nD τ).loc main_arg1))
        (m ((c.tc : Thread nD τ).loc main_arg2)) (m ((c.tc : Thread nD τ).loc main_arg3))
       probs (exps s (tops s))) := by
  rfl

theorem neg_inf : Ideal.ofBits .f32 0xFF800000#32 = ⊥ := by simp [Ideal.ofBits, Ideal.ieee]

/-- A position's chunk, as a word. -/
def chunkW (n : ℕ) : BitVec 32 :=
  Scalar.select
    (IntOp.andi
      (IntOp.cmpi CmpIPredicate.ne
        (if BitVec.ofNat 32 n = 0 then (0 : BitVec 32) else if (BitVec.ofNat 32 n).msb = true then -1 else 1)
        (if 64#32 = 0 then (0 : BitVec 32) else if (64#32).msb = true then -1 else 1))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

theorem chunkW_eq : ∀ x : Fin 8192, chunkW x.val = BitVec.ofNat 32 (x.val / 64) := by decide +kernel

theorem keyChunk_at (k : Fin 8192) : keyChunk (ix2 0 k) = BitVec.ofNat 32 (k.val / 64) := by
  pointwise [keyChunk]
  exact chunkW_eq k

theorem queryChunk_at (k : Fin 8192) : queryChunk (ix2 k 0) = BitVec.ofNat 32 (k.val / 64) := by
  pointwise [queryChunk]
  exact chunkW_eq k

theorem sle_nat (a b : ℕ) (ha : a < 2 ^ 31) (hb : b < 2 ^ 31) :
    IntOp.cmpi .sle (BitVec.ofNat 32 a) (BitVec.ofNat 32 b) = BitVec.ofBool (decide (a ≤ b)) := by
  have h1 : (BitVec.ofNat 32 a).toInt = a := by
    have e : (BitVec.ofNat 32 a).toNat = a := by rw [BitVec.toNat_ofNat]; omega
    rw [BitVec.toInt_eq_toNat_cond, e]; split <;> omega
  have h2 : (BitVec.ofNat 32 b).toInt = b := by
    have e : (BitVec.ofNat 32 b).toNat = b := by rw [BitVec.toNat_ofNat]; omega
    rw [BitVec.toInt_eq_toNat_cond, e]; split <;> omega
  show BitVec.ofBool (BitVec.sle _ _) = _
  rw [BitVec.sle, h1, h2]
  simp

theorem mask_at (s k : Fin 8192) : mask (ix2 s k) = BitVec.ofBool (decide (k.val / 64 ≤ s.val / 64)) := by
  pointwise [mask, keyChunk_at, queryChunk_at]
  exact sle_nat _ _ (by omega) (by omega)

theorem scores_at (qn : FVec Ideal S4x8192x8x64 .f32) (qr : FVec Ideal S4x8192x8x32 .f32) (kn : FVec Ideal S4x8192x8x64 .f32)
    (kr : FVec Ideal S4x8192x32 .f32) (b : Fin 4) (h : Fin 8) (s k : Fin 8192) :
    scores qn qr kn kr (ix4 b h s k) = if k.val / 64 ≤ s.val / 64 then
      ((∑ c : Fin 64, qn (ix4 b s h c) * kn (ix4 b k h c)) + ∑ c : Fin 32, kr (ix3 b k c) * qr (ix4 b s h c))
        * Ideal.ofBits .f32 0x3DD105EC#32 else ⊥ := by
  pointwise [scores, mask_at]
  refine if_congr Iff.rfl rfl ?_
  exact neg_inf

theorem tops_at (x : FVec Ideal S4x8x8192x8192 .f32) (b : Fin 4) (h : Fin 8) (s : Fin 8192) :
    tops x (ix3 b h s) = Finset.univ.fold max ⊥ fun k' : Fin 8192 => x (ix4 b h s k') := by
  pointwise [tops, neg_inf]

theorem exps_at (x : FVec Ideal S4x8x8192x8192 .f32) (t : FVec Ideal S4x8x8192 .f32) (b : Fin 4) (h : Fin 8) (s k : Fin 8192) :
    exps x t (ix4 b h s k) = Ideal.exp (x (ix4 b h s k) - t (ix3 b h s)) := by
  pointwise [exps, neg_inf]
  rw [max_eq_right bot_le]

theorem probs_at (x : FVec Ideal S4x8x8192x8192 .f32) (b : Fin 4) (h : Fin 8) (s k : Fin 8192) :
    probs x (ix4 b h s k) = Ideal.div (x (ix4 b h s k)) (∑ k' : Fin 8192, x (ix4 b h s k')) := by
  pointwise [probs]

theorem out_at (v : FVec Ideal S4x8192x8x64 .f32) (p : FVec Ideal S4x8x8192x8192 .f32) (R : Fin 32768) (l : Fin 512) :
    out v p (ix2 R l) = ∑ k : Fin 8192, v (ix4 ⟨R.val / 8192, by omega⟩ k ⟨l.val / 64, by omega⟩ ⟨l.val % 64, by omega⟩)
      * p (ix4 ⟨R.val / 8192, by omega⟩ ⟨l.val / 64, by omega⟩ ⟨R.val % 8192, by omega⟩ k) := by
  pointwise [out]

end Cert.ReferenceIdeal.Read

end
-- ==== Proof.RefValue.lean ====
/-
  The reference's result, of real queries and keys: the softmax average of the values.
-/
module

public import proofs.«01_k».proof.Proof.Ref
public import proofs.«01_k».proof.Proof.Weights

@[expose] public section

set_option maxRecDepth 16384

noncomputable section

namespace Cert.ReferenceIdeal.Read

open Idealize.ShloMosaic Cert.Soft Cert.Mla Finset
open Cert.ReferenceIdeal Cert.ReferenceIdeal.Gen

theorem fold_sup (f : ℕ → EReal) (n : ℕ) :
    (Finset.univ.fold max ⊥ fun x : Fin n => f x.val) = (range n).sup f := by
  show Finset.univ.sup (fun x : Fin n => f x.val) = _
  apply le_antisymm
  · exact Finset.sup_le fun x _ => le_sup (f := f) (mem_range.mpr x.isLt)
  · exact Finset.sup_le fun x hx => le_sup (f := fun x : Fin n => f x.val) (mem_univ ⟨x, mem_range.mp hx⟩)

theorem pos_val (k : Fin 8192) : pos k.val = k := Fin.ext (Nat.mod_eq_of_lt k.isLt)

/-- The scores, of real queries and keys. -/
theorem scores_real (X : Reals) (S : ℝ) (hS : Ideal.ofBits .f32 0x3DD105EC#32 = (S : EReal))
    (qn : FVec Ideal S4x8192x8x64 .f32) (qr : FVec Ideal S4x8192x8x32 .f32) (kn : FVec Ideal S4x8192x8x64 .f32)
    (kr : FVec Ideal S4x8192x32 .f32)
    (h0 : ∀ b s h c, qn (ix4 b s h c) = (X.qn b s h c : EReal)) (h1 : ∀ b s h c, qr (ix4 b s h c) = (X.qr b s h c : EReal))
    (h2 : ∀ b s h c, kn (ix4 b s h c) = (X.kn b s h c : EReal)) (h3 : ∀ b s c, kr (ix3 b s c) = (X.kr b s c : EReal))
    (b : Fin 4) (h : Fin 8) (s k : Fin 8192) :
    scores qn qr kn kr (ix4 b h s k) = if k.val / 64 ≤ s.val / 64 then (score X S b h s k.val : EReal) else ⊥ := by
  rw [scores_at]
  refine if_congr Iff.rfl ?_ rfl
  unfold score
  rw [hS, pos_val, EReal.coe_mul, EReal.coe_add, coe_sum_fin, coe_sum_fin]
  simp only [h0, h1, h2, h3, EReal.coe_mul]

/-- The softmax of such scores, averaging the values. -/
theorem out_real (X : Reals) (S : ℝ) (v : FVec Ideal S4x8192x8x64 .f32) (x : FVec Ideal S4x8x8192x8192 .f32)
    (hx : ∀ b h s k, x (ix4 b h s k) = if k.val / 64 ≤ s.val / 64 then (score X S b h s k.val : EReal) else ⊥)
    (R : Fin 32768) (l : Fin 512) :
    out v (probs (exps x (tops x))) (ix2 R l)
      = att X S (fun b s h d => v (ix4 b s h d)) ⟨R.val / 8192, by omega⟩ ⟨l.val / 64, by omega⟩ ⟨R.val % 8192, by omega⟩
          ⟨l.val % 64, by omega⟩ := by
  rw [out_at]
  generalize (⟨R.val / 8192, _⟩ : Fin 4) = b
  generalize (⟨l.val / 64, _⟩ : Fin 8) = h
  generalize (⟨R.val % 8192, _⟩ : Fin 8192) = s
  generalize (⟨l.val % 64, _⟩ : Fin 64) = d
  let t : ℕ → EReal := fun k => if k / 64 ≤ s.val / 64 then (score X S b h s k : EReal) else ⊥
  have ht : ∀ k : Fin 8192, x (ix4 b h s k) = t k.val := fun k => hx b h s k
  have he : ∀ k < 8192, (t k = ⊥ ∧ wt X S b h s k = 0) ∨ ∃ σ : ℝ, t k = (σ : EReal) ∧ wt X S b h s k = Real.exp σ := fun k _ => by
    by_cases hk : k / 64 ≤ s.val / 64
    · exact Or.inr ⟨score X S b h s k, if_pos hk, if_pos hk⟩
    · exact Or.inl ⟨if_neg hk, if_neg hk⟩
  have hz : t 0 ≠ ⊥ := by
    show (if 0 / 64 ≤ s.val / 64 then (score X S b h s 0 : EReal) else ⊥) ≠ ⊥
    rw [if_pos (by omega)]
    exact EReal.coe_ne_bot _
  unfold att
  rw [← host_avg t _ 8192 (wt X S b h s) he ⟨0, by norm_num, hz⟩, Finset.sum_range, Finset.sum_range]
  refine sum_congr rfl fun k _ => ?_
  rw [probs_at, exps_at, tops_at]
  simp only [exps_at, tops_at, ht, pos_val, fold_sup t]
  rfl

end Cert.ReferenceIdeal.Read

end
-- ==== Proof.Finite.lean ====
/-
  The precondition: the queries and the keys are finite, so real numbers.
-/
module

public import proofs.«01_k».proof.Defs
public import proofs.«01_k».proof.Proof.Gen.Pre_finite_scores
public import Idealize.ShloMosaic.Lib.ReduceAll
public import Idealize.ShloMosaic.Lib.Pointwise

@[expose] public section

set_option maxRecDepth 16384

noncomputable section

namespace Cert.Pre_finite_scores

open Idealize.ShloMosaic
open Cert.Pre_finite_scores Facts

variable [Facts]

theorem pos_inf : Ideal.ofBits .f32 0x7F800000#32 = ⊤ := by simp [Ideal.ofBits, Ideal.ieee]

theorem real_of_lt {x : EReal} (h : max x (-x) < ⊤) : x = (x.toReal : EReal) := by
  refine (EReal.coe_toReal ?_ ?_).symm
  · rintro rfl
    simp at h
  · rintro rfl
    simp at h

theorem real_of_cmp {x : EReal} (h : FloatOps.cmpf (F := Ideal) (φ := .f32) .olt (FloatOps.hostAbsf (F := Ideal) (φ := .f32) x) (FloatOps.ofBits .f32 0x7F800000#32) = 1#1) :
    x = (x.toReal : EReal) := by
  apply real_of_lt
  have e : BitVec.ofBool (decide (max x (-x) < Ideal.ofBits .f32 0x7F800000#32)) = 1#1 := h
  rw [pos_inf] at e
  by_contra hn
  rw [decide_eq_false hn] at e
  exact absurd e (by decide)

instance : Subsingleton S_.Idx := ⟨fun a b => funext fun i => i.elim0⟩

theorem reals {a0 : FVec Ideal S4x8192x8x64 .f32} {a1 : FVec Ideal S4x8192x8x32 .f32} {a2 : FVec Ideal S4x8192x8x64 .f32}
    {a3 : FVec Ideal S4x8192x32 .f32} {a4 : FVec Ideal S4x8192x8x64 .f32}
    (h : fn (F := Ideal) a0 a1 a2 a3 a4 ix0 = 1#1) :
    (∀ i, a0 i = ((a0 i).toReal : EReal)) ∧ (∀ i, a1 i = ((a1 i).toReal : EReal))
      ∧ (∀ i, a2 i = ((a2 i).toReal : EReal)) ∧ ∀ i, a3 i = ((a3 i).toReal : EReal) := by
  obtain ⟨h, h3⟩ := IntOp.andi_eq_one.1 h
  obtain ⟨h, h2⟩ := IntOp.andi_eq_one.1 h
  obtain ⟨h0, h1⟩ := IntOp.andi_eq_one.1 h
  refine ⟨fun i => ?_, fun i => ?_, fun i => ?_, fun i => ?_⟩
  · exact real_of_cmp (Host.reduce_andi_all _ _ _ _ _ h0 i)
  · exact real_of_cmp (Host.reduce_andi_all _ _ _ _ _ h1 i)
  · exact real_of_cmp (Host.reduce_andi_all _ _ _ _ _ h2 i)
  · exact real_of_cmp (Host.reduce_andi_all _ _ _ _ _ h3 i)

end Cert.Pre_finite_scores

end
-- ==== Proof.KFrame.lean ====
/-
  The printed kernel's run, read off the idealized text's: the two texts are the same program where a named
  constant is read as the literal it stands for.
-/
module

public import proofs.«01_k».proof.Proof.KRun
public import proofs.«01_k».proof.Defs
public import proofs.«01_k».proof.Proof.Gen.Kernel

@[expose] public section

set_option maxRecDepth 16384

noncomputable section

namespace Cert.Proof

open Idealize.ShloMosaic Idealize.SL.Sem

/-- A named constant read as its literal. -/
instance namedBits : Named Bits where
  named _ _ {φ} bits := (FloatOps.ofBits (F := Bits) φ bits : Bits φ)

/-- The frame of the idealized text, read at bit patterns. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frame_bits : FrameBits := fun m g _ => Cert.KernelIdeal.frame_main (F := Bits) m g

theorem same_text : Cert.quiescent_Kernel (hKernel := Cert.Kernel.Gen.facts) = FrameBits := by
  sl_kernel_rfl

theorem quiescent_Kernel : Cert.quiescent_Kernel (hKernel := Cert.Kernel.Gen.facts) :=
  same_text.mpr frame_bits

end Cert.Proof

end
-- ==== Proof.Frames.lean ====
/-
  The three frames and the named constant.
-/
module

public import proofs.«01_k».proof.Proof.KFrame
public import proofs.«01_k».proof.Proof.Gen.ReferenceIdeal.Run
public import Idealize.ShloMosaic.Lib.Claim

@[expose] public section

noncomputable section

namespace Cert.Proof

open Idealize.ShloMosaic Idealize.SL.Sem

/-- The idealized kernel ends with its arguments unchanged and every counter at zero. -/
theorem quiescent_KernelIdeal : Cert.quiescent_KernelIdeal (hKernelIdeal := Cert.KernelIdeal.Gen.facts) :=
  fun m g _ => Cert.KernelIdeal.frame_main (F := Ideal) m g

/-- The reference is host operations only: its run read at the arguments; it declares no counter. -/
theorem quiescent_ReferenceIdeal : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The mask's literal stands for −∞. -/
theorem preserves : Cert.preserves_Kernel_KernelIdeal :=
  IdealRules.named_const.statement Cert.KernelIdeal.κ "mask" .f32 0xF149F2CA#32 ⊥ rfl

end Cert.Proof

end
-- ==== Proof.Algebraic.lean ====
/-
  On the extended reals, with finite queries and keys, the kernel and the reference end with one result.
-/
module

public import proofs.«01_k».proof.Proof.KValue
public import proofs.«01_k».proof.Proof.RefValue
public import proofs.«01_k».proof.Proof.Finite
public import proofs.«01_k».proof.Proof.Frames

@[expose] public section

set_option maxRecDepth 16384

noncomputable section

namespace Cert.Proof

open Idealize.ShloMosaic Idealize.ShloMosaic.TcCoe Idealize.SL.Sem Cert.Mla

/-- The real numbers behind a memory's queries and keys. -/
def realsOf (m : (ℓ : Loc Cert.KernelIdeal.nD Cert.KernelIdeal.τ Cert.KernelIdeal.sig) → Buf (Elt Ideal) ℓ)
    (c : Dev Cert.KernelIdeal.nD) : Reals where
  qn b s h d := ((m ((c.tc : Thread _ Cert.KernelIdeal.τ).loc Cert.KernelIdeal.main_arg0) : FVec Ideal Cert.KernelIdeal.S4x8192x8x64 .f32) (ix4 b s h d) : EReal).toReal
  qr b s h d := ((m ((c.tc : Thread _ Cert.KernelIdeal.τ).loc Cert.KernelIdeal.main_arg1) : FVec Ideal Cert.KernelIdeal.S4x8192x8x32 .f32) (ix4 b s h d) : EReal).toReal
  kn b s h d := ((m ((c.tc : Thread _ Cert.KernelIdeal.τ).loc Cert.KernelIdeal.main_arg2) : FVec Ideal Cert.KernelIdeal.S4x8192x8x64 .f32) (ix4 b s h d) : EReal).toReal
  kr b s d := ((m ((c.tc : Thread _ Cert.KernelIdeal.τ).loc Cert.KernelIdeal.main_arg3) : FVec Ideal Cert.KernelIdeal.S4x8192x32 .f32) (ix3 b s d) : EReal).toReal

/-- The literal both programs scale the scores by. -/
def scale : ℝ := scale_real.choose

theorem scale_eq : Ideal.ofBits .f32 0x3DD105EC#32 = (scale : EReal) := scale_real.choose_spec

theorem quiescent_KernelIdeal_pre : Cert.quiescent_KernelIdeal_pre_finite_scores (hKernelIdeal := Cert.KernelIdeal.Gen.facts)
    (hPre_finite_scores := Cert.Pre_finite_scores.Gen.facts) :=
  fun m g _ => Cert.KernelIdeal.frame_main (F := Ideal) m g

theorem quiescent_ReferenceIdeal_pre : Cert.quiescent_ReferenceIdeal_pre_finite_scores (hReferenceIdeal := Cert.ReferenceIdeal.Gen.facts)
    (hPre_finite_scores := Cert.Pre_finite_scores.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hagree
  have hfin := fun c => Cert.Pre_finite_scores.reals (congrFun (hpre c) ix0)
  refine ⟨fun c => Cert.KernelIdeal.HostRead.result m c (realsOf m c) scale, ?_, ?_⟩
  · refine (θ_run Cert.KernelIdeal.defs _ _).mono (fun r h c => ?_) (Cert.KernelIdeal.run_main (F := Ideal) m g)
    obtain ⟨h0, h1, h2, h3⟩ := hfin c
    refine ⟨((h.1 c).1 3).trans (Cert.KernelIdeal.HostRead.final_value m c (realsOf m c) scale scale_eq
        (fun b s h d => h0 (ix4 b s h d)) (fun b s h d => h1 (ix4 b s h d)) (fun b s h d => h2 (ix4 b s h d))
        (fun b s d => h3 (ix3 b s d))), ?_⟩
    exact
      ⟨((h.1 c).2 Cert.KernelIdeal.main_arg0 (Pipeline.mem_restRefs_of _ (by decide) (by decide))).trans (Cert.KernelIdeal.Gen.V_main_arg0 m c),
        ((h.1 c).2 Cert.KernelIdeal.main_arg1 (Pipeline.mem_restRefs_of _ (by decide) (by decide))).trans (Cert.KernelIdeal.Gen.V_main_arg1 m c),
        ((h.1 c).2 Cert.KernelIdeal.main_arg2 (Pipeline.mem_restRefs_of _ (by decide) (by decide))).trans (Cert.KernelIdeal.Gen.V_main_arg2 m c),
        ((h.1 c).2 Cert.KernelIdeal.main_arg3 (Pipeline.mem_restRefs_of _ (by decide) (by decide))).trans (Cert.KernelIdeal.Gen.V_main_arg3 m c),
        ((h.1 c).2 Cert.KernelIdeal.main_arg4 (Pipeline.mem_restRefs_of _ (by decide) (by decide))).trans (Cert.KernelIdeal.Gen.V_main_arg4 m c)⟩
  · refine (θ_run Cert.ReferenceIdeal.defs _ _).mono (fun _ h c => ⟨(h c).1.trans ?_, (h c).2⟩)
      (Cert.ReferenceIdeal.Value.run (F := Ideal) m' g')
    obtain ⟨h0, h1, h2, h3⟩ := hfin c
    obtain ⟨e0, e1, e2, e3, e4⟩ := hagree c
    rw [Cert.ReferenceIdeal.Read.res_eq, e0, e1, e2, e3, e4]
    funext i
    obtain ⟨R, l, rfl⟩ : ∃ (R : Fin 32768) (l : Fin 512), i = ix2 R l := ⟨i 0, i 1, by funext a; fin_cases a <;> rfl⟩
    exact Cert.ReferenceIdeal.Read.out_real (realsOf m c) scale _ _
      (fun b h s k => Cert.ReferenceIdeal.Read.scores_real (realsOf m c) scale scale_eq _ _ _ _
        (fun b s h d => h0 (ix4 b s h d)) (fun b s h d => h1 (ix4 b s h d)) (fun b s h d => h2 (ix4 b s h d))
        (fun b s d => h3 (ix3 b s d)) b h s k) R l

end Cert.Proof

end
-- ==== Proof.lean ====
/-
  The certificate: the frames of the printed kernels, of their idealizations and of the references, the named constant, and
  the kernels' values.
-/
module

public import proofs.«01_k».proof.Proof.Moe
public import proofs.«01_k».proof.Proof.Out
public import proofs.«01_k».proof.Proof.Gen.Kernel3
public import proofs.«01_k».proof.Proof.Gen.Kernel3Ideal.Frame
public import proofs.«01_k».proof.Proof.Gen.Kernel3Ideal.Value
public import proofs.«01_k».proof.Proof.Gen.Reference3Ideal.Run
public import proofs.«01_k».proof.Defs
public import proofs.«01_k».proof.Proof.Algebraic
public import proofs.«01_k».proof.Proof.Gen.Pre_finite_scores
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_scores.Gen.facts, Cert.Pre_routed_counts.Gen.facts,
  quiescent_Kernel, quiescent_KernelIdeal, quiescent_KernelIdeal_pre, quiescent_ReferenceIdeal, quiescent_ReferenceIdeal_pre,
  quiescent_Kernel2, quiescent_Kernel2Ideal, quiescent_Reference2Ideal, quiescent_Kernel3, quiescent_Kernel3Ideal, quiescent_Reference3Ideal,
  preserves, algebraic, preserves2, algebraic2, preserves3, algebraic3⟩

end Cert.Proof

end
